-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scales_positive [hPre_scales_positive : Cert.Pre_scales_positive.Facts] (m : (ℓ : Loc Cert.AttnIdeal.nD Cert.AttnIdeal.τ Cert.AttnIdeal.sig) → Buf (Elt Ideal) ℓ) : Prop :=
  ∀ c : Dev Cert.AttnIdeal.nD,
    (Cert.Pre_scales_positive.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal [hPre_scales_positive : Cert.Pre_scales_positive.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scales_positive.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_QKQuant (m : (ℓ : Loc Cert.QKQuant.nD Cert.QKQuant.τ Cert.QKQuant.sig) → Buf (Elt Bits) ℓ) : Prop :=
  True

def Pre_QKQuantIdeal (m : (ℓ : Loc Cert.QKQuantIdeal.nD Cert.QKQuantIdeal.τ Cert.QKQuantIdeal.sig) → Buf (Elt Ideal) ℓ) : Prop :=
  True

def Pre_QKQuantRefIdeal (m : (ℓ : Loc Cert.QKQuantRefIdeal.nD Cert.QKQuantRefIdeal.τ Cert.QKQuantRefIdeal.sig) → Buf (Elt Ideal) ℓ) : Prop :=
  True

def Pre_VScale (m : (ℓ : Loc Cert.VScale.nD Cert.VScale.τ Cert.VScale.sig) → Buf (Elt Bits) ℓ) : Prop :=
  True

def Pre_VScaleIdeal (m : (ℓ : Loc Cert.VScaleIdeal.nD Cert.VScaleIdeal.τ Cert.VScaleIdeal.sig) → Buf (Elt Ideal) ℓ) : Prop :=
  True

def Pre_VScaleRefIdeal (m : (ℓ : Loc Cert.VScaleRefIdeal.nD Cert.VScaleRefIdeal.τ Cert.VScaleRefIdeal.sig) → Buf (Elt Ideal) ℓ) : Prop :=
  True

def Pre_VQuant (m : (ℓ : Loc Cert.VQuant.nD Cert.VQuant.τ Cert.VQuant.sig) → Buf (Elt Bits) ℓ) : Prop :=
  True

def Pre_VQuantIdeal (m : (ℓ : Loc Cert.VQuantIdeal.nD Cert.VQuantIdeal.τ Cert.VQuantIdeal.sig) → Buf (Elt Ideal) ℓ) : Prop :=
  True

def Pre_VQuantRefIdeal (m : (ℓ : Loc Cert.VQuantRefIdeal.nD Cert.VQuantRefIdeal.τ Cert.VQuantRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_scales_positive [hAttnIdeal : Cert.AttnIdeal.Facts] [hPre_scales_positive : Cert.Pre_scales_positive.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scales_positive m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] [hPre_scales_positive : Cert.Pre_scales_positive.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_QKQuant [hQKQuant : Cert.QKQuant.Facts] : Prop :=
  ∀ (m : (ℓ : Loc Cert.QKQuant.nD Cert.QKQuant.τ Cert.QKQuant.sig) → Buf (Elt Bits) ℓ) (g : Dev Cert.QKQuant.nD → PrngReg), Pre_QKQuant m →
    θ_run (Cert.QKQuant.defs (F := Bits)) (onTc (τ := Cert.QKQuant.τ) (Cert.QKQuant.main (F := Bits))) ⟨m, fun _ => 0, g⟩ (fun r => (∀ c : Dev Cert.QKQuant.nD,
      r.2.mem ((c.tc : Thread Cert.QKQuant.nD Cert.QKQuant.τ).loc Cert.QKQuant.main_arg0) = m ((c.tc : Thread Cert.QKQuant.nD Cert.QKQuant.τ).loc Cert.QKQuant.main_arg0))
      ∧ r.2.sem = fun _ => 0)

def quiescent_QKQuantIdeal [hQKQuantIdeal : Cert.QKQuantIdeal.Facts] : Prop :=
  ∀ (m : (ℓ : Loc Cert.QKQuantIdeal.nD Cert.QKQuantIdeal.τ Cert.QKQuantIdeal.sig) → Buf (Elt Ideal) ℓ) (g : Dev Cert.QKQuantIdeal.nD → PrngReg), Pre_QKQuantIdeal m →
    θ_run (Cert.QKQuantIdeal.defs (F := Ideal)) (onTc (τ := Cert.QKQuantIdeal.τ) (Cert.QKQuantIdeal.main (F := Ideal))) ⟨m, fun _ => 0, g⟩ (fun r => (∀ c : Dev Cert.QKQuantIdeal.nD,
      r.2.mem ((c.tc : Thread Cert.QKQuantIdeal.nD Cert.QKQuantIdeal.τ).loc Cert.QKQuantIdeal.main_arg0) = m ((c.tc : Thread Cert.QKQuantIdeal.nD Cert.QKQuantIdeal.τ).loc Cert.QKQuantIdeal.main_arg0))
      ∧ r.2.sem = fun _ => 0)

def quiescent_QKQuantRefIdeal [hQKQuantRefIdeal : Cert.QKQuantRefIdeal.Facts] : Prop :=
  ∀ (m : (ℓ : Loc Cert.QKQuantRefIdeal.nD Cert.QKQuantRefIdeal.τ Cert.QKQuantRefIdeal.sig) → Buf (Elt Ideal) ℓ) (g : Dev Cert.QKQuantRefIdeal.nD → PrngReg), Pre_QKQuantRefIdeal m →
    θ_run (Cert.QKQuantRefIdeal.defs (F := Ideal)) (onTc (τ := Cert.QKQuantRefIdeal.τ) (Cert.QKQuantRefIdeal.main (F := Ideal))) ⟨m, fun _ => 0, g⟩ (fun r => (∀ c : Dev Cert.QKQuantRefIdeal.nD,
      r.2.mem ((c.tc : Thread Cert.QKQuantRefIdeal.nD Cert.QKQuantRefIdeal.τ).loc Cert.QKQuantRefIdeal.main_arg0) = m ((c.tc : Thread Cert.QKQuantRefIdeal.nD Cert.QKQuantRefIdeal.τ).loc Cert.QKQuantRefIdeal.main_arg0))
      ∧ r.2.sem = fun _ => 0)

def quiescent_VScale [hVScale : Cert.VScale.Facts] : Prop :=
  ∀ (m : (ℓ : Loc Cert.VScale.nD Cert.VScale.τ Cert.VScale.sig) → Buf (Elt Bits) ℓ) (g : Dev Cert.VScale.nD → PrngReg), Pre_VScale m →
    θ_run (Cert.VScale.defs (F := Bits)) (onTc (τ := Cert.VScale.τ) (Cert.VScale.main (F := Bits))) ⟨m, fun _ => 0, g⟩ (fun r => (∀ c : Dev Cert.VScale.nD,
      r.2.mem ((c.tc : Thread Cert.VScale.nD Cert.VScale.τ).loc Cert.VScale.main_arg0) = m ((c.tc : Thread Cert.VScale.nD Cert.VScale.τ).loc Cert.VScale.main_arg0))
      ∧ r.2.sem = fun _ => 0)

def quiescent_VScaleIdeal [hVScaleIdeal : Cert.VScaleIdeal.Facts] : Prop :=
  ∀ (m : (ℓ : Loc Cert.VScaleIdeal.nD Cert.VScaleIdeal.τ Cert.VScaleIdeal.sig) → Buf (Elt Ideal) ℓ) (g : Dev Cert.VScaleIdeal.nD → PrngReg), Pre_VScaleIdeal m →
    θ_run (Cert.VScaleIdeal.defs (F := Ideal)) (onTc (τ := Cert.VScaleIdeal.τ) (Cert.VScaleIdeal.main (F := Ideal))) ⟨m, fun _ => 0, g⟩ (fun r => (∀ c : Dev Cert.VScaleIdeal.nD,
      r.2.mem ((c.tc : Thread Cert.VScaleIdeal.nD Cert.VScaleIdeal.τ).loc Cert.VScaleIdeal.main_arg0) = m ((c.tc : Thread Cert.VScaleIdeal.nD Cert.VScaleIdeal.τ).loc Cert.VScaleIdeal.main_arg0))
      ∧ r.2.sem = fun _ => 0)

def quiescent_VScaleRefIdeal [hVScaleRefIdeal : Cert.VScaleRefIdeal.Facts] : Prop :=
  ∀ (m : (ℓ : Loc Cert.VScaleRefIdeal.nD Cert.VScaleRefIdeal.τ Cert.VScaleRefIdeal.sig) → Buf (Elt Ideal) ℓ) (g : Dev Cert.VScaleRefIdeal.nD → PrngReg), Pre_VScaleRefIdeal m →
    θ_run (Cert.VScaleRefIdeal.defs (F := Ideal)) (onTc (τ := Cert.VScaleRefIdeal.τ) (Cert.VScaleRefIdeal.main (F := Ideal))) ⟨m, fun _ => 0, g⟩ (fun r => (∀ c : Dev Cert.VScaleRefIdeal.nD,
      r.2.mem ((c.tc : Thread Cert.VScaleRefIdeal.nD Cert.VScaleRefIdeal.τ).loc Cert.VScaleRefIdeal.main_arg0) = m ((c.tc : Thread Cert.VScaleRefIdeal.nD Cert.VScaleRefIdeal.τ).loc Cert.VScaleRefIdeal.main_arg0))
      ∧ r.2.sem = fun _ => 0)

def quiescent_VQuant [hVQuant : Cert.VQuant.Facts] : Prop :=
  ∀ (m : (ℓ : Loc Cert.VQuant.nD Cert.VQuant.τ Cert.VQuant.sig) → Buf (Elt Bits) ℓ) (g : Dev Cert.VQuant.nD → PrngReg), Pre_VQuant m →
    θ_run (Cert.VQuant.defs (F := Bits)) (onTc (τ := Cert.VQuant.τ) (Cert.VQuant.main (F := Bits))) ⟨m, fun _ => 0, g⟩ (fun r => (∀ c : Dev Cert.VQuant.nD,
      r.2.mem ((c.tc : Thread Cert.VQuant.nD Cert.VQuant.τ).loc Cert.VQuant.main_arg0) = m ((c.tc : Thread Cert.VQuant.nD Cert.VQuant.τ).loc Cert.VQuant.main_arg0)
      ∧ r.2.mem ((c.tc : Thread Cert.VQuant.nD Cert.VQuant.τ).loc Cert.VQuant.main_arg1) = m ((c.tc : Thread Cert.VQuant.nD Cert.VQuant.τ).loc Cert.VQuant.main_arg1))
      ∧ r.2.sem = fun _ => 0)

def quiescent_VQuantIdeal [hVQuantIdeal : Cert.VQuantIdeal.Facts] : Prop :=
  ∀ (m : (ℓ : Loc Cert.VQuantIdeal.nD Cert.VQuantIdeal.τ Cert.VQuantIdeal.sig) → Buf (Elt Ideal) ℓ) (g : Dev Cert.VQuantIdeal.nD → PrngReg), Pre_VQuantIdeal m →
    θ_run (Cert.VQuantIdeal.defs (F := Ideal)) (onTc (τ := Cert.VQuantIdeal.τ) (Cert.VQuantIdeal.main (F := Ideal))) ⟨m, fun _ => 0, g⟩ (fun r => (∀ c : Dev Cert.VQuantIdeal.nD,
      r.2.mem ((c.tc : Thread Cert.VQuantIdeal.nD Cert.VQuantIdeal.τ).loc Cert.VQuantIdeal.main_arg0) = m ((c.tc : Thread Cert.VQuantIdeal.nD Cert.VQuantIdeal.τ).loc Cert.VQuantIdeal.main_arg0)
      ∧ r.2.mem ((c.tc : Thread Cert.VQuantIdeal.nD Cert.VQuantIdeal.τ).loc Cert.VQuantIdeal.main_arg1) = m ((c.tc : Thread Cert.VQuantIdeal.nD Cert.VQuantIdeal.τ).loc Cert.VQuantIdeal.main_arg1))
      ∧ r.2.sem = fun _ => 0)

def quiescent_VQuantRefIdeal [hVQuantRefIdeal : Cert.VQuantRefIdeal.Facts] : Prop :=
  ∀ (m : (ℓ : Loc Cert.VQuantRefIdeal.nD Cert.VQuantRefIdeal.τ Cert.VQuantRefIdeal.sig) → Buf (Elt Ideal) ℓ) (g : Dev Cert.VQuantRefIdeal.nD → PrngReg), Pre_VQuantRefIdeal m →
    θ_run (Cert.VQuantRefIdeal.defs (F := Ideal)) (onTc (τ := Cert.VQuantRefIdeal.τ) (Cert.VQuantRefIdeal.main (F := Ideal))) ⟨m, fun _ => 0, g⟩ (fun r => (∀ c : Dev Cert.VQuantRefIdeal.nD,
      r.2.mem ((c.tc : Thread Cert.VQuantRefIdeal.nD Cert.VQuantRefIdeal.τ).loc Cert.VQuantRefIdeal.main_arg0) = m ((c.tc : Thread Cert.VQuantRefIdeal.nD Cert.VQuantRefIdeal.τ).loc Cert.VQuantRefIdeal.main_arg0)
      ∧ r.2.mem ((c.tc : Thread Cert.VQuantRefIdeal.nD Cert.VQuantRefIdeal.τ).loc Cert.VQuantRefIdeal.main_arg1) = m ((c.tc : Thread Cert.VQuantRefIdeal.nD Cert.VQuantRefIdeal.τ).loc Cert.VQuantRefIdeal.main_arg1))
      ∧ r.2.sem = fun _ => 0)

def preserves_Attn_AttnIdeal : Prop :=
  IdealRules.named_const.Statement Cert.AttnIdeal.κ "log2e_sm" .f32 0x3DB8AA3B#32 (((Real.log 2)⁻¹ * 16⁻¹ : ℝ) : EReal)
  ∧ IdealRules.named_const.Statement Cert.AttnIdeal.κ "log2e" .f32 0x3FB8AA3B#32 (((Real.log 2)⁻¹ : ℝ) : EReal)

def algebraic_AttnIdeal_AttnRefIdeal_pre_scales_positive [hAttnIdeal : Cert.AttnIdeal.Facts] [hAttnRefIdeal : Cert.AttnRefIdeal.Facts] [hPre_scales_positive : Cert.Pre_scales_positive.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scales_positive m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v6) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_QKQuant_QKQuantIdeal : Prop :=
  True

def algebraic_QKQuantIdeal_QKQuantRefIdeal [hQKQuantIdeal : Cert.QKQuantIdeal.Facts] [hQKQuantRefIdeal : Cert.QKQuantRefIdeal.Facts] : Prop :=
  ∀ (m : (ℓ : Loc Cert.QKQuantIdeal.nD Cert.QKQuantIdeal.τ Cert.QKQuantIdeal.sig) → Buf (Elt Ideal) ℓ) (g : Dev Cert.QKQuantIdeal.nD → PrngReg)
    (m' : (ℓ : Loc Cert.QKQuantRefIdeal.nD Cert.QKQuantRefIdeal.τ Cert.QKQuantRefIdeal.sig) → Buf (Elt Ideal) ℓ) (g' : Dev Cert.QKQuantRefIdeal.nD → PrngReg), Pre_QKQuantIdeal m →
    (∀ c : Dev Cert.QKQuantIdeal.nD,
      m' ((c.tc : Thread Cert.QKQuantRefIdeal.nD Cert.QKQuantRefIdeal.τ).loc Cert.QKQuantRefIdeal.main_arg0) = m ((c.tc : Thread Cert.QKQuantIdeal.nD Cert.QKQuantIdeal.τ).loc Cert.QKQuantIdeal.main_arg0)) →
    ∃ (v0 : (c : Dev Cert.QKQuantIdeal.nD) → Buf (Elt Ideal) ((c.tc : Thread Cert.QKQuantIdeal.nD Cert.QKQuantIdeal.τ).loc Cert.QKQuantIdeal.main_v0_0)) (v1 : (c : Dev Cert.QKQuantIdeal.nD) → Buf (Elt Ideal) ((c.tc : Thread Cert.QKQuantIdeal.nD Cert.QKQuantIdeal.τ).loc Cert.QKQuantIdeal.main_v0_1)) (v2 : (c : Dev Cert.QKQuantIdeal.nD) → Buf (Elt Ideal) ((c.tc : Thread Cert.QKQuantIdeal.nD Cert.QKQuantIdeal.τ).loc Cert.QKQuantIdeal.main_v0_2)),
      θ_run (Cert.QKQuantIdeal.defs (F := Ideal)) (onTc (τ := Cert.QKQuantIdeal.τ) (Cert.QKQuantIdeal.main (F := Ideal))) ⟨m, fun _ => 0, g⟩ (fun r => ∀ c : Dev Cert.QKQuantIdeal.nD,
          r.2.mem ((c.tc : Thread Cert.QKQuantIdeal.nD Cert.QKQuantIdeal.τ).loc Cert.QKQuantIdeal.main_v0_0) = v0 c
          ∧ r.2.mem ((c.tc : Thread Cert.QKQuantIdeal.nD Cert.QKQuantIdeal.τ).loc Cert.QKQuantIdeal.main_v0_1) = v1 c
          ∧ r.2.mem ((c.tc : Thread Cert.QKQuantIdeal.nD Cert.QKQuantIdeal.τ).loc Cert.QKQuantIdeal.main_v0_2) = v2 c
          ∧ r.2.mem ((c.tc : Thread Cert.QKQuantIdeal.nD Cert.QKQuantIdeal.τ).loc Cert.QKQuantIdeal.main_arg0) = m ((c.tc : Thread Cert.QKQuantIdeal.nD Cert.QKQuantIdeal.τ).loc Cert.QKQuantIdeal.main_arg0))
      ∧ θ_run (Cert.QKQuantRefIdeal.defs (F := Ideal)) (onTc (τ := Cert.QKQuantRefIdeal.τ) (Cert.QKQuantRefIdeal.main (F := Ideal))) ⟨m', fun _ => 0, g'⟩ (fun r => ∀ c : Dev Cert.QKQuantRefIdeal.nD,
          r.2.mem ((c.tc : Thread Cert.QKQuantRefIdeal.nD Cert.QKQuantRefIdeal.τ).loc Cert.QKQuantRefIdeal.main_v0_0) = v0 c
          ∧ r.2.mem ((c.tc : Thread Cert.QKQuantRefIdeal.nD Cert.QKQuantRefIdeal.τ).loc Cert.QKQuantRefIdeal.main_v0_1) = v1 c
          ∧ r.2.mem ((c.tc : Thread Cert.QKQuantRefIdeal.nD Cert.QKQuantRefIdeal.τ).loc Cert.QKQuantRefIdeal.main_v0_2) = v2 c
          ∧ r.2.mem ((c.tc : Thread Cert.QKQuantRefIdeal.nD Cert.QKQuantRefIdeal.τ).loc Cert.QKQuantRefIdeal.main_arg0) = m' ((c.tc : Thread Cert.QKQuantRefIdeal.nD Cert.QKQuantRefIdeal.τ).loc Cert.QKQuantRefIdeal.main_arg0))

def preserves_VScale_VScaleIdeal : Prop :=
  True

def algebraic_VScaleIdeal_VScaleRefIdeal [hVScaleIdeal : Cert.VScaleIdeal.Facts] [hVScaleRefIdeal : Cert.VScaleRefIdeal.Facts] : Prop :=
  ∀ (m : (ℓ : Loc Cert.VScaleIdeal.nD Cert.VScaleIdeal.τ Cert.VScaleIdeal.sig) → Buf (Elt Ideal) ℓ) (g : Dev Cert.VScaleIdeal.nD → PrngReg)
    (m' : (ℓ : Loc Cert.VScaleRefIdeal.nD Cert.VScaleRefIdeal.τ Cert.VScaleRefIdeal.sig) → Buf (Elt Ideal) ℓ) (g' : Dev Cert.VScaleRefIdeal.nD → PrngReg), Pre_VScaleIdeal m →
    (∀ c : Dev Cert.VScaleIdeal.nD,
      m' ((c.tc : Thread Cert.VScaleRefIdeal.nD Cert.VScaleRefIdeal.τ).loc Cert.VScaleRefIdeal.main_arg0) = m ((c.tc : Thread Cert.VScaleIdeal.nD Cert.VScaleIdeal.τ).loc Cert.VScaleIdeal.main_arg0)) →
    ∃ (v0 : (c : Dev Cert.VScaleIdeal.nD) → Buf (Elt Ideal) ((c.tc : Thread Cert.VScaleIdeal.nD Cert.VScaleIdeal.τ).loc Cert.VScaleIdeal.main_v0)),
      θ_run (Cert.VScaleIdeal.defs (F := Ideal)) (onTc (τ := Cert.VScaleIdeal.τ) (Cert.VScaleIdeal.main (F := Ideal))) ⟨m, fun _ => 0, g⟩ (fun r => ∀ c : Dev Cert.VScaleIdeal.nD,
          r.2.mem ((c.tc : Thread Cert.VScaleIdeal.nD Cert.VScaleIdeal.τ).loc Cert.VScaleIdeal.main_v0) = v0 c
          ∧ r.2.mem ((c.tc : Thread Cert.VScaleIdeal.nD Cert.VScaleIdeal.τ).loc Cert.VScaleIdeal.main_arg0) = m ((c.tc : Thread Cert.VScaleIdeal.nD Cert.VScaleIdeal.τ).loc Cert.VScaleIdeal.main_arg0))
      ∧ θ_run (Cert.VScaleRefIdeal.defs (F := Ideal)) (onTc (τ := Cert.VScaleRefIdeal.τ) (Cert.VScaleRefIdeal.main (F := Ideal))) ⟨m', fun _ => 0, g'⟩ (fun r => ∀ c : Dev Cert.VScaleRefIdeal.nD,
          r.2.mem ((c.tc : Thread Cert.VScaleRefIdeal.nD Cert.VScaleRefIdeal.τ).loc Cert.VScaleRefIdeal.main_v23) = v0 c
          ∧ r.2.mem ((c.tc : Thread Cert.VScaleRefIdeal.nD Cert.VScaleRefIdeal.τ).loc Cert.VScaleRefIdeal.main_arg0) = m' ((c.tc : Thread Cert.VScaleRefIdeal.nD Cert.VScaleRefIdeal.τ).loc Cert.VScaleRefIdeal.main_arg0))

def preserves_VQuant_VQuantIdeal : Prop :=
  True

def algebraic_VQuantIdeal_VQuantRefIdeal [hVQuantIdeal : Cert.VQuantIdeal.Facts] [hVQuantRefIdeal : Cert.VQuantRefIdeal.Facts] : Prop :=
  ∀ (m : (ℓ : Loc Cert.VQuantIdeal.nD Cert.VQuantIdeal.τ Cert.VQuantIdeal.sig) → Buf (Elt Ideal) ℓ) (g : Dev Cert.VQuantIdeal.nD → PrngReg)
    (m' : (ℓ : Loc Cert.VQuantRefIdeal.nD Cert.VQuantRefIdeal.τ Cert.VQuantRefIdeal.sig) → Buf (Elt Ideal) ℓ) (g' : Dev Cert.VQuantRefIdeal.nD → PrngReg), Pre_VQuantIdeal m →
    (∀ c : Dev Cert.VQuantIdeal.nD,
      m' ((c.tc : Thread Cert.VQuantRefIdeal.nD Cert.VQuantRefIdeal.τ).loc Cert.VQuantRefIdeal.main_arg0) = m ((c.tc : Thread Cert.VQuantIdeal.nD Cert.VQuantIdeal.τ).loc Cert.VQuantIdeal.main_arg0)
      ∧ m' ((c.tc : Thread Cert.VQuantRefIdeal.nD Cert.VQuantRefIdeal.τ).loc Cert.VQuantRefIdeal.main_arg1) = m ((c.tc : Thread Cert.VQuantIdeal.nD Cert.VQuantIdeal.τ).loc Cert.VQuantIdeal.main_arg1)) →
    ∃ (v0 : (c : Dev Cert.VQuantIdeal.nD) → Buf (Elt Ideal) ((c.tc : Thread Cert.VQuantIdeal.nD Cert.VQuantIdeal.τ).loc Cert.VQuantIdeal.main_v0)),
      θ_run (Cert.VQuantIdeal.defs (F := Ideal)) (onTc (τ := Cert.VQuantIdeal.τ) (Cert.VQuantIdeal.main (F := Ideal))) ⟨m, fun _ => 0, g⟩ (fun r => ∀ c : Dev Cert.VQuantIdeal.nD,
          r.2.mem ((c.tc : Thread Cert.VQuantIdeal.nD Cert.VQuantIdeal.τ).loc Cert.VQuantIdeal.main_v0) = v0 c
          ∧ r.2.mem ((c.tc : Thread Cert.VQuantIdeal.nD Cert.VQuantIdeal.τ).loc Cert.VQuantIdeal.main_arg0) = m ((c.tc : Thread Cert.VQuantIdeal.nD Cert.VQuantIdeal.τ).loc Cert.VQuantIdeal.main_arg0)
          ∧ r.2.mem ((c.tc : Thread Cert.VQuantIdeal.nD Cert.VQuantIdeal.τ).loc Cert.VQuantIdeal.main_arg1) = m ((c.tc : Thread Cert.VQuantIdeal.nD Cert.VQuantIdeal.τ).loc Cert.VQuantIdeal.main_arg1))
      ∧ θ_run (Cert.VQuantRefIdeal.defs (F := Ideal)) (onTc (τ := Cert.VQuantRefIdeal.τ) (Cert.VQuantRefIdeal.main (F := Ideal))) ⟨m', fun _ => 0, g'⟩ (fun r => ∀ c : Dev Cert.VQuantRefIdeal.nD,
          r.2.mem ((c.tc : Thread Cert.VQuantRefIdeal.nD Cert.VQuantRefIdeal.τ).loc Cert.VQuantRefIdeal.main_v0) = v0 c
          ∧ r.2.mem ((c.tc : Thread Cert.VQuantRefIdeal.nD Cert.VQuantRefIdeal.τ).loc Cert.VQuantRefIdeal.main_arg0) = m' ((c.tc : Thread Cert.VQuantRefIdeal.nD Cert.VQuantRefIdeal.τ).loc Cert.VQuantRefIdeal.main_arg0)
          ∧ r.2.mem ((c.tc : Thread Cert.VQuantRefIdeal.nD Cert.VQuantRefIdeal.τ).loc Cert.VQuantRefIdeal.main_arg1) = m' ((c.tc : Thread Cert.VQuantRefIdeal.nD Cert.VQuantRefIdeal.τ).loc Cert.VQuantRefIdeal.main_arg1))

def Claim : Prop :=
  ∃ (hAttn : Cert.Attn.Facts) (hAttnIdeal : Cert.AttnIdeal.Facts) (hAttnRefIdeal : Cert.AttnRefIdeal.Facts) (hQKQuant : Cert.QKQuant.Facts) (hQKQuantIdeal : Cert.QKQuantIdeal.Facts) (hQKQuantRefIdeal : Cert.QKQuantRefIdeal.Facts) (hVScale : Cert.VScale.Facts) (hVScaleIdeal : Cert.VScaleIdeal.Facts) (hVScaleRefIdeal : Cert.VScaleRefIdeal.Facts) (hVQuant : Cert.VQuant.Facts) (hVQuantIdeal : Cert.VQuantIdeal.Facts) (hVQuantRefIdeal : Cert.VQuantRefIdeal.Facts) (hPre_scales_positive : Cert.Pre_scales_positive.Facts),
    quiescent_Attn (hAttn := hAttn)
    ∧ quiescent_AttnIdeal (hAttnIdeal := hAttnIdeal)
    ∧ quiescent_AttnIdeal_pre_scales_positive (hAttnIdeal := hAttnIdeal) (hPre_scales_positive := hPre_scales_positive)
    ∧ quiescent_AttnRefIdeal (hAttnRefIdeal := hAttnRefIdeal) (hPre_scales_positive := hPre_scales_positive)
    ∧ quiescent_QKQuant (hQKQuant := hQKQuant)
    ∧ quiescent_QKQuantIdeal (hQKQuantIdeal := hQKQuantIdeal)
    ∧ quiescent_QKQuantRefIdeal (hQKQuantRefIdeal := hQKQuantRefIdeal)
    ∧ quiescent_VScale (hVScale := hVScale)
    ∧ quiescent_VScaleIdeal (hVScaleIdeal := hVScaleIdeal)
    ∧ quiescent_VScaleRefIdeal (hVScaleRefIdeal := hVScaleRefIdeal)
    ∧ quiescent_VQuant (hVQuant := hVQuant)
    ∧ quiescent_VQuantIdeal (hVQuantIdeal := hVQuantIdeal)
    ∧ quiescent_VQuantRefIdeal (hVQuantRefIdeal := hVQuantRefIdeal)
    ∧ preserves_Attn_AttnIdeal
    ∧ algebraic_AttnIdeal_AttnRefIdeal_pre_scales_positive (hAttnIdeal := hAttnIdeal) (hAttnRefIdeal := hAttnRefIdeal) (hPre_scales_positive := hPre_scales_positive)
    ∧ preserves_QKQuant_QKQuantIdeal
    ∧ algebraic_QKQuantIdeal_QKQuantRefIdeal (hQKQuantIdeal := hQKQuantIdeal) (hQKQuantRefIdeal := hQKQuantRefIdeal)
    ∧ preserves_VScale_VScaleIdeal
    ∧ algebraic_VScaleIdeal_VScaleRefIdeal (hVScaleIdeal := hVScaleIdeal) (hVScaleRefIdeal := hVScaleRefIdeal)
    ∧ preserves_VQuant_VQuantIdeal
    ∧ algebraic_VQuantIdeal_VQuantRefIdeal (hVQuantIdeal := hVQuantIdeal) (hVQuantRefIdeal := hVQuantRefIdeal)
-- ==== Pre_scales_positive.lean ====
abbrev S16 : Shape := ⟨1, ![16]⟩
abbrev S8x4096x4096 : Shape := ⟨3, ![8, 4096, 4096]⟩
abbrev S8x16x4096 : Shape := ⟨3, ![8, 16, 4096]⟩
abbrev S8x4096x128 : Shape := ⟨3, ![8, 4096, 128]⟩
abbrev S8x8x4096 : Shape := ⟨3, ![8, 8, 4096]⟩
abbrev S_ : Shape := ⟨0, ![]⟩

class Facts : Prop where
  bcast_S_S8x16x4096 : S_.BroadcastsInDim S8x16x4096 (![] : Fin 0 → Fin S8x16x4096.rank)

variable [Facts]

def fn {F : FTy → Type} [FloatOps F] (main_arg0 : FVec F S16 .f32) (main_arg1 : FVec F S8x4096x4096 .fp8e4m3) (main_arg2 : FVec F S8x16x4096 .f32) (main_arg3 : FVec F S8x4096x4096 .fp8e4m3) (main_arg4 : FVec F S8x4096x128 .f32) (main_arg5 : FVec F S8x4096x4096 .fp8e4m3) (main_arg6 : FVec F S8x8x4096 .f32) : IVec S8x16x4096 1 :=
  let main_cst : FVec F S_ .f32 := constant S_ .f32 0x00000000#32
  let main_v0 : FVec F S8x16x4096 .f32 := broadcastInDim S8x16x4096 ![] bcast_S_S8x16x4096 main_cst
  let main_v1 : IVec S8x16x4096 1 := cmpf .ogt main_arg2 main_v0
  main_v1
-- ==== Attn.lean ====
abbrev S16 : Shape := ⟨1, ![16]⟩
abbrev S8x4096x4096 : Shape := ⟨3, ![8, 4096, 4096]⟩
abbrev S8x16x4096 : Shape := ⟨3, ![8, 16, 4096]⟩
abbrev S8x4096x128 : Shape := ⟨3, ![8, 4096, 128]⟩
abbrev S8x8x4096 : Shape := ⟨3, ![8, 8, 4096]⟩
abbrev S1x512x256 : Shape := ⟨3, ![1, 512, 256]⟩
abbrev S1x16x512 : Shape := ⟨3, ![1, 16, 512]⟩
abbrev S1x4096x256 : Shape := ⟨3, ![1, 4096, 256]⟩
abbrev S1x4096x128 : Shape := ⟨3, ![1, 4096, 128]⟩
abbrev S1x8x256 : Shape := ⟨3, ![1, 8, 256]⟩
abbrev S4096x512 : Shape := ⟨2, ![4096, 512]⟩
abbrev S256x512 : Shape := ⟨2, ![256, 512]⟩
abbrev S512x256 : Shape := ⟨2, ![512, 256]⟩
abbrev S1x1x512 : Shape := ⟨3, ![1, 1, 512]⟩
abbrev S1x512 : Shape := ⟨2, ![1, 512]⟩
abbrev S512x128 : Shape := ⟨2, ![512, 128]⟩
abbrev S8x512 : Shape := ⟨2, ![8, 512]⟩
abbrev S512x512 : Shape := ⟨2, ![512, 512]⟩
abbrev S1x512x128 : Shape := ⟨3, ![1, 512, 128]⟩
abbrev S512x128x1 : Shape := ⟨3, ![512, 128, 1]⟩
abbrev S64x8x512 : Shape := ⟨3, ![64, 8, 512]⟩
abbrev S512 : Shape := ⟨1, ![512]⟩
abbrev S1 : Shape := ⟨1, ![1]⟩
abbrev S1x1x1 : Shape := ⟨3, ![1, 1, 1]⟩
abbrev S1x1 : Shape := ⟨2, ![1, 1]⟩

abbrev nBuf : Space → Nat
  | .hbm => 8
  | .vmem => 16
  | .smem => 1
  | _ => 0

abbrev bufTy : (tb : Table) → Fin (tcTables nBuf tb) → BufTy
  | .hbm, ⟨0, _⟩ => ⟨S16, .f32⟩
  | .hbm, ⟨1, _⟩ => ⟨S8x4096x4096, .fp8e4m3⟩
  | .hbm, ⟨2, _⟩ => ⟨S8x16x4096, .f32⟩
  | .hbm, ⟨3, _⟩ => ⟨S8x4096x4096, .fp8e4m3⟩
  | .hbm, ⟨4, _⟩ => ⟨S8x4096x128, .f32⟩
  | .hbm, ⟨5, _⟩ => ⟨S8x4096x4096, .fp8e4m3⟩
  | .hbm, ⟨6, _⟩ => ⟨S8x8x4096, .f32⟩
  | .hbm, ⟨7, _⟩ => ⟨S8x4096x4096, .bf16⟩
  | .local _ .vmem, ⟨0, _⟩ => ⟨S1x512x256, .fp8e4m3⟩
  | .local _ .vmem, ⟨1, _⟩ => ⟨S1x512x256, .fp8e4m3⟩
  | .local _ .vmem, ⟨2, _⟩ => ⟨S1x16x512, .f32⟩
  | .local _ .vmem, ⟨3, _⟩ => ⟨S1x16x512, .f32⟩
  | .local _ .vmem, ⟨4, _⟩ => ⟨S1x4096x256, .fp8e4m3⟩
  | .local _ .vmem, ⟨5, _⟩ => ⟨S1x4096x256, .fp8e4m3⟩
  | .local _ .vmem, ⟨6, _⟩ => ⟨S1x4096x128, .f32⟩
  | .local _ .vmem, ⟨7, _⟩ => ⟨S1x4096x128, .f32⟩
  | .local _ .vmem, ⟨8, _⟩ => ⟨S1x4096x256, .fp8e4m3⟩
  | .local _ .vmem, ⟨9, _⟩ => ⟨S1x4096x256, .fp8e4m3⟩
  | .local _ .vmem, ⟨10, _⟩ => ⟨S1x8x256, .f32⟩
  | .local _ .vmem, ⟨11, _⟩ => ⟨S1x8x256, .f32⟩
  | .local _ .vmem, ⟨12, _⟩ => ⟨S1x512x256, .bf16⟩
  | .local _ .vmem, ⟨13, _⟩ => ⟨S1x512x256, .bf16⟩
  | .local _ .vmem, ⟨14, _⟩ => ⟨S4096x512, .f32⟩
  | .local _ .vmem, ⟨15, _⟩ => ⟨S256x512, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 16, 8], ![false, false, false]⟩

def k0_off1 (i : grid0.Coords) : Fin 3 → Nat :=
  let c0_2 : Index := 0#32
  let arg1 : BitVec 32 := BitVec.ofNat 32 (i 1).val
  let v2 : Index := Scalar.indexCast arg1
  let c0_3 : Index := 0#32
  ![0, v2.toNat, 0]
@[reducible] def k0_t1_loop (i : grid0.Coords) : Scf.Loop 32 :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_11 : BitVec 32 := 1#32
  let v22 : BitVec 32 := Scalar.addi arg2 c1_i32_11
  let v24 : BitVec 32 := Scalar.subi v22 v20
  let c1_i32_13 : BitVec 32 := 1#32
  let v26 : BitVec 32 := Scalar.divsi v24 c1_i32_13
  let v27 : BitVec 32 := Scalar.muli v26 c1_i32_13
  let v28 : BitVec 32 := Scalar.addi v20 v27
  let c1_i32_14 : BitVec 32 := 1#32
  ⟨v20, v28, c1_i32_14⟩
def k0_mult1 (i : grid0.Coords) (k0_t1 : Fin (k0_t1_loop i).trips) : BitVec 32 :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_14 : BitVec 32 := 1#32
  let arg13 : BitVec 32 := Scf.iv v20 c1_i32_14 k0_t1
  let c512_i32 : BitVec 32 := 512#32
  let v157 : BitVec 32 := Scalar.muli arg13 c512_i32
  v157
def k0_off2 (i : grid0.Coords) (k0_t1 : Fin (k0_t1_loop i).trips) : Fin 3 → Nat :=
  let c0_66 : Index := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_14 : BitVec 32 := 1#32
  let arg13 : BitVec 32 := Scf.iv v20 c1_i32_14 k0_t1
  let c512_i32 : BitVec 32 := 512#32
  let v157 : BitVec 32 := Scalar.muli arg13 c512_i32
  let v158 : BitVec 32 := v157
  let v159 : Index := Scalar.indexCast v158
  let c0_67 : Index := 0#32
  ![0, v159.toNat, 0]
def k0_off3 (i : grid0.Coords) (k0_t1 : Fin (k0_t1_loop i).trips) : Fin 3 → Nat :=
  let c0_69 : Index := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_14 : BitVec 32 := 1#32
  let arg13 : BitVec 32 := Scf.iv v20 c1_i32_14 k0_t1
  let c512_i32 : BitVec 32 := 512#32
  let v157 : BitVec 32 := Scalar.muli arg13 c512_i32
  let v158 : BitVec 32 := v157
  let v163 : Index := Scalar.indexCast v158
  let c0_70 : Index := 0#32
  ![0, v163.toNat, 0]
def k0_off4 (i : grid0.Coords) (k0_t1 : Fin (k0_t1_loop i).trips) : Fin 2 → Nat :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_14 : BitVec 32 := 1#32
  let arg13 : BitVec 32 := Scf.iv v20 c1_i32_14 k0_t1
  let c512_i32 : BitVec 32 := 512#32
  let v157 : BitVec 32 := Scalar.muli arg13 c512_i32
  let v158 : BitVec 32 := v157
  let v191 : Index := Scalar.indexCast v158
  let c0_75 : Index := 0#32
  ![v191.toNat, 0]
@[reducible] def k0_t2_loop (i : grid0.Coords) : Scf.Loop 32 :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_11 : BitVec 32 := 1#32
  let v22 : BitVec 32 := Scalar.addi arg2 c1_i32_11
  let v24 : BitVec 32 := Scalar.subi v22 v20
  let c1_i32_13 : BitVec 32 := 1#32
  let v26 : BitVec 32 := Scalar.divsi v24 c1_i32_13
  let v27 : BitVec 32 := Scalar.muli v26 c1_i32_13
  let v28 : BitVec 32 := Scalar.addi v20 v27
  let v25 : BitVec 32 := Scalar.addi v20 v24
  let c1_i32_15 : BitVec 32 := 1#32
  ⟨v28, v25, c1_i32_15⟩
def k0_mult2 (i : grid0.Coords) (k0_t2 : Fin (k0_t2_loop i).trips) : BitVec 32 :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_11 : BitVec 32 := 1#32
  let v22 : BitVec 32 := Scalar.addi arg2 c1_i32_11
  let v24 : BitVec 32 := Scalar.subi v22 v20
  let c1_i32_13 : BitVec 32 := 1#32
  let v26 : BitVec 32 := Scalar.divsi v24 c1_i32_13
  let v27 : BitVec 32 := Scalar.muli v26 c1_i32_13
  let v28 : BitVec 32 := Scalar.addi v20 v27
  let c1_i32_15 : BitVec 32 := 1#32
  let arg13 : BitVec 32 := Scf.iv v28 c1_i32_15 k0_t2
  let c512_i32 : BitVec 32 := 512#32
  let v157 : BitVec 32 := Scalar.muli arg13 c512_i32
  v157
def k0_off5 (i : grid0.Coords) (k0_t2 : Fin (k0_t2_loop i).trips) : Fin 3 → Nat :=
  let c0_66 : Index := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_11 : BitVec 32 := 1#32
  let v22 : BitVec 32 := Scalar.addi arg2 c1_i32_11
  let v24 : BitVec 32 := Scalar.subi v22 v20
  let c1_i32_13 : BitVec 32 := 1#32
  let v26 : BitVec 32 := Scalar.divsi v24 c1_i32_13
  let v27 : BitVec 32 := Scalar.muli v26 c1_i32_13
  let v28 : BitVec 32 := Scalar.addi v20 v27
  let c1_i32_15 : BitVec 32 := 1#32
  let arg13 : BitVec 32 := Scf.iv v28 c1_i32_15 k0_t2
  let c512_i32 : BitVec 32 := 512#32
  let v157 : BitVec 32 := Scalar.muli arg13 c512_i32
  let v158 : BitVec 32 := v157
  let v159 : Index := Scalar.indexCast v158
  let c0_67 : Index := 0#32
  ![0, v159.toNat, 0]
def k0_off6 (i : grid0.Coords) (k0_t2 : Fin (k0_t2_loop i).trips) : Fin 3 → Nat :=
  let c0_69 : Index := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_11 : BitVec 32 := 1#32
  let v22 : BitVec 32 := Scalar.addi arg2 c1_i32_11
  let v24 : BitVec 32 := Scalar.subi v22 v20
  let c1_i32_13 : BitVec 32 := 1#32
  let v26 : BitVec 32 := Scalar.divsi v24 c1_i32_13
  let v27 : BitVec 32 := Scalar.muli v26 c1_i32_13
  let v28 : BitVec 32 := Scalar.addi v20 v27
  let c1_i32_15 : BitVec 32 := 1#32
  let arg13 : BitVec 32 := Scf.iv v28 c1_i32_15 k0_t2
  let c512_i32 : BitVec 32 := 512#32
  let v157 : BitVec 32 := Scalar.muli arg13 c512_i32
  let v158 : BitVec 32 := v157
  let v163 : Index := Scalar.indexCast v158
  let c0_70 : Index := 0#32
  ![0, v163.toNat, 0]
def k0_off7 (i : grid0.Coords) (k0_t2 : Fin (k0_t2_loop i).trips) : Fin 2 → Nat :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_11 : BitVec 32 := 1#32
  let v22 : BitVec 32 := Scalar.addi arg2 c1_i32_11
  let v24 : BitVec 32 := Scalar.subi v22 v20
  let c1_i32_13 : BitVec 32 := 1#32
  let v26 : BitVec 32 := Scalar.divsi v24 c1_i32_13
  let v27 : BitVec 32 := Scalar.muli v26 c1_i32_13
  let v28 : BitVec 32 := Scalar.addi v20 v27
  let c1_i32_15 : BitVec 32 := 1#32
  let arg13 : BitVec 32 := Scf.iv v28 c1_i32_15 k0_t2
  let c512_i32 : BitVec 32 := 512#32
  let v157 : BitVec 32 := Scalar.muli arg13 c512_i32
  let v158 : BitVec 32 := v157
  let v191 : Index := Scalar.indexCast v158
  let c0_75 : Index := 0#32
  ![v191.toNat, 0]
def k0_off8 (i : grid0.Coords) : Fin 1 → Nat :=
  let arg1 : BitVec 32 := BitVec.ofNat 32 (i 1).val
  let v34 : Index := Scalar.indexCast arg1
  ![v34.toNat]
@[reducible] def k0_t3_loop (i : grid0.Coords) : Scf.Loop 32 :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_52 : BitVec 32 := 1#32
  let v129 : BitVec 32 := Scalar.addi arg2 c1_i32_52
  let v131 : BitVec 32 := Scalar.subi v129 v20
  let c1_i32_54 : BitVec 32 := 1#32
  let v133 : BitVec 32 := Scalar.divsi v131 c1_i32_54
  let v134 : BitVec 32 := Scalar.muli v133 c1_i32_54
  let v135 : BitVec 32 := Scalar.addi v20 v134
  let c1_i32_55 : BitVec 32 := 1#32
  ⟨v20, v135, c1_i32_55⟩
def k0_mult3 (i : grid0.Coords) (k0_t3 : Fin (k0_t3_loop i).trips) : BitVec 32 :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_55 : BitVec 32 := 1#32
  let arg13 : BitVec 32 := Scf.iv v20 c1_i32_55 k0_t3
  let c512_i32 : BitVec 32 := 512#32
  let v157 : BitVec 32 := Scalar.muli arg13 c512_i32
  v157
def k0_off9 (i : grid0.Coords) (k0_t3 : Fin (k0_t3_loop i).trips) : Fin 2 → Nat :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_55 : BitVec 32 := 1#32
  let arg13 : BitVec 32 := Scf.iv v20 c1_i32_55 k0_t3
  let c512_i32 : BitVec 32 := 512#32
  let v157 : BitVec 32 := Scalar.muli arg13 c512_i32
  let v158 : BitVec 32 := v157
  let v159 : Index := Scalar.indexCast v158
  let c0_66 : Index := 0#32
  ![v159.toNat, 0]
def k0_off10 (i : grid0.Coords) (k0_t3 : Fin (k0_t3_loop i).trips) : Fin 3 → Nat :=
  let c0_72 : Index := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_55 : BitVec 32 := 1#32
  let arg13 : BitVec 32 := Scf.iv v20 c1_i32_55 k0_t3
  let c512_i32 : BitVec 32 := 512#32
  let v157 : BitVec 32 := Scalar.muli arg13 c512_i32
  let v158 : BitVec 32 := v157
  let v177 : Index := Scalar.indexCast v158
  let c0_73 : Index := 0#32
  ![0, v177.toNat, 0]
@[reducible] def k0_t4_loop (i : grid0.Coords) : Scf.Loop 32 :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_52 : BitVec 32 := 1#32
  let v129 : BitVec 32 := Scalar.addi arg2 c1_i32_52
  let v131 : BitVec 32 := Scalar.subi v129 v20
  let c1_i32_54 : BitVec 32 := 1#32
  let v133 : BitVec 32 := Scalar.divsi v131 c1_i32_54
  let v134 : BitVec 32 := Scalar.muli v133 c1_i32_54
  let v135 : BitVec 32 := Scalar.addi v20 v134
  let v132 : BitVec 32 := Scalar.addi v20 v131
  let c1_i32_56 : BitVec 32 := 1#32
  ⟨v135, v132, c1_i32_56⟩
def k0_mult4 (i : grid0.Coords) (k0_t4 : Fin (k0_t4_loop i).trips) : BitVec 32 :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_52 : BitVec 32 := 1#32
  let v129 : BitVec 32 := Scalar.addi arg2 c1_i32_52
  let v131 : BitVec 32 := Scalar.subi v129 v20
  let c1_i32_54 : BitVec 32 := 1#32
  let v133 : BitVec 32 := Scalar.divsi v131 c1_i32_54
  let v134 : BitVec 32 := Scalar.muli v133 c1_i32_54
  let v135 : BitVec 32 := Scalar.addi v20 v134
  let c1_i32_56 : BitVec 32 := 1#32
  let arg13 : BitVec 32 := Scf.iv v135 c1_i32_56 k0_t4
  let c512_i32 : BitVec 32 := 512#32
  let v157 : BitVec 32 := Scalar.muli arg13 c512_i32
  v157
def k0_off11 (i : grid0.Coords) (k0_t4 : Fin (k0_t4_loop i).trips) : Fin 2 → Nat :=
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_52 : BitVec 32 := 1#32
  let v129 : BitVec 32 := Scalar.addi arg2 c1_i32_52
  let v131 : BitVec 32 := Scalar.subi v129 v20
  let c1_i32_54 : BitVec 32 := 1#32
  let v133 : BitVec 32 := Scalar.divsi v131 c1_i32_54
  let v134 : BitVec 32 := Scalar.muli v133 c1_i32_54
  let v135 : BitVec 32 := Scalar.addi v20 v134
  let c1_i32_56 : BitVec 32 := 1#32
  let arg13 : BitVec 32 := Scf.iv v135 c1_i32_56 k0_t4
  let c512_i32 : BitVec 32 := 512#32
  let v157 : BitVec 32 := Scalar.muli arg13 c512_i32
  let v158 : BitVec 32 := v157
  let v159 : Index := Scalar.indexCast v158
  let c0_66 : Index := 0#32
  ![v159.toNat, 0]
def k0_off12 (i : grid0.Coords) (k0_t4 : Fin (k0_t4_loop i).trips) : Fin 3 → Nat :=
  let c0_72 : Index := 0#32
  let arg1 : BitVec 32 := BitVec.ofNat 32 (i 1).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 (i 2).val
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  let c1_i32_52 : BitVec 32 := 1#32
  let v129 : BitVec 32 := Scalar.addi arg2 c1_i32_52
  let v131 : BitVec 32 := Scalar.subi v129 v20
  let c1_i32_54 : BitVec 32 := 1#32
  let v133 : BitVec 32 := Scalar.divsi v131 c1_i32_54
  let v134 : BitVec 32 := Scalar.muli v133 c1_i32_54
  let v135 : BitVec 32 := Scalar.addi v20 v134
  let c1_i32_56 : BitVec 32 := 1#32
  let arg13 : BitVec 32 := Scf.iv v135 c1_i32_56 k0_t4
  let c512_i32 : BitVec 32 := 512#32
  let v157 : BitVec 32 := Scalar.muli arg13 c512_i32
  let v158 : BitVec 32 := v157
  let v177 : Index := Scalar.indexCast v158
  let c0_73 : Index := 0#32
  ![0, v177.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x4096x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnIdeal.lean ====
variable {F : FTy → Type} [FloatOps F] [Named F]
def κ : String → Option EReal := fun
  | "log2e" => some (((Real.log 2)⁻¹ : ℝ) : EReal)
  | "log2e_sm" => some (((Real.log 2)⁻¹ * 16⁻¹ : ℝ) : EReal)
  | _ => none
-- ==== AttnRefIdeal.lean ====
abbrev S16 : Shape := ⟨1, ![16]⟩
abbrev S8x4096x4096 : Shape := ⟨3, ![8, 4096, 4096]⟩
abbrev S8x16x4096 : Shape := ⟨3, ![8, 16, 4096]⟩
abbrev S8x4096x128 : Shape := ⟨3, ![8, 4096, 128]⟩
abbrev S8x8x4096 : Shape := ⟨3, ![8, 8, 4096]⟩
abbrev S1x16x1x1 : Shape := ⟨4, ![1, 16, 1, 1]⟩
abbrev S8x16x1x1 : Shape := ⟨4, ![8, 16, 1, 1]⟩
abbrev S128x1x1 : Shape := ⟨3, ![128, 1, 1]⟩
abbrev S8x1x16 : Shape := ⟨3, ![8, 1, 16]⟩
abbrev S8x16 : Shape := ⟨2, ![8, 16]⟩
abbrev S8x4096x16x256 : Shape := ⟨4, ![8, 4096, 16, 256]⟩
abbrev S8x16x4096x256 : Shape := ⟨4, ![8, 16, 4096, 256]⟩
abbrev S128x4096x256 : Shape := ⟨3, ![128, 4096, 256]⟩
abbrev S128x4096x1 : Shape := ⟨3, ![128, 4096, 1]⟩
abbrev S8x4096x16 : Shape := ⟨3, ![8, 4096, 16]⟩
abbrev S128x1x4096 : Shape := ⟨3, ![128, 1, 4096]⟩
abbrev S128x4096x4096 : Shape := ⟨3, ![128, 4096, 4096]⟩
abbrev S128x4096 : Shape := ⟨2, ![128, 4096]⟩

abbrev nBuf : Space → Nat
  | .hbm => 14
  | .vmem => 8
  | .smem => 0
  | _ => 0

abbrev bufTy : (tb : Table) → Fin (tcTables nBuf tb) → BufTy
  | .hbm, ⟨0, _⟩ => ⟨S16, .f32⟩
  | .hbm, ⟨1, _⟩ => ⟨S8x4096x4096, .fp8e4m3⟩
  | .hbm, ⟨2, _⟩ => ⟨S8x16x4096, .f32⟩
  | .hbm, ⟨3, _⟩ => ⟨S8x4096x4096, .fp8e4m3⟩
  | .hbm, ⟨4, _⟩ => ⟨S8x4096x128, .f32⟩
  | .hbm, ⟨5, _⟩ => ⟨S8x4096x4096, .fp8e4m3⟩
  | .hbm, ⟨6, _⟩ => ⟨S8x8x4096, .f32⟩
  | .hbm, ⟨7, _⟩ => ⟨S1x16x1x1, .f32⟩
  | .hbm, ⟨8, _⟩ => ⟨S8x16x1x1, .f32⟩
  | .hbm, ⟨9, _⟩ => ⟨S128x1x1, .f32⟩
  | .hbm, ⟨10, _⟩ => ⟨S8x1x16, .f32⟩
  | .hbm, ⟨11, _⟩ => ⟨S8x16, .f32⟩
  | .hbm, ⟨12, _⟩ => ⟨S128x1x1, .f32⟩
  | .hbm, ⟨13, _⟩ => ⟨S8x4096x4096, .bf16⟩
  | .local _ .vmem, ⟨0, _⟩ => ⟨S128x1x1, .f32⟩
  | .local _ .vmem, ⟨1, _⟩ => ⟨S8x4096x4096, .fp8e4m3⟩
  | .local _ .vmem, ⟨2, _⟩ => ⟨S8x16x4096, .f32⟩
  | .local _ .vmem, ⟨3, _⟩ => ⟨S8x4096x4096, .fp8e4m3⟩
  | .local _ .vmem, ⟨4, _⟩ => ⟨S8x4096x128, .f32⟩
  | .local _ .vmem, ⟨5, _⟩ => ⟨S8x4096x4096, .fp8e4m3⟩
  | .local _ .vmem, ⟨6, _⟩ => ⟨S128x1x1, .f32⟩
  | .local _ .vmem, ⟨7, _⟩ => ⟨S8x4096x4096, .bf16⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QKQuant.lean ====
abbrev S8x4096x4096 : Shape := ⟨3, ![8, 4096, 4096]⟩
abbrev S8x16x4096 : Shape := ⟨3, ![8, 16, 4096]⟩
abbrev S8x4096x128 : Shape := ⟨3, ![8, 4096, 128]⟩
abbrev S1x512x4096 : Shape := ⟨3, ![1, 512, 4096]⟩
abbrev S1x16x512 : Shape := ⟨3, ![1, 16, 512]⟩
abbrev S1x512x128 : Shape := ⟨3, ![1, 512, 128]⟩
abbrev S512x128 : Shape := ⟨2, ![512, 128]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S128x512 : Shape := ⟨2, ![128, 512]⟩
abbrev S16x512 : Shape := ⟨2, ![16, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x4096, .fp8e4m3⟩
  | .hbm, ⟨2, _⟩ => ⟨S8x16x4096, .f32⟩
  | .hbm, ⟨3, _⟩ => ⟨S8x4096x128, .f32⟩
  | .local _ .vmem, ⟨0, _⟩ => ⟨S1x512x4096, .bf16⟩
  | .local _ .vmem, ⟨1, _⟩ => ⟨S1x512x4096, .bf16⟩
  | .local _ .vmem, ⟨2, _⟩ => ⟨S1x512x4096, .fp8e4m3⟩
  | .local _ .vmem, ⟨3, _⟩ => ⟨S1x512x4096, .fp8e4m3⟩
  | .local _ .vmem, ⟨4, _⟩ => ⟨S1x16x512, .f32⟩
  | .local _ .vmem, ⟨5, _⟩ => ⟨S1x16x512, .f32⟩
  | .local _ .vmem, ⟨6, _⟩ => ⟨S1x512x128, .f32⟩
  | .local _ .vmem, ⟨7, _⟩ => ⟨S1x512x128, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QKQuantRefIdeal.lean ====
abbrev S8x4096x4096 : Shape := ⟨3, ![8, 4096, 4096]⟩
abbrev S8x16x4096 : Shape := ⟨3, ![8, 16, 4096]⟩
abbrev S8x4096x128 : Shape := ⟨3, ![8, 4096, 128]⟩
abbrev S8x4096x16x256 : Shape := ⟨4, ![8, 4096, 16, 256]⟩
abbrev S8x4096x16 : Shape := ⟨3, ![8, 4096, 16]⟩
abbrev S8x4096x16x1 : Shape := ⟨4, ![8, 4096, 16, 1]⟩
abbrev S8x4096x112 : Shape := ⟨3, ![8, 4096, 112]⟩

abbrev nBuf : Space → Nat
  | .hbm => 4
  | .vmem => 4
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x4096, .fp8e4m3⟩
  | .hbm, ⟨2, _⟩ => ⟨S8x16x4096, .f32⟩
  | .hbm, ⟨3, _⟩ => ⟨S8x4096x128, .f32⟩
  | .local _ .vmem, ⟨0, _⟩ => ⟨S8x4096x4096, .bf16⟩
  | .local _ .vmem, ⟨1, _⟩ => ⟨S8x4096x4096, .fp8e4m3⟩
  | .local _ .vmem, ⟨2, _⟩ => ⟨S8x16x4096, .f32⟩
  | .local _ .vmem, ⟨3, _⟩ => ⟨S8x4096x128, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== VScale.lean ====
abbrev S8x4096x4096 : Shape := ⟨3, ![8, 4096, 4096]⟩
abbrev S8x8x4096 : Shape := ⟨3, ![8, 8, 4096]⟩
abbrev S1x512x4096 : Shape := ⟨3, ![1, 512, 4096]⟩
abbrev S1x8x4096 : Shape := ⟨3, ![1, 8, 4096]⟩
abbrev S16x4096 : Shape := ⟨2, ![16, 4096]⟩
abbrev S512x4096 : Shape := ⟨2, ![512, 4096]⟩
abbrev S32x16x4096 : Shape := ⟨3, ![32, 16, 4096]⟩
abbrev S16x256 : Shape := ⟨2, ![16, 256]⟩
abbrev S16 : Shape := ⟨1, ![16]⟩
abbrev S16x1 : Shape := ⟨2, ![16, 1]⟩
abbrev S1 : Shape := ⟨1, ![1]⟩
abbrev S1x1 : Shape := ⟨2, ![1, 1]⟩
abbrev S8x256 : Shape := ⟨2, ![8, 256]⟩
abbrev S1x8x256 : Shape := ⟨3, ![1, 8, 256]⟩

abbrev nBuf : Space → Nat
  | .hbm => 2
  | .vmem => 5
  | .smem => 0
  | _ => 0

abbrev bufTy : (tb : Table) → Fin (tcTables nBuf tb) → BufTy
  | .hbm, ⟨0, _⟩ => ⟨S8x4096x4096, .bf16⟩
  | .hbm, ⟨1, _⟩ => ⟨S8x8x4096, .f32⟩
  | .local _ .vmem, ⟨0, _⟩ => ⟨S1x512x4096, .bf16⟩
  | .local _ .vmem, ⟨1, _⟩ => ⟨S1x512x4096, .bf16⟩
  | .local _ .vmem, ⟨2, _⟩ => ⟨S1x8x4096, .f32⟩
  | .local _ .vmem, ⟨3, _⟩ => ⟨S1x8x4096, .f32⟩
  | .local _ .vmem, ⟨4, _⟩ => ⟨S16x4096, .bf16⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== VScaleRefIdeal.lean ====
abbrev S8x4096x4096 : Shape := ⟨3, ![8, 4096, 4096]⟩
abbrev S8x4096x16x256 : Shape := ⟨4, ![8, 4096, 16, 256]⟩
abbrev S_ : Shape := ⟨0, ![]⟩
abbrev S8x16 : Shape := ⟨2, ![8, 16]⟩
abbrev S8x16x256 : Shape := ⟨3, ![8, 16, 256]⟩
abbrev S8x4096 : Shape := ⟨2, ![8, 4096]⟩
abbrev S8x1x4096 : Shape := ⟨3, ![8, 1, 4096]⟩
abbrev S8x8x4096 : Shape := ⟨3, ![8, 8, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x4096, .f32⟩
  | .hbm, ⟨2, _⟩ => ⟨S8x4096x16x256, .f32⟩
  | .hbm, ⟨3, _⟩ => ⟨S8x4096x16x256, .f32⟩
  | .hbm, ⟨4, _⟩ => ⟨S_, .f32⟩
  | .hbm, ⟨5, _⟩ => ⟨S8x16, .f32⟩
  | .hbm, ⟨6, _⟩ => ⟨S_, .f32⟩
  | .hbm, ⟨7, _⟩ => ⟨S8x16, .f32⟩
  | .hbm, ⟨8, _⟩ => ⟨S8x16, .f32⟩
  | .hbm, ⟨9, _⟩ => ⟨S8x16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x16, .f32⟩
  | .hbm, ⟨14, _⟩ => ⟨S8x16, .f32⟩
  | .hbm, ⟨15, _⟩ => ⟨S8x16, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x16, .f32⟩
  | .hbm, ⟨20, _⟩ => ⟨S8x16, .f32⟩
  | .hbm, ⟨21, _⟩ => ⟨S_, .f32⟩
  | .hbm, ⟨22, _⟩ => ⟨S8x16, .f32⟩
  | .hbm, ⟨23, _⟩ => ⟨S8x16, .f32⟩
  | .hbm, ⟨24, _⟩ => ⟨S_, .f32⟩
  | .hbm, ⟨25, _⟩ => ⟨S8x16, .f32⟩
  | .hbm, ⟨26, _⟩ => ⟨S8x16, .f32⟩
  | .hbm, ⟨27, _⟩ => ⟨S_, .f32⟩
  | .hbm, ⟨28, _⟩ => ⟨S8x16, .f32⟩
  | .hbm, ⟨29, _⟩ => ⟨S8x16, .i1⟩
  | .hbm, ⟨30, _⟩ => ⟨S_, .f32⟩
  | .hbm, ⟨31, _⟩ => ⟨S_, .f32⟩
  | .hbm, ⟨32, _⟩ => ⟨S8x16, .f32⟩
  | .hbm, ⟨33, _⟩ => ⟨S8x16, .f32⟩
  | .hbm, ⟨34, _⟩ => ⟨S_, .f32⟩
  | .hbm, ⟨35, _⟩ => ⟨S8x16, .f32⟩
  | .hbm, ⟨36, _⟩ => ⟨S8x16, .f32⟩
  | .hbm, ⟨37, _⟩ => ⟨S8x16x256, .f32⟩
  | .hbm, ⟨38, _⟩ => ⟨S8x4096, .f32⟩
  | .hbm, ⟨39, _⟩ => ⟨S8x1x4096, .f32⟩
  | .hbm, ⟨40, _⟩ => ⟨S8x8x4096, .f32⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== VQuant.lean ====
abbrev S8x4096x4096 : Shape := ⟨3, ![8, 4096, 4096]⟩
abbrev S8x8x4096 : Shape := ⟨3, ![8, 8, 4096]⟩
abbrev S1x512x4096 : Shape := ⟨3, ![1, 512, 4096]⟩
abbrev S1x8x4096 : Shape := ⟨3, ![1, 8, 4096]⟩
abbrev S1x1x4096 : Shape := ⟨3, ![1, 1, 4096]⟩
abbrev S1x4096 : Shape := ⟨2, ![1, 4096]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x4096, .bf16⟩
  | .hbm, ⟨1, _⟩ => ⟨S8x8x4096, .f32⟩
  | .hbm, ⟨2, _⟩ => ⟨S8x4096x4096, .fp8e4m3⟩
  | .local _ .vmem, ⟨0, _⟩ => ⟨S1x512x4096, .bf16⟩
  | .local _ .vmem, ⟨1, _⟩ => ⟨S1x512x4096, .bf16⟩
  | .local _ .vmem, ⟨2, _⟩ => ⟨S1x8x4096, .f32⟩
  | .local _ .vmem, ⟨3, _⟩ => ⟨S1x8x4096, .f32⟩
  | .local _ .vmem, ⟨4, _⟩ => ⟨S1x512x4096, .fp8e4m3⟩
  | .local _ .vmem, ⟨5, _⟩ => ⟨S1x512x4096, .fp8e4m3⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VQuantRefIdeal.lean ====
abbrev S8x4096x4096 : Shape := ⟨3, ![8, 4096, 4096]⟩
abbrev S8x8x4096 : Shape := ⟨3, ![8, 8, 4096]⟩
abbrev S8x1x4096 : Shape := ⟨3, ![8, 1, 4096]⟩

abbrev nBuf : Space → Nat
  | .hbm => 3
  | .vmem => 3
  | .smem => 0
  | _ => 0

abbrev bufTy : (tb : Table) → Fin (tcTables nBuf tb) → BufTy
  | .hbm, ⟨0, _⟩ => ⟨S8x4096x4096, .bf16⟩
  | .hbm, ⟨1, _⟩ => ⟨S8x8x4096, .f32⟩
  | .hbm, ⟨2, _⟩ => ⟨S8x4096x4096, .fp8e4m3⟩
  | .local _ .vmem, ⟨0, _⟩ => ⟨S8x4096x4096, .bf16⟩
  | .local _ .vmem, ⟨1, _⟩ => ⟨S8x8x4096, .f32⟩
  | .local _ .vmem, ⟨2, _⟩ => ⟨S8x4096x4096, .fp8e4m3⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.AttnRun.lean ====
/- The attention kernel's body, run over its skeleton: what the output block ends with, as the pieces the
   body's stores leave, from any contents of the two scratch arrays. -/
module

public import proofs.«01_k».proof.Proof.Gen.Attn.Frame
public import proofs.«01_k».proof.Proof.Gen.Attn.Loops
public import proofs.«01_k».proof.Proof.Gen.Attn.Skeleton

@[expose] public section

set_option maxRecDepth 16384

noncomputable section

namespace Cert.AttnRun

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- The body from whole staging buffers holding the blocks `x3 … x9`, any output buffer and scratch arrays holding
    `f11`, `f12`: it ends with the inputs as they were, the scratch at something, and the output buffer with the
    pieces of the run written. -/
noncomputable def kernelRun (c : Dev nD) (i : grid0.Coords) (arg3 : Memref sig .tc .smem S16 .f32) (harg3 : arg3.IsWhole) (arg4 : Memref sig .tc .vmem S1x512x256 .fp8e4m3) (harg4 : arg4.IsWhole) (arg5 : Memref sig .tc .vmem S1x16x512 .f32) (harg5 : arg5.IsWhole) (arg6 : Memref sig .tc .vmem S1x4096x256 .fp8e4m3) (harg6 : arg6.IsWhole) (arg7 : Memref sig .tc .vmem S1x4096x128 .f32) (harg7 : arg7.IsWhole) (arg8 : Memref sig .tc .vmem S1x4096x256 .fp8e4m3) (harg8 : arg8.IsWhole) (arg9 : Memref sig .tc .vmem S1x8x256 .f32) (harg9 : arg9.IsWhole) (arg10 : Memref sig .tc .vmem S1x512x256 .bf16) (harg10 : arg10.IsWhole) (arg11 : Memref sig .tc .vmem S4096x512 .f32) (harg11 : arg11.IsWhole) (arg12 : Memref sig .tc .vmem S256x512 .f32) (harg12 : arg12.IsWhole)
    (x3 : Vec F S16 .f32) (x4 : Vec F S1x512x256 .fp8e4m3) (x5 : Vec F S1x16x512 .f32) (x6 : Vec F S1x4096x256 .fp8e4m3) (x7 : Vec F S1x4096x128 .f32) (x8 : Vec F S1x4096x256 .fp8e4m3) (x9 : Vec F S1x8x256 .f32)
    (f11 : BufTy.Contents (Elt F) arg11.view.ty) (f12 : BufTy.Contents (Elt F) arg12.view.ty) :
    { L10 : List (View.Piece (Elt F) S1x512x256 .bf16) //
      ∀ (E : Set ℕ) (K : PUnit → sProp (MT nD τ sig Unit (Elt F) ℕ (UR sig nD τ) ℕ)),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ d, owns (c : Thread nD τ) arg10 fullShare d)
            ∗ (arg11.view.loc (c : Thread nD τ) ↦[arg11.view.set]{fullShare} f11)
            ∗ (arg12.view.loc (c : Thread nD τ) ↦[arg12.view.set]{fullShare} f12)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ (∃ f, arg10.view.loc (c : Thread nD τ) ↦[arg10.view.set]{fullShare} arg10.view.writes (Elt F) f L10)
                ∗ (∃ f, arg11.view.loc (c : Thread nD τ) ↦[arg11.view.set]{fullShare} f)
                ∗ (∃ f, arg12.view.loc (c : Thread nD τ) ↦[arg12.view.set]{fullShare} f)) -∗ K ⟨⟩))
          ⊢ wp frame (wpE (defs₀ (F := F)) Variants.none c none) E (cc0_attn i arg3 harg3 arg4 harg4 arg5 harg5 arg6 harg6 arg7 harg7 arg8 harg8 arg9 harg9 arg10 harg10 arg11 harg11 arg12 harg12) K } := by
  refine ⟨?_, fun E K => ?run⟩
  case run =>
    simp only [cc0_attn_eq_skeleton]; unfold cc0_attn_skel
    simp only [k0_part1_eq_skeleton, k0_part2_eq_skeleton, k0_part3_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, H11, H12, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _; iexact H12

end Cert.AttnRun

end
-- ==== Proof.AttnLoops.lean ====
/- The attention kernel's two loops in closed form: which chunks they visit, and what the carried values and
   the two scratch arrays hold before each trip. -/
module

public import proofs.«01_k».proof.Proof.AttnRun
public import proofs.«01_k».proof.Proof.Gen.Attn.Loops
public import proofs.«01_k».proof.Proof.Gen.Attn.Skeleton

public import Idealize.ShloMosaic.Lib.VecWindow

@[expose] public section

set_option maxRecDepth 16384

noncomputable section

namespace Cert.AttnLoops

open Cert.AttnRun Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The chunks visited -/

/-- The first chunk visited, as the kernel computes it from the head and the row block. -/
def lo32 (h j : ℕ) : BitVec 32 :=
  let arg1 : BitVec 32 := BitVec.ofNat 32 h
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 j
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  v20

/-- The first chunk visited: two before the row block for an odd head, the first for an even one. -/
def lo (i : grid0.Coords) : ℕ := if (i 1).val % 2 = 1 then (i 2).val - 2 else 0

theorem lo32_eq (i : grid0.Coords) : lo32 (i 1).val (i 2).val = BitVec.ofNat 32 (lo i) := by
  have h : ∀ (h : Fin 16) (j : Fin 8), lo32 h.val j.val = BitVec.ofNat 32 (if h.val % 2 = 1 then j.val - 2 else 0) := by decide +kernel
  exact h ⟨(i 1).val, (i 1).isLt⟩ ⟨(i 2).val, (i 2).isLt⟩

theorem lo_le (i : grid0.Coords) : lo i ≤ (i 2).val := by unfold lo; split <;> omega

theorem trips1 (i : grid0.Coords) : (k0_t1_loop i).trips = (i 2).val + 1 - lo i := by
  have h : ∀ (h : Fin 16) (j : Fin 8), Scf.trips (lo32 h.val j.val) (Scalar.addi (lo32 h.val j.val) (Scalar.muli (Scalar.divsi (Scalar.subi (Scalar.addi (BitVec.ofNat 32 j.val) 1#32) (lo32 h.val j.val)) 1#32) 1#32)) 1#32 = j.val + 1 - (if h.val % 2 = 1 then j.val - 2 else 0) := by decide +kernel
  exact h ⟨(i 1).val, (i 1).isLt⟩ ⟨(i 2).val, (i 2).isLt⟩

theorem trips2 (i : grid0.Coords) : (k0_t2_loop i).trips = 0 := Nat.le_zero.mp (k0_t2_abs i).2.1
theorem trips3 (i : grid0.Coords) : (k0_t3_loop i).trips = (k0_t1_loop i).trips := rfl
theorem trips4 (i : grid0.Coords) : (k0_t4_loop i).trips = 0 := Nat.le_zero.mp (k0_t4_abs i).2.1

/-- The chunk of a trip. -/
theorem chunk_toNat (i : grid0.Coords) (k : ℕ) (hk : k < 8) :
    (Scalar.muli (Scf.iv (lo32 (i 1).val (i 2).val) 1#32 k) 512#32).toNat = 512 * (lo i + k) := by
  have h : ∀ (h : Fin 16) (j : Fin 8) (k : Fin 8), (Scalar.muli (Scf.iv (lo32 h.val j.val) 1#32 k.val) 512#32).toNat = 512 * ((if h.val % 2 = 1 then j.val - 2 else 0) + k.val) := by decide +kernel
  exact h ⟨(i 1).val, (i 1).isLt⟩ ⟨(i 2).val, (i 2).isLt⟩ ⟨k, hk⟩

theorem lt8 {i : grid0.Coords} (k : Fin (k0_t1_loop i).trips) : k.val < 8 := Nat.lt_of_lt_of_le k.isLt (k0_t1_abs i).2.1

theorem off2_eq (i : grid0.Coords) (k : Fin (k0_t1_loop i).trips) : k0_off2 i k = ![0, 512 * (lo i + k.val), 0] := by
  rw [← chunk_toNat i k.val (lt8 k)]; rfl
theorem off3_eq (i : grid0.Coords) (k : Fin (k0_t1_loop i).trips) : k0_off3 i k = ![0, 512 * (lo i + k.val), 0] := by
  rw [← chunk_toNat i k.val (lt8 k)]; rfl
theorem off4_eq (i : grid0.Coords) (k : Fin (k0_t1_loop i).trips) : k0_off4 i k = ![512 * (lo i + k.val), 0] := by
  rw [← chunk_toNat i k.val (lt8 k)]; rfl
theorem off9_eq (i : grid0.Coords) (k : Fin (k0_t1_loop i).trips) : k0_off9 i k = ![512 * (lo i + k.val), 0] := by
  rw [← chunk_toNat i k.val (lt8 k)]; rfl
theorem off10_eq (i : grid0.Coords) (k : Fin (k0_t1_loop i).trips) : k0_off10 i k = ![0, 512 * (lo i + k.val), 0] := by
  rw [← chunk_toNat i k.val (lt8 k)]; rfl

/-! ## One trip -/

section Trips

variable (c : Dev nD) (i : grid0.Coords) (arg3 : Memref sig .tc .smem S16 .f32) (harg3 : arg3.IsWhole) (arg4 : Memref sig .tc .vmem S1x512x256 .fp8e4m3) (harg4 : arg4.IsWhole) (arg5 : Memref sig .tc .vmem S1x16x512 .f32) (harg5 : arg5.IsWhole) (arg6 : Memref sig .tc .vmem S1x4096x256 .fp8e4m3) (harg6 : arg6.IsWhole) (arg7 : Memref sig .tc .vmem S1x4096x128 .f32) (harg7 : arg7.IsWhole) (arg8 : Memref sig .tc .vmem S1x4096x256 .fp8e4m3) (harg8 : arg8.IsWhole) (arg9 : Memref sig .tc .vmem S1x8x256 .f32) (harg9 : arg9.IsWhole) (arg10 : Memref sig .tc .vmem S1x512x256 .bf16) (harg10 : arg10.IsWhole) (arg11 : Memref sig .tc .vmem S4096x512 .f32) (harg11 : arg11.IsWhole) (arg12 : Memref sig .tc .vmem S256x512 .f32) (harg12 : arg12.IsWhole)

theorem tripR1 (v0 : Vec F S1x512x256 .fp8e4m3) (X6 : BufTy.Contents (Elt F) arg6.view.ty) (X7 : BufTy.Contents (Elt F) arg7.view.ty) (k : Fin (k0_t1_loop i).trips) (acc : FVec F S8x512 .f32) :
    tripR_k0_t1 (F := F) Variants.none c none i arg3 harg3 arg4 harg4 arg5 harg5 arg6 harg6 arg7 harg7 arg8 harg8 arg9 harg9 arg10 harg10 arg11 harg11 arg12 harg12 v0 X6 X7 k acc
      = k0_pay17 i v0 k acc (View.readAt (Elt F) arg6.view (Rect.unit (s := S1x4096x256) (k0_off2 i k) S1x512x256.size (k0_off2_inb i k)).toLoadRect X6)
          (View.readAt (Elt F) arg7.view (Rect.unit (s := S1x4096x128) (k0_off3 i k) S1x512x128.size (k0_off3_inb i k)).toLoadRect X7) := by
  unfold tripR_k0_t1 trip_k0_t1; rfl

theorem tripL1 (v0 : Vec F S1x512x256 .fp8e4m3) (X6 : BufTy.Contents (Elt F) arg6.view.ty) (X7 : BufTy.Contents (Elt F) arg7.view.ty) (k : Fin (k0_t1_loop i).trips) (acc : FVec F S8x512 .f32) :
    tripL_k0_t1 (F := F) Variants.none c none i arg3 harg3 arg4 harg4 arg5 harg5 arg6 harg6 arg7 harg7 arg8 harg8 arg9 harg9 arg10 harg10 arg11 harg11 arg12 harg12 v0 X6 X7 k acc
      = [⟨Rect.unit (s := S4096x512) (k0_off4 i k) S512x512.size (k0_off4_inb i k), k0_pay16 i v0 k (View.readAt (Elt F) arg6.view (Rect.unit (s := S1x4096x256) (k0_off2 i k) S1x512x256.size (k0_off2_inb i k)).toLoadRect X6)
          (View.readAt (Elt F) arg7.view (Rect.unit (s := S1x4096x128) (k0_off3 i k) S1x512x128.size (k0_off3_inb i k)).toLoadRect X7)⟩] := by
  unfold tripL_k0_t1 trip_k0_t1; rfl

theorem tripR3 (v6 v38 : FVec F S1x512 .f32) (v44 : IVec S1x512 1) (v118 : FVec F S1x512 .f32) (cst_48 : F .f32) (X8 : BufTy.Contents (Elt F) arg8.view.ty) (X11 : BufTy.Contents (Elt F) arg11.view.ty) (k : Fin (k0_t3_loop i).trips) (acc : FVec F S8x512 .f32) (f12 : BufTy.Contents (Elt F) arg12.view.ty) :
    tripR_k0_t3 (F := F) Variants.none c none i arg3 harg3 arg4 harg4 arg5 harg5 arg6 harg6 arg7 harg7 arg8 harg8 arg9 harg9 arg10 harg10 arg11 harg11 arg12 harg12 v6 v38 v44 v118 cst_48 X8 X11 k acc f12
      = k0_pay5 v6 v38 acc (View.readAt (Elt F) arg11.view (Rect.unit (s := S4096x512) (k0_off9 i k) S512x512.size (k0_off9_inb i k)).toLoadRect X11) := by
  unfold tripR_k0_t3 trip_k0_t3; rfl

theorem tripL3 (v6 v38 : FVec F S1x512 .f32) (v44 : IVec S1x512 1) (v118 : FVec F S1x512 .f32) (cst_48 : F .f32) (X8 : BufTy.Contents (Elt F) arg8.view.ty) (X11 : BufTy.Contents (Elt F) arg11.view.ty) (k : Fin (k0_t3_loop i).trips) (acc : FVec F S8x512 .f32) (f12 : BufTy.Contents (Elt F) arg12.view.ty) :
    tripL_k0_t3 (F := F) Variants.none c none i arg3 harg3 arg4 harg4 arg5 harg5 arg6 harg6 arg7 harg7 arg8 harg8 arg9 harg9 arg10 harg10 arg11 harg11 arg12 harg12 v6 v38 v44 v118 cst_48 X8 X11 k acc f12
      = [⟨Rect.unit (s := S256x512) ![0, 0] S256x512.size inb_S256x512_S256x512_0_0, k0_pay6 v6 v38 v44 v118 cst_48
          (View.readAt (Elt F) arg11.view (Rect.unit (s := S4096x512) (k0_off9 i k) S512x512.size (k0_off9_inb i k)).toLoadRect X11)
          (View.readAt (Elt F) arg12.view (Rect.unit (s := S256x512) ![0, 0] S256x512.size inb_S256x512_S256x512_0_0).toLoadRect f12)
          (View.readAt (Elt F) arg8.view (Rect.unit (s := S1x4096x256) (k0_off10 i k) S1x512x256.size (k0_off10_inb i k)).toLoadRect X8)⟩] := by
  unfold tripL_k0_t3 trip_k0_t3; rfl

end Trips

/-! ## The loops' states -/

/-- The chunk a trip reads from an array of key or value codes. -/
def kblk (i : grid0.Coords) (x : Vec F S1x4096x256 .fp8e4m3) (k : Fin (k0_t1_loop i).trips) : Vec F S1x512x256 .fp8e4m3 :=
  View.ld x (Rect.unit (s := S1x4096x256) (k0_off2 i k) S1x512x256.size (k0_off2_inb i k))

/-- The chunk a trip reads from the key scales. -/
def cblk (i : grid0.Coords) (x : Vec F S1x4096x128 .f32) (k : Fin (k0_t1_loop i).trips) : Vec F S1x512x128 .f32 :=
  View.ld x (Rect.unit (s := S1x4096x128) (k0_off3 i k) S1x512x128.size (k0_off3_inb i k))

/-- The scaled and masked scores of the trip's chunk (not yet scaled by the query's scale). -/
def ych (i : grid0.Coords) (v0 : Vec F S1x512x256 .fp8e4m3) (x6 : Vec F S1x4096x256 .fp8e4m3) (x7 : Vec F S1x4096x128 .f32)
    (k : Fin (k0_t1_loop i).trips) : FVec F S512x512 .f32 := k0_pay16 i v0 k (kblk i x6 k) (cblk i x7 k)

/-- The running maximum before trip `n` of the first loop. -/
def car (i : grid0.Coords) (v0 : Vec F S1x512x256 .fp8e4m3) (x6 : Vec F S1x4096x256 .fp8e4m3) (x7 : Vec F S1x4096x128 .f32) : ℕ → FVec F S8x512 .f32
  | 0 => k0_pay14
  | n + 1 => if h : n < (k0_t1_loop i).trips then k0_pay17 i v0 ⟨n, h⟩ (car i v0 x6 x7 n) (kblk i x6 ⟨n, h⟩) (cblk i x7 ⟨n, h⟩) else car i v0 x6 x7 n

/-- The score chunks stored before trip `n`, last first. -/
def pcs (i : grid0.Coords) (v0 : Vec F S1x512x256 .fp8e4m3) (x6 : Vec F S1x4096x256 .fp8e4m3) (x7 : Vec F S1x4096x128 .f32) : ℕ → List (View.Piece (Elt F) S4096x512 .f32)
  | 0 => []
  | n + 1 => if h : n < (k0_t1_loop i).trips then
      ⟨Rect.unit (s := S4096x512) (k0_off4 i ⟨n, h⟩) S512x512.size (k0_off4_inb i ⟨n, h⟩), ych i v0 x6 x7 ⟨n, h⟩⟩ :: pcs i v0 x6 x7 n
    else pcs i v0 x6 x7 n

/-- The sum of the probabilities, and the weighted sum of the values, before trip `n` of the second loop. -/
def acc (i : grid0.Coords) (v0 : Vec F S1x512x256 .fp8e4m3) (x6 : Vec F S1x4096x256 .fp8e4m3) (x7 : Vec F S1x4096x128 .f32) (x8 : Vec F S1x4096x256 .fp8e4m3)
    (v6 v38 : FVec F S1x512 .f32) (v44 : IVec S1x512 1) (v118 : FVec F S1x512 .f32) (cst_48 : F .f32) : ℕ → FVec F S8x512 .f32 × FVec F S256x512 .f32
  | 0 => (k0_pay3, k0_pay2)
  | n + 1 => if h : n < (k0_t1_loop i).trips then
      (k0_pay5 v6 v38 (acc i v0 x6 x7 x8 v6 v38 v44 v118 cst_48 n).1 (ych i v0 x6 x7 ⟨n, h⟩),
       k0_pay6 v6 v38 v44 v118 cst_48 (ych i v0 x6 x7 ⟨n, h⟩) (acc i v0 x6 x7 x8 v6 v38 v44 v118 cst_48 n).2 (kblk i x8 ⟨n, h⟩))
    else acc i v0 x6 x7 x8 v6 v38 v44 v118 cst_48 n

/-- Each chunk stored before trip `n` is read back. -/
theorem pcs_apply (i : grid0.Coords) (arg11 : Memref sig .tc .vmem S4096x512 .f32) (v0 : Vec F S1x512x256 .fp8e4m3) (x6 : Vec F S1x4096x256 .fp8e4m3) (x7 : Vec F S1x4096x128 .f32) (k : Fin (k0_t1_loop i).trips) (f11 : BufTy.Contents (Elt F) arg11.view.ty) :
    ∀ n, n ≤ (k0_t1_loop i).trips → k.val < n →
      View.readAt (Elt F) arg11.view (Rect.unit (s := S4096x512) (k0_off9 i k) S512x512.size (k0_off9_inb i k)).toLoadRect
        (arg11.view.writes (Elt F) f11 (pcs i v0 x6 x7 n)) = ych i v0 x6 x7 k
  | 0, _, h => absurd h (Nat.not_lt_zero _)
  | n + 1, hn, hk => by
    rw [pcs, dif_pos (show n < (k0_t1_loop i).trips from hn)]
    funext j
    rw [View.readAt_apply]
    by_cases hkn : k.val = n
    · subst hkn
      exact View.read_writes_cons_emb _ _ (Rect.unit (s := S4096x512) (k0_off4 i k) S512x512.size (k0_off4_inb i k)) _ _ j
    · refine (View.read_writes_cons_miss_of_axis _ _ _ _ _ (0 : Fin 2) (512 * (lo i + n)) 512
        (by show k0_off4 i ⟨n, hn⟩ 0 = _; rw [off4_eq]; rfl) rfl rfl ?_).trans
        (congrFun (pcs_apply i arg11 v0 x6 x7 k f11 n (Nat.le_of_succ_le hn) (by omega)) j)
      have e2 : k0_off9 i k 0 = 512 * (lo i + k.val) := by rw [off9_eq]; rfl
      have h3 : (j 0).val < 512 := (j 0).isLt
      show k0_off9 i k 0 + 1 * (j 0).val < _ ∨ _ ≤ k0_off9 i k 0 + 1 * (j 0).val
      omega

section States

variable (c : Dev nD) (i : grid0.Coords) (arg3 : Memref sig .tc .smem S16 .f32) (harg3 : arg3.IsWhole) (arg4 : Memref sig .tc .vmem S1x512x256 .fp8e4m3) (harg4 : arg4.IsWhole) (arg5 : Memref sig .tc .vmem S1x16x512 .f32) (harg5 : arg5.IsWhole) (arg6 : Memref sig .tc .vmem S1x4096x256 .fp8e4m3) (harg6 : arg6.IsWhole) (arg7 : Memref sig .tc .vmem S1x4096x128 .f32) (harg7 : arg7.IsWhole) (arg8 : Memref sig .tc .vmem S1x4096x256 .fp8e4m3) (harg8 : arg8.IsWhole) (arg9 : Memref sig .tc .vmem S1x8x256 .f32) (harg9 : arg9.IsWhole) (arg10 : Memref sig .tc .vmem S1x512x256 .bf16) (harg10 : arg10.IsWhole) (arg11 : Memref sig .tc .vmem S4096x512 .f32) (harg11 : arg11.IsWhole) (arg12 : Memref sig .tc .vmem S256x512 .f32) (harg12 : arg12.IsWhole)

theorem st1_eq (v0 : Vec F S1x512x256 .fp8e4m3) (x6 : Vec F S1x4096x256 .fp8e4m3) (x7 : Vec F S1x4096x128 .f32) : ∀ n, n ≤ (k0_t1_loop i).trips →
    st_k0_t1 (F := F) Variants.none c none i arg3 harg3 arg4 harg4 arg5 harg5 arg6 harg6 arg7 harg7 arg8 harg8 arg9 harg9 arg10 harg10 arg11 harg11 arg12 harg12 v0 (harg6.unread x6) (harg7.unread x7) k0_pay14 n = (car i v0 x6 x7 n, pcs i v0 x6 x7 n)
  | 0, _ => rfl
  | n + 1, hn => by
    have ih := st1_eq v0 x6 x7 n (Nat.le_of_succ_le hn)
    refine (st_k0_t1_succ (F := F) Variants.none c none i arg3 harg3 arg4 harg4 arg5 harg5 arg6 harg6 arg7 harg7 arg8 harg8 arg9 harg9 arg10 harg10 arg11 harg11 arg12 harg12 v0 (harg6.unread x6) (harg7.unread x7) k0_pay14 ⟨n, hn⟩).trans ?_
    dsimp only
    rw [ih, tripR1, tripL1]
    rw [View.readAt_eq_ld, View.readAt_eq_ld, harg6.read_unread, harg7.read_unread]
    rw [car, pcs, dif_pos (show n < (k0_t1_loop i).trips from hn), dif_pos (show n < (k0_t1_loop i).trips from hn)]
    rfl

theorem st3_eq (v0 : Vec F S1x512x256 .fp8e4m3) (x6 : Vec F S1x4096x256 .fp8e4m3) (x7 : Vec F S1x4096x128 .f32) (x8 : Vec F S1x4096x256 .fp8e4m3)
    (v6 v38 : FVec F S1x512 .f32) (v44 : IVec S1x512 1) (v118 : FVec F S1x512 .f32) (cst_48 : F .f32) (f11 : BufTy.Contents (Elt F) arg11.view.ty) (G12 : BufTy.Contents (Elt F) arg12.view.ty)
    (hG : arg12.view.read (Elt F) G12 = k0_pay2) : ∀ n, n ≤ (k0_t3_loop i).trips →
    (st_k0_t3 (F := F) Variants.none c none i arg3 harg3 arg4 harg4 arg5 harg5 arg6 harg6 arg7 harg7 arg8 harg8 arg9 harg9 arg10 harg10 arg11 harg11 arg12 harg12 v6 v38 v44 v118 cst_48 (harg8.unread x8) (arg11.view.writes (Elt F) f11 (pcs i v0 x6 x7 (k0_t1_loop i).trips)) G12 k0_pay3 n).1
        = (acc i v0 x6 x7 x8 v6 v38 v44 v118 cst_48 n).1
      ∧ arg12.view.read (Elt F) (arg12.view.writes (Elt F) G12 (st_k0_t3 (F := F) Variants.none c none i arg3 harg3 arg4 harg4 arg5 harg5 arg6 harg6 arg7 harg7 arg8 harg8 arg9 harg9 arg10 harg10 arg11 harg11 arg12 harg12 v6 v38 v44 v118 cst_48 (harg8.unread x8) (arg11.view.writes (Elt F) f11 (pcs i v0 x6 x7 (k0_t1_loop i).trips)) G12 k0_pay3 n).2)
        = (acc i v0 x6 x7 x8 v6 v38 v44 v118 cst_48 n).2
  | 0, _ => ⟨rfl, hG⟩
  | n + 1, hn => by
    have ih := st3_eq v0 x6 x7 x8 v6 v38 v44 v118 cst_48 f11 G12 hG n (Nat.le_of_succ_le hn)
    rw [st_k0_t3_succ (F := F) Variants.none c none i arg3 harg3 arg4 harg4 arg5 harg5 arg6 harg6 arg7 harg7 arg8 harg8 arg9 harg9 arg10 harg10 arg11 harg11 arg12 harg12 v6 v38 v44 v118 cst_48 (harg8.unread x8) (arg11.view.writes (Elt F) f11 (pcs i v0 x6 x7 (k0_t1_loop i).trips)) G12 k0_pay3 ⟨n, hn⟩]
    dsimp only
    rw [tripR3, tripL3, ih.1]
    rw [pcs_apply i arg11 v0 x6 x7 ⟨n, hn⟩ f11 _ le_rfl hn]
    rw [View.readAt_full, ih.2, View.readAt_eq_ld, harg8.read_unread]
    rw [acc, dif_pos (show n < (k0_t1_loop i).trips from hn)]
    refine ⟨rfl, ?_⟩
    exact (View.read_writes_full _ _ _ _ _).trans rfl

end States

end Cert.AttnLoops

end
-- ==== Proof.AttnOut.lean ====
/- The attention kernel's output block as a function of the input blocks alone. -/
module

public import proofs.«01_k».proof.Proof.AttnLoops
public import proofs.«01_k».proof.Proof.Gen.Attn.Loops
public import proofs.«01_k».proof.Proof.Gen.Attn.Skeleton
public import Idealize.ShloMosaic.Lib.Pipeline.Value

@[expose] public section

set_option maxRecDepth 16384

noncomputable section

namespace Cert.AttnOut

open Cert.AttnRun Cert.AttnLoops Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The maximum subtracted in the exponent, from the scores' maximum (scaled) and the sink. -/
def mx (v33 : FVec F S1x512 .f32) (v35 : F .f32) : FVec F S1x512 .f32 := k0_pay23 v33 v35

/-- Where the probabilities' maximum, over 448, is below the smallest normal number. -/
def low (v33 : FVec F S1x512 .f32) (v35 : F .f32) : IVec S1x512 1 := k0_pay25 v33 v35

/-- The reciprocal of the probabilities' scale, before the small case. -/
def inv (v33 : FVec F S1x512 .f32) (v35 : F .f32) : FVec F S1x512 .f32 :=
  k0_pay44 (k0_pay24 v33 v35) (k0_pay32 v33 v35) (k0_pay33 v33 v35) (k0_pay34 v33 v35) (k0_pay35 v33 v35)

/-- The probabilities' scale. -/
def psc (v33 : FVec F S1x512 .f32) (v35 : F .f32) : FVec F S1x512 .f32 :=
  k0_pay45 (k0_pay24 v33 v35) (k0_pay25 v33 v35) (k0_pay32 v33 v35) (k0_pay34 v33 v35) (k0_pay35 v33 v35)

/-- The output block, from the two sums. -/
def fin (v33 : FVec F S1x512 .f32) (v35 : F .f32) (l : FVec F S8x512 .f32) (o : FVec F S256x512 .f32) (v145 : Vec F S1x1x1 .f32) : FVec F S1x512x256 .bf16 :=
  k0_pay10 (k0_pay22 v35) (mx v33 v35) (psc v33 v35) l o v145

/-- The row of query scales of the head. -/
def qrow (i : grid0.Coords) (x5 : Vec F S1x16x512 .f32) : Vec F S1x1x512 .f32 :=
  View.ld x5 (Rect.unit (s := S1x16x512) (k0_off1 i) S1x1x512.size (k0_off1_inb i))

/-- The head's sink. -/
def sink (i : grid0.Coords) (x3 : Vec F S16 .f32) : F .f32 :=
  View.ld x3 (Rect.unit (s := S16) (k0_off8 i) S1.size (k0_off8_inb i)) (Shape.Idx.first numel1_S1.symm.le)

/-- The scale of the head's values. -/
def vsc (x9 : Vec F S1x8x256 .f32) : Vec F S1x1x1 .f32 :=
  View.ld x9 (Rect.unit (s := S1x8x256) ![0, 0, 0] S1x1x1.size inb_S1x8x256_S1x1x1_0_0_0)

/-- The scores' maximum, times the query's scale. -/
def smax (i : grid0.Coords) (x4 : Vec F S1x512x256 .fp8e4m3) (x5 : Vec F S1x16x512 .f32) (x6 : Vec F S1x4096x256 .fp8e4m3) (x7 : Vec F S1x4096x128 .f32) : FVec F S1x512 .f32 :=
  k0_pay21 (qrow i x5) (car i x4 x6 x7 (k0_t1_loop i).trips)

/-- The two sums, at the end. -/
def sums (i : grid0.Coords) (x3 : Vec F S16 .f32) (x4 : Vec F S1x512x256 .fp8e4m3) (x5 : Vec F S1x16x512 .f32) (x6 : Vec F S1x4096x256 .fp8e4m3) (x7 : Vec F S1x4096x128 .f32) (x8 : Vec F S1x4096x256 .fp8e4m3) : FVec F S8x512 .f32 × FVec F S256x512 .f32 :=
  acc i x4 x6 x7 x8 (k0_pay12 (qrow i x5)) (mx (smax i x4 x5 x6 x7) (sink i x3)) (low (smax i x4 x5 x6 x7) (sink i x3))
    (inv (smax i x4 x5 x6 x7) (sink i x3)) (Scalar.ofBits .f32 0x3F800000#32) (k0_t1_loop i).trips

/-- THE OUTPUT BLOCK at a grid point, from the input blocks alone. -/
def out (i : grid0.Coords) (x3 : Vec F S16 .f32) (x4 : Vec F S1x512x256 .fp8e4m3) (x5 : Vec F S1x16x512 .f32) (x6 : Vec F S1x4096x256 .fp8e4m3) (x7 : Vec F S1x4096x128 .f32) (x8 : Vec F S1x4096x256 .fp8e4m3) (x9 : Vec F S1x8x256 .f32) : FVec F S1x512x256 .bf16 :=
  fin (smax i x4 x5 x6 x7) (sink i x3) (sums i x3 x4 x5 x6 x7 x8).1 (sums i x3 x4 x5 x6 x7 x8).2 (vsc x9)

section Run

variable (c : Dev nD) (i : grid0.Coords) (arg3 : Memref sig .tc .smem S16 .f32) (harg3 : arg3.IsWhole) (arg4 : Memref sig .tc .vmem S1x512x256 .fp8e4m3) (harg4 : arg4.IsWhole) (arg5 : Memref sig .tc .vmem S1x16x512 .f32) (harg5 : arg5.IsWhole) (arg6 : Memref sig .tc .vmem S1x4096x256 .fp8e4m3) (harg6 : arg6.IsWhole) (arg7 : Memref sig .tc .vmem S1x4096x128 .f32) (harg7 : arg7.IsWhole) (arg8 : Memref sig .tc .vmem S1x4096x256 .fp8e4m3) (harg8 : arg8.IsWhole) (arg9 : Memref sig .tc .vmem S1x8x256 .f32) (harg9 : arg9.IsWhole) (arg10 : Memref sig .tc .vmem S1x512x256 .bf16) (harg10 : arg10.IsWhole) (arg11 : Memref sig .tc .vmem S4096x512 .f32) (harg11 : arg11.IsWhole) (arg12 : Memref sig .tc .vmem S256x512 .f32) (harg12 : arg12.IsWhole)
    (x3 : Vec F S16 .f32) (x4 : Vec F S1x512x256 .fp8e4m3) (x5 : Vec F S1x16x512 .f32) (x6 : Vec F S1x4096x256 .fp8e4m3) (x7 : Vec F S1x4096x128 .f32) (x8 : Vec F S1x4096x256 .fp8e4m3) (x9 : Vec F S1x8x256 .f32)
    (f11 : BufTy.Contents (Elt F) arg11.view.ty) (f12 : BufTy.Contents (Elt F) arg12.view.ty)

set_option maxHeartbeats 1000000 in
theorem run_mid : (kernelRun (F := F) c i arg3 harg3 arg4 harg4 arg5 harg5 arg6 harg6 arg7 harg7 arg8 harg8 arg9 harg9 arg10 harg10 arg11 harg11 arg12 harg12 x3 x4 x5 x6 x7 x8 x9 f11 f12).1 = [⟨Rect.unit (s := S1x512x256) ![0, 0, 0] S1x512x256.size inb_S1x512x256_S1x512x256_0_0_0,
        fin (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le)) (st_k0_t4 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk ((st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).2 ++ [(⟨Rect.unit (s := S256x512) ![0, 0] S256x512.size inb_S256x512_S256x512_0_0, k0_pay2⟩ : View.Piece (Elt F) S256x512 .f32)])) (st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).1 (k0_t4_loop i).trips).1 (arg12.view.readCov ((st_k0_t4 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk ((st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).2 ++ [(⟨Rect.unit (s := S256x512) ![0, 0] S256x512.size inb_S256x512_S256x512_0_0, k0_pay2⟩ : View.Piece (Elt F) S256x512 .f32)])) (st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).1 (k0_t4_loop i).trips).2 ++ ((st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).2 ++ [(⟨Rect.unit (s := S256x512) ![0, 0] S256x512.size inb_S256x512_S256x512_0_0, k0_pay2⟩ : View.Piece (Elt F) S256x512 .f32)])) (Rect.unit (s := S256x512) ![0, 0] S256x512.size inb_S256x512_S256x512_0_0).toLoadRect) (View.readAt (Elt F) arg9.view (Rect.unit (s := S1x8x256) ![0, 0, 0] S1x1x1.size inb_S1x8x256_S1x1x1_0_0_0).toLoadRect (harg9.unread x9))⟩] := by
  unfold kernelRun
  rfl

theorem hz3 : (![0, 0, 0] : Fin 3 → ℕ) = fun _ => 0 := by decide
theorem hz2 : (![0, 0] : Fin 2 → ℕ) = fun _ => 0 := by decide

theorem st2_eq (v0 : Vec F S1x512x256 .fp8e4m3) (X6 : BufTy.Contents (Elt F) arg6.view.ty) (X7 : BufTy.Contents (Elt F) arg7.view.ty) (a : FVec F S8x512 .f32) :
    st_k0_t2 (F := F) Variants.none c none i arg3 harg3 arg4 harg4 arg5 harg5 arg6 harg6 arg7 harg7 arg8 harg8 arg9 harg9 arg10 harg10 arg11 harg11 arg12 harg12 v0 X6 X7 a (k0_t2_loop i).trips = (a, []) := by
  rw [trips2]; rfl

theorem st4_eq (v6 v38 : FVec F S1x512 .f32) (v44 : IVec S1x512 1) (v118 : FVec F S1x512 .f32) (cst_48 : F .f32) (X8 : BufTy.Contents (Elt F) arg8.view.ty) (X11 : BufTy.Contents (Elt F) arg11.view.ty) (G : BufTy.Contents (Elt F) arg12.view.ty) (a : FVec F S8x512 .f32) :
    st_k0_t4 (F := F) Variants.none c none i arg3 harg3 arg4 harg4 arg5 harg5 arg6 harg6 arg7 harg7 arg8 harg8 arg9 harg9 arg10 harg10 arg11 harg11 arg12 harg12 v6 v38 v44 v118 cst_48 X8 X11 G a (k0_t4_loop i).trips = (a, []) := by
  rw [trips4]; rfl

theorem run_eq : (kernelRun (F := F) c i arg3 harg3 arg4 harg4 arg5 harg5 arg6 harg6 arg7 harg7 arg8 harg8 arg9 harg9 arg10 harg10 arg11 harg11 arg12 harg12 x3 x4 x5 x6 x7 x8 x9 f11 f12).1
    = [⟨Rect.unit (s := S1x512x256) ![0, 0, 0] S1x512x256.size inb_S1x512x256_S1x512x256_0_0_0, out i x3 x4 x5 x6 x7 x8 x9⟩] := by
  rw [run_mid]
  simp only [View.readAt_eq_ld, harg3.read_unread, harg4.read_unread, harg5.read_unread, harg9.read_unread]
  simp only [View.ld_unit_zero (S := S1x512x256) hz3]
  rw [st1_eq c i arg3 harg3 arg4 harg4 arg5 harg5 arg6 harg6 arg7 harg7 arg8 harg8 arg9 harg9 arg10 harg10 arg11 harg11 arg12 harg12 _ _ _ _ le_rfl]
  rw [st2_eq, st4_eq]
  dsimp only
  rw [List.nil_append, List.nil_append]
  have h3 := st3_eq c i arg3 harg3 arg4 harg4 arg5 harg5 arg6 harg6 arg7 harg7 arg8 harg8 arg9 harg9 arg10 harg10 arg11 harg11 arg12 harg12 x4 x6 x7 x8 (k0_pay12 (qrow i x5)) (mx (smax i x4 x5 x6 x7) (sink i x3)) (low (smax i x4 x5 x6 x7) (sink i x3))
    (inv (smax i x4 x5 x6 x7) (sink i x3)) (Scalar.ofBits .f32 0x3F800000#32) f11 (arg12.view.writes (Elt F) arg12.view.junk [(⟨Rect.unit (s := S256x512) ![0, 0] S256x512.size inb_S256x512_S256x512_0_0, k0_pay2⟩ : View.Piece (Elt F) S256x512 .f32)])
    (View.read_writes_full _ _ _ _ _) _ le_rfl
  rw [show ∀ L (B : LoadRect S256x512), arg12.view.readCov (Val := Elt F) (L ++ [(⟨Rect.unit (s := S256x512) ![0, 0] S256x512.size inb_S256x512_S256x512_0_0, k0_pay2⟩ : View.Piece (Elt F) S256x512 .f32)]) B = View.readAt (Elt F) arg12.view B (arg12.view.writes (Elt F) (arg12.view.writes (Elt F) arg12.view.junk [(⟨Rect.unit (s := S256x512) ![0, 0] S256x512.size inb_S256x512_S256x512_0_0, k0_pay2⟩ : View.Piece (Elt F) S256x512 .f32)]) L) from fun L B => by rw [← View.writes_append]; rfl]
  rw [View.readAt_full]
  unfold out sums
  rw [trips3] at h3
  rw [← h3.1, ← h3.2]
  rfl

end Run

end Cert.AttnOut

end
-- ==== Proof.AttnFrame.lean ====
/- The frame of the attention kernel: the body's run at every grid point, and the launch. -/
module

public import proofs.«01_k».proof.Proof.AttnOut
public import proofs.«01_k».proof.Proof.Gen.Attn.Frame
public import Idealize.ShloMosaic.Lib.Claim

@[expose] public section

set_option maxRecDepth 16384

noncomputable section

namespace Cert.AttnFrame

open Cert.AttnRun Cert.AttnOut Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The staging memrefs and the scratch -/

abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .bf16 := win0_7.stage (cfg0.slots t 7)
abbrev hs0_7 (t : Fin cfg0.N) : (ms0_7 t).IsWhole := hstage0_7 ((cfg0.slots t 7).cast nbuf0_7)
abbrev scM0_0 : Memref sig .tc .vmem S4096x512 .f32 := Memref.whole cc0_scratch0
abbrev scM0_1 : Memref sig .tc .vmem S256x512 .f32 := Memref.whole cc0_scratch1

/-- The region's invariant: the two scratch buffers at anything, and the generator register at some state. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- A points-to over a memref's whole view is the memref owned at what it reads. -/
theorem owns_of_ptr {sp : Space} {S : Shape} {e : EltTy} (c : Dev nD) (a : Memref sig .tc sp S e) (f : BufTy.Contents (Elt F) a.view.ty) :
    (a.view.loc (c : Thread nD τ) ↦[a.view.set]{fullShare} f : sProp (MT nD τ sig Unit (Elt F) ℕ (UR sig nD τ) ℕ)) ⊢ owns (c : Thread nD τ) a fullShare (a.view.read (Elt F) f) := by
  unfold owns
  iintro H
  iexists f; isplitr
  swap; · iexact H
  ipureintro; rfl

/-- and back. -/
theorem ptr_of_owns {sp : Space} {S : Shape} {e : EltTy} (c : Dev nD) (a : Memref sig .tc sp S e) (d : S.Idx → Elt F e) :
    owns (c : Thread nD τ) a fullShare d ⊢ (iprop(∃ f, a.view.loc (c : Thread nD τ) ↦[a.view.set]{fullShare} f) : sProp (MT nD τ sig Unit (Elt F) ℕ (UR sig nD τ) ℕ)) := by
  unfold owns
  iintro ⟨%f, -, H⟩
  iexists f; iexact H

/-- What the output window's buffer holds after the body at point `t`. -/
def outAt (c : Dev nD) (t : Fin cfg0.N) : FVec F S1x512x256 .bf16 := out (grid0.coords t) (iblk m c 0 t) (iblk m c 1 t) (iblk m c 2 t) (iblk m c 3 t) (iblk m c 4 t) (iblk m c 5 t) (iblk m c 6 t)

/-- The proof data: the arrays as launched, every input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: from the inputs' blocks the run leaves the output's buffer at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [show cfg0.idle 5 (grid0.coords t) = false from rfl], after0_5]
  rw [show (dats m 0 c).leavesExact 6 t = owns (c : Thread nD τ) (ms0_6 t) fullShare ((dats m 0 c).after 6 t) from by
    unfold Dat.leavesExact; rw [show cfg0.idle 6 (grid0.coords t) = false from rfl], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  unfold outAt
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP0 := (ptr_of_owns c scM0_0 s0) $$ HS0
  ihave HP1 := (ptr_of_owns c scM0_1 s1) $$ HS1
  icases HP0 with ⟨%g0, HS0⟩
  icases HP1 with ⟨%g1, HS1⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) g0 g1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%e0, HS0⟩, ⟨%e1, HS1⟩⟩
  isplitl [HS0 HS1 Hg]
  · isplitl [HS0 HS1]
    · isplitl [HS0]
      · iexists _; iapply (owns_of_ptr c scM0_0 e0); iexact HS0
      · iexists _; iapply (owns_of_ptr c scM0_1 e1); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [run_eq]
  unfold owns; iexists _; isplitr
  swap; · iexact H7
  ipureintro; exact View.read_writes_full _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = Pipeline.ΦA spec0 c from rfl]
  try exact Idealize.SL.BI.Entails.refl _

/-! ## The run and the frame -/

set_option backward.isDefEq.respectTransparency.types false in
/-- The launch: every array of the pipeline ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.AttnFrame

end
-- ==== Proof.AttnIdealRun.lean ====
/- The idealized attention kernel's body, run over its skeleton: what the output block ends with, as the pieces the
   body's stores leave, from any contents of the two scratch arrays. -/
module

public import proofs.«01_k».proof.Proof.Gen.AttnIdeal.Frame
public import proofs.«01_k».proof.Proof.Gen.AttnIdeal.Loops
public import proofs.«01_k».proof.Proof.Gen.AttnIdeal.Skeleton

@[expose] public section

set_option maxRecDepth 16384

noncomputable section

namespace Cert.AttnIdealRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 2000000 in
/-- The body from whole staging buffers holding the blocks `x3 … x9`, any output buffer and scratch arrays holding
    `f11`, `f12`: it ends with the inputs as they were, the scratch at something, and the output buffer with the
    pieces of the run written. -/
noncomputable def kernelRun (c : Dev nD) (i : grid0.Coords) (arg3 : Memref sig .tc .smem S16 .f32) (harg3 : arg3.IsWhole) (arg4 : Memref sig .tc .vmem S1x512x256 .fp8e4m3) (harg4 : arg4.IsWhole) (arg5 : Memref sig .tc .vmem S1x16x512 .f32) (harg5 : arg5.IsWhole) (arg6 : Memref sig .tc .vmem S1x4096x256 .fp8e4m3) (harg6 : arg6.IsWhole) (arg7 : Memref sig .tc .vmem S1x4096x128 .f32) (harg7 : arg7.IsWhole) (arg8 : Memref sig .tc .vmem S1x4096x256 .fp8e4m3) (harg8 : arg8.IsWhole) (arg9 : Memref sig .tc .vmem S1x8x256 .f32) (harg9 : arg9.IsWhole) (arg10 : Memref sig .tc .vmem S1x512x256 .bf16) (harg10 : arg10.IsWhole) (arg11 : Memref sig .tc .vmem S4096x512 .f32) (harg11 : arg11.IsWhole) (arg12 : Memref sig .tc .vmem S256x512 .f32) (harg12 : arg12.IsWhole)
    (x3 : Vec F S16 .f32) (x4 : Vec F S1x512x256 .fp8e4m3) (x5 : Vec F S1x16x512 .f32) (x6 : Vec F S1x4096x256 .fp8e4m3) (x7 : Vec F S1x4096x128 .f32) (x8 : Vec F S1x4096x256 .fp8e4m3) (x9 : Vec F S1x8x256 .f32)
    (f11 : BufTy.Contents (Elt F) arg11.view.ty) (f12 : BufTy.Contents (Elt F) arg12.view.ty) :
    { L10 : List (View.Piece (Elt F) S1x512x256 .bf16) //
      ∀ (E : Set ℕ) (K : PUnit → sProp (MT nD τ sig Unit (Elt F) ℕ (UR sig nD τ) ℕ)),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ d, owns (c : Thread nD τ) arg10 fullShare d)
            ∗ (arg11.view.loc (c : Thread nD τ) ↦[arg11.view.set]{fullShare} f11)
            ∗ (arg12.view.loc (c : Thread nD τ) ↦[arg12.view.set]{fullShare} f12)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ (∃ f, arg10.view.loc (c : Thread nD τ) ↦[arg10.view.set]{fullShare} arg10.view.writes (Elt F) f L10)
                ∗ (∃ f, arg11.view.loc (c : Thread nD τ) ↦[arg11.view.set]{fullShare} f)
                ∗ (∃ f, arg12.view.loc (c : Thread nD τ) ↦[arg12.view.set]{fullShare} f)) -∗ K ⟨⟩))
          ⊢ wp frame (wpE (defs₀ (F := F)) Variants.none c none) E (cc0_attn i arg3 harg3 arg4 harg4 arg5 harg5 arg6 harg6 arg7 harg7 arg8 harg8 arg9 harg9 arg10 harg10 arg11 harg11 arg12 harg12) K } := by
  refine ⟨?_, fun E K => ?run⟩
  case run =>
    simp only [cc0_attn_eq_skeleton]; unfold cc0_attn_skel
    simp only [k0_part1_eq_skeleton, k0_part2_eq_skeleton, k0_part3_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, H11, H12, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _; iexact H12

end Cert.AttnIdealRun

end
-- ==== Proof.AttnIdealLoops.lean ====
/- The idealized attention kernel's two loops in closed form: which chunks they visit, and what the carried values and
   the two scratch arrays hold before each trip. -/
module

public import proofs.«01_k».proof.Proof.AttnIdealRun
public import proofs.«01_k».proof.Proof.Gen.AttnIdeal.Loops
public import proofs.«01_k».proof.Proof.Gen.AttnIdeal.Skeleton

public import Idealize.ShloMosaic.Lib.VecWindow

@[expose] public section

set_option maxRecDepth 16384

noncomputable section

namespace Cert.AttnIdealLoops

open Cert.AttnIdealRun Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The chunks visited -/

/-- The first chunk visited, as the kernel computes it from the head and the row block. -/
def lo32 (h j : ℕ) : BitVec 32 :=
  let arg1 : BitVec 32 := BitVec.ofNat 32 h
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_7 : BitVec 32 := 1#32
  let v17 : BitVec 1 := Scalar.cmpi .eq v16 c1_i32_7
  let arg2 : BitVec 32 := BitVec.ofNat 32 j
  let c2_i32_8 : BitVec 32 := 2#32
  let v18 : BitVec 32 := Scalar.subi arg2 c2_i32_8
  let c0_i32_9 : BitVec 32 := 0#32
  let v19 : BitVec 32 := Scalar.maxsi v18 c0_i32_9
  let c0_i32_10 : BitVec 32 := 0#32
  let v20 : BitVec 32 := Scalar.select v17 v19 c0_i32_10
  v20

/-- The first chunk visited: two before the row block for an odd head, the first for an even one. -/
def lo (i : grid0.Coords) : ℕ := if (i 1).val % 2 = 1 then (i 2).val - 2 else 0

theorem lo32_eq (i : grid0.Coords) : lo32 (i 1).val (i 2).val = BitVec.ofNat 32 (lo i) := by
  have h : ∀ (h : Fin 16) (j : Fin 8), lo32 h.val j.val = BitVec.ofNat 32 (if h.val % 2 = 1 then j.val - 2 else 0) := by decide +kernel
  exact h ⟨(i 1).val, (i 1).isLt⟩ ⟨(i 2).val, (i 2).isLt⟩

theorem lo_le (i : grid0.Coords) : lo i ≤ (i 2).val := by unfold lo; split <;> omega

theorem trips1 (i : grid0.Coords) : (k0_t1_loop i).trips = (i 2).val + 1 - lo i := by
  have h : ∀ (h : Fin 16) (j : Fin 8), Scf.trips (lo32 h.val j.val) (Scalar.addi (lo32 h.val j.val) (Scalar.muli (Scalar.divsi (Scalar.subi (Scalar.addi (BitVec.ofNat 32 j.val) 1#32) (lo32 h.val j.val)) 1#32) 1#32)) 1#32 = j.val + 1 - (if h.val % 2 = 1 then j.val - 2 else 0) := by decide +kernel
  exact h ⟨(i 1).val, (i 1).isLt⟩ ⟨(i 2).val, (i 2).isLt⟩

theorem trips2 (i : grid0.Coords) : (k0_t2_loop i).trips = 0 := Nat.le_zero.mp (k0_t2_abs i).2.1
theorem trips3 (i : grid0.Coords) : (k0_t3_loop i).trips = (k0_t1_loop i).trips := rfl
theorem trips4 (i : grid0.Coords) : (k0_t4_loop i).trips = 0 := Nat.le_zero.mp (k0_t4_abs i).2.1

/-- The chunk of a trip. -/
theorem chunk_toNat (i : grid0.Coords) (k : ℕ) (hk : k < 8) :
    (Scalar.muli (Scf.iv (lo32 (i 1).val (i 2).val) 1#32 k) 512#32).toNat = 512 * (lo i + k) := by
  have h : ∀ (h : Fin 16) (j : Fin 8) (k : Fin 8), (Scalar.muli (Scf.iv (lo32 h.val j.val) 1#32 k.val) 512#32).toNat = 512 * ((if h.val % 2 = 1 then j.val - 2 else 0) + k.val) := by decide +kernel
  exact h ⟨(i 1).val, (i 1).isLt⟩ ⟨(i 2).val, (i 2).isLt⟩ ⟨k, hk⟩

theorem lt8 {i : grid0.Coords} (k : Fin (k0_t1_loop i).trips) : k.val < 8 := Nat.lt_of_lt_of_le k.isLt (k0_t1_abs i).2.1

theorem off2_eq (i : grid0.Coords) (k : Fin (k0_t1_loop i).trips) : k0_off2 i k = ![0, 512 * (lo i + k.val), 0] := by
  rw [← chunk_toNat i k.val (lt8 k)]; rfl
theorem off3_eq (i : grid0.Coords) (k : Fin (k0_t1_loop i).trips) : k0_off3 i k = ![0, 512 * (lo i + k.val), 0] := by
  rw [← chunk_toNat i k.val (lt8 k)]; rfl
theorem off4_eq (i : grid0.Coords) (k : Fin (k0_t1_loop i).trips) : k0_off4 i k = ![512 * (lo i + k.val), 0] := by
  rw [← chunk_toNat i k.val (lt8 k)]; rfl
theorem off9_eq (i : grid0.Coords) (k : Fin (k0_t1_loop i).trips) : k0_off9 i k = ![512 * (lo i + k.val), 0] := by
  rw [← chunk_toNat i k.val (lt8 k)]; rfl
theorem off10_eq (i : grid0.Coords) (k : Fin (k0_t1_loop i).trips) : k0_off10 i k = ![0, 512 * (lo i + k.val), 0] := by
  rw [← chunk_toNat i k.val (lt8 k)]; rfl

/-! ## One trip -/

section Trips

variable (c : Dev nD) (i : grid0.Coords) (arg3 : Memref sig .tc .smem S16 .f32) (harg3 : arg3.IsWhole) (arg4 : Memref sig .tc .vmem S1x512x256 .fp8e4m3) (harg4 : arg4.IsWhole) (arg5 : Memref sig .tc .vmem S1x16x512 .f32) (harg5 : arg5.IsWhole) (arg6 : Memref sig .tc .vmem S1x4096x256 .fp8e4m3) (harg6 : arg6.IsWhole) (arg7 : Memref sig .tc .vmem S1x4096x128 .f32) (harg7 : arg7.IsWhole) (arg8 : Memref sig .tc .vmem S1x4096x256 .fp8e4m3) (harg8 : arg8.IsWhole) (arg9 : Memref sig .tc .vmem S1x8x256 .f32) (harg9 : arg9.IsWhole) (arg10 : Memref sig .tc .vmem S1x512x256 .bf16) (harg10 : arg10.IsWhole) (arg11 : Memref sig .tc .vmem S4096x512 .f32) (harg11 : arg11.IsWhole) (arg12 : Memref sig .tc .vmem S256x512 .f32) (harg12 : arg12.IsWhole)

theorem tripR1 (v0 : Vec F S1x512x256 .fp8e4m3) (X6 : BufTy.Contents (Elt F) arg6.view.ty) (X7 : BufTy.Contents (Elt F) arg7.view.ty) (k : Fin (k0_t1_loop i).trips) (acc : FVec F S8x512 .f32) :
    tripR_k0_t1 (F := F) Variants.none c none i arg3 harg3 arg4 harg4 arg5 harg5 arg6 harg6 arg7 harg7 arg8 harg8 arg9 harg9 arg10 harg10 arg11 harg11 arg12 harg12 v0 X6 X7 k acc
      = k0_pay17 i v0 k acc (View.readAt (Elt F) arg6.view (Rect.unit (s := S1x4096x256) (k0_off2 i k) S1x512x256.size (k0_off2_inb i k)).toLoadRect X6)
          (View.readAt (Elt F) arg7.view (Rect.unit (s := S1x4096x128) (k0_off3 i k) S1x512x128.size (k0_off3_inb i k)).toLoadRect X7) := by
  unfold tripR_k0_t1 trip_k0_t1; rfl

theorem tripL1 (v0 : Vec F S1x512x256 .fp8e4m3) (X6 : BufTy.Contents (Elt F) arg6.view.ty) (X7 : BufTy.Contents (Elt F) arg7.view.ty) (k : Fin (k0_t1_loop i).trips) (acc : FVec F S8x512 .f32) :
    tripL_k0_t1 (F := F) Variants.none c none i arg3 harg3 arg4 harg4 arg5 harg5 arg6 harg6 arg7 harg7 arg8 harg8 arg9 harg9 arg10 harg10 arg11 harg11 arg12 harg12 v0 X6 X7 k acc
      = [⟨Rect.unit (s := S4096x512) (k0_off4 i k) S512x512.size (k0_off4_inb i k), k0_pay16 i v0 k (View.readAt (Elt F) arg6.view (Rect.unit (s := S1x4096x256) (k0_off2 i k) S1x512x256.size (k0_off2_inb i k)).toLoadRect X6)
          (View.readAt (Elt F) arg7.view (Rect.unit (s := S1x4096x128) (k0_off3 i k) S1x512x128.size (k0_off3_inb i k)).toLoadRect X7)⟩] := by
  unfold tripL_k0_t1 trip_k0_t1; rfl

theorem tripR3 (v6 v38 : FVec F S1x512 .f32) (v44 : IVec S1x512 1) (v118 : FVec F S1x512 .f32) (cst_48 : F .f32) (X8 : BufTy.Contents (Elt F) arg8.view.ty) (X11 : BufTy.Contents (Elt F) arg11.view.ty) (k : Fin (k0_t3_loop i).trips) (acc : FVec F S8x512 .f32) (f12 : BufTy.Contents (Elt F) arg12.view.ty) :
    tripR_k0_t3 (F := F) Variants.none c none i arg3 harg3 arg4 harg4 arg5 harg5 arg6 harg6 arg7 harg7 arg8 harg8 arg9 harg9 arg10 harg10 arg11 harg11 arg12 harg12 v6 v38 v44 v118 cst_48 X8 X11 k acc f12
      = k0_pay5 v6 v38 acc (View.readAt (Elt F) arg11.view (Rect.unit (s := S4096x512) (k0_off9 i k) S512x512.size (k0_off9_inb i k)).toLoadRect X11) := by
  unfold tripR_k0_t3 trip_k0_t3; rfl

theorem tripL3 (v6 v38 : FVec F S1x512 .f32) (v44 : IVec S1x512 1) (v118 : FVec F S1x512 .f32) (cst_48 : F .f32) (X8 : BufTy.Contents (Elt F) arg8.view.ty) (X11 : BufTy.Contents (Elt F) arg11.view.ty) (k : Fin (k0_t3_loop i).trips) (acc : FVec F S8x512 .f32) (f12 : BufTy.Contents (Elt F) arg12.view.ty) :
    tripL_k0_t3 (F := F) Variants.none c none i arg3 harg3 arg4 harg4 arg5 harg5 arg6 harg6 arg7 harg7 arg8 harg8 arg9 harg9 arg10 harg10 arg11 harg11 arg12 harg12 v6 v38 v44 v118 cst_48 X8 X11 k acc f12
      = [⟨Rect.unit (s := S256x512) ![0, 0] S256x512.size inb_S256x512_S256x512_0_0, k0_pay6 v6 v38 v44 v118 cst_48
          (View.readAt (Elt F) arg11.view (Rect.unit (s := S4096x512) (k0_off9 i k) S512x512.size (k0_off9_inb i k)).toLoadRect X11)
          (View.readAt (Elt F) arg12.view (Rect.unit (s := S256x512) ![0, 0] S256x512.size inb_S256x512_S256x512_0_0).toLoadRect f12)
          (View.readAt (Elt F) arg8.view (Rect.unit (s := S1x4096x256) (k0_off10 i k) S1x512x256.size (k0_off10_inb i k)).toLoadRect X8)⟩] := by
  unfold tripL_k0_t3 trip_k0_t3; rfl

end Trips

/-! ## The loops' states -/

/-- The chunk a trip reads from an array of key or value codes. -/
def kblk (i : grid0.Coords) (x : Vec F S1x4096x256 .fp8e4m3) (k : Fin (k0_t1_loop i).trips) : Vec F S1x512x256 .fp8e4m3 :=
  View.ld x (Rect.unit (s := S1x4096x256) (k0_off2 i k) S1x512x256.size (k0_off2_inb i k))

/-- The chunk a trip reads from the key scales. -/
def cblk (i : grid0.Coords) (x : Vec F S1x4096x128 .f32) (k : Fin (k0_t1_loop i).trips) : Vec F S1x512x128 .f32 :=
  View.ld x (Rect.unit (s := S1x4096x128) (k0_off3 i k) S1x512x128.size (k0_off3_inb i k))

/-- The scaled and masked scores of the trip's chunk (not yet scaled by the query's scale). -/
def ych (i : grid0.Coords) (v0 : Vec F S1x512x256 .fp8e4m3) (x6 : Vec F S1x4096x256 .fp8e4m3) (x7 : Vec F S1x4096x128 .f32)
    (k : Fin (k0_t1_loop i).trips) : FVec F S512x512 .f32 := k0_pay16 i v0 k (kblk i x6 k) (cblk i x7 k)

/-- The running maximum before trip `n` of the first loop. -/
def car (i : grid0.Coords) (v0 : Vec F S1x512x256 .fp8e4m3) (x6 : Vec F S1x4096x256 .fp8e4m3) (x7 : Vec F S1x4096x128 .f32) : ℕ → FVec F S8x512 .f32
  | 0 => k0_pay14
  | n + 1 => if h : n < (k0_t1_loop i).trips then k0_pay17 i v0 ⟨n, h⟩ (car i v0 x6 x7 n) (kblk i x6 ⟨n, h⟩) (cblk i x7 ⟨n, h⟩) else car i v0 x6 x7 n

/-- The score chunks stored before trip `n`, last first. -/
def pcs (i : grid0.Coords) (v0 : Vec F S1x512x256 .fp8e4m3) (x6 : Vec F S1x4096x256 .fp8e4m3) (x7 : Vec F S1x4096x128 .f32) : ℕ → List (View.Piece (Elt F) S4096x512 .f32)
  | 0 => []
  | n + 1 => if h : n < (k0_t1_loop i).trips then
      ⟨Rect.unit (s := S4096x512) (k0_off4 i ⟨n, h⟩) S512x512.size (k0_off4_inb i ⟨n, h⟩), ych i v0 x6 x7 ⟨n, h⟩⟩ :: pcs i v0 x6 x7 n
    else pcs i v0 x6 x7 n

/-- The sum of the probabilities, and the weighted sum of the values, before trip `n` of the second loop. -/
def acc (i : grid0.Coords) (v0 : Vec F S1x512x256 .fp8e4m3) (x6 : Vec F S1x4096x256 .fp8e4m3) (x7 : Vec F S1x4096x128 .f32) (x8 : Vec F S1x4096x256 .fp8e4m3)
    (v6 v38 : FVec F S1x512 .f32) (v44 : IVec S1x512 1) (v118 : FVec F S1x512 .f32) (cst_48 : F .f32) : ℕ → FVec F S8x512 .f32 × FVec F S256x512 .f32
  | 0 => (k0_pay3, k0_pay2)
  | n + 1 => if h : n < (k0_t1_loop i).trips then
      (k0_pay5 v6 v38 (acc i v0 x6 x7 x8 v6 v38 v44 v118 cst_48 n).1 (ych i v0 x6 x7 ⟨n, h⟩),
       k0_pay6 v6 v38 v44 v118 cst_48 (ych i v0 x6 x7 ⟨n, h⟩) (acc i v0 x6 x7 x8 v6 v38 v44 v118 cst_48 n).2 (kblk i x8 ⟨n, h⟩))
    else acc i v0 x6 x7 x8 v6 v38 v44 v118 cst_48 n

/-- Each chunk stored before trip `n` is read back. -/
theorem pcs_apply (i : grid0.Coords) (arg11 : Memref sig .tc .vmem S4096x512 .f32) (v0 : Vec F S1x512x256 .fp8e4m3) (x6 : Vec F S1x4096x256 .fp8e4m3) (x7 : Vec F S1x4096x128 .f32) (k : Fin (k0_t1_loop i).trips) (f11 : BufTy.Contents (Elt F) arg11.view.ty) :
    ∀ n, n ≤ (k0_t1_loop i).trips → k.val < n →
      View.readAt (Elt F) arg11.view (Rect.unit (s := S4096x512) (k0_off9 i k) S512x512.size (k0_off9_inb i k)).toLoadRect
        (arg11.view.writes (Elt F) f11 (pcs i v0 x6 x7 n)) = ych i v0 x6 x7 k
  | 0, _, h => absurd h (Nat.not_lt_zero _)
  | n + 1, hn, hk => by
    rw [pcs, dif_pos (show n < (k0_t1_loop i).trips from hn)]
    funext j
    rw [View.readAt_apply]
    by_cases hkn : k.val = n
    · subst hkn
      exact View.read_writes_cons_emb _ _ (Rect.unit (s := S4096x512) (k0_off4 i k) S512x512.size (k0_off4_inb i k)) _ _ j
    · refine (View.read_writes_cons_miss_of_axis _ _ _ _ _ (0 : Fin 2) (512 * (lo i + n)) 512
        (by show k0_off4 i ⟨n, hn⟩ 0 = _; rw [off4_eq]; rfl) rfl rfl ?_).trans
        (congrFun (pcs_apply i arg11 v0 x6 x7 k f11 n (Nat.le_of_succ_le hn) (by omega)) j)
      have e2 : k0_off9 i k 0 = 512 * (lo i + k.val) := by rw [off9_eq]; rfl
      have h3 : (j 0).val < 512 := (j 0).isLt
      show k0_off9 i k 0 + 1 * (j 0).val < _ ∨ _ ≤ k0_off9 i k 0 + 1 * (j 0).val
      omega

section States

variable (c : Dev nD) (i : grid0.Coords) (arg3 : Memref sig .tc .smem S16 .f32) (harg3 : arg3.IsWhole) (arg4 : Memref sig .tc .vmem S1x512x256 .fp8e4m3) (harg4 : arg4.IsWhole) (arg5 : Memref sig .tc .vmem S1x16x512 .f32) (harg5 : arg5.IsWhole) (arg6 : Memref sig .tc .vmem S1x4096x256 .fp8e4m3) (harg6 : arg6.IsWhole) (arg7 : Memref sig .tc .vmem S1x4096x128 .f32) (harg7 : arg7.IsWhole) (arg8 : Memref sig .tc .vmem S1x4096x256 .fp8e4m3) (harg8 : arg8.IsWhole) (arg9 : Memref sig .tc .vmem S1x8x256 .f32) (harg9 : arg9.IsWhole) (arg10 : Memref sig .tc .vmem S1x512x256 .bf16) (harg10 : arg10.IsWhole) (arg11 : Memref sig .tc .vmem S4096x512 .f32) (harg11 : arg11.IsWhole) (arg12 : Memref sig .tc .vmem S256x512 .f32) (harg12 : arg12.IsWhole)

theorem st1_eq (v0 : Vec F S1x512x256 .fp8e4m3) (x6 : Vec F S1x4096x256 .fp8e4m3) (x7 : Vec F S1x4096x128 .f32) : ∀ n, n ≤ (k0_t1_loop i).trips →
    st_k0_t1 (F := F) Variants.none c none i arg3 harg3 arg4 harg4 arg5 harg5 arg6 harg6 arg7 harg7 arg8 harg8 arg9 harg9 arg10 harg10 arg11 harg11 arg12 harg12 v0 (harg6.unread x6) (harg7.unread x7) k0_pay14 n = (car i v0 x6 x7 n, pcs i v0 x6 x7 n)
  | 0, _ => rfl
  | n + 1, hn => by
    have ih := st1_eq v0 x6 x7 n (Nat.le_of_succ_le hn)
    refine (st_k0_t1_succ (F := F) Variants.none c none i arg3 harg3 arg4 harg4 arg5 harg5 arg6 harg6 arg7 harg7 arg8 harg8 arg9 harg9 arg10 harg10 arg11 harg11 arg12 harg12 v0 (harg6.unread x6) (harg7.unread x7) k0_pay14 ⟨n, hn⟩).trans ?_
    dsimp only
    rw [ih, tripR1, tripL1]
    rw [View.readAt_eq_ld, View.readAt_eq_ld, harg6.read_unread, harg7.read_unread]
    rw [car, pcs, dif_pos (show n < (k0_t1_loop i).trips from hn), dif_pos (show n < (k0_t1_loop i).trips from hn)]
    rfl

theorem st3_eq (v0 : Vec F S1x512x256 .fp8e4m3) (x6 : Vec F S1x4096x256 .fp8e4m3) (x7 : Vec F S1x4096x128 .f32) (x8 : Vec F S1x4096x256 .fp8e4m3)
    (v6 v38 : FVec F S1x512 .f32) (v44 : IVec S1x512 1) (v118 : FVec F S1x512 .f32) (cst_48 : F .f32) (f11 : BufTy.Contents (Elt F) arg11.view.ty) (G12 : BufTy.Contents (Elt F) arg12.view.ty)
    (hG : arg12.view.read (Elt F) G12 = k0_pay2) : ∀ n, n ≤ (k0_t3_loop i).trips →
    (st_k0_t3 (F := F) Variants.none c none i arg3 harg3 arg4 harg4 arg5 harg5 arg6 harg6 arg7 harg7 arg8 harg8 arg9 harg9 arg10 harg10 arg11 harg11 arg12 harg12 v6 v38 v44 v118 cst_48 (harg8.unread x8) (arg11.view.writes (Elt F) f11 (pcs i v0 x6 x7 (k0_t1_loop i).trips)) G12 k0_pay3 n).1
        = (acc i v0 x6 x7 x8 v6 v38 v44 v118 cst_48 n).1
      ∧ arg12.view.read (Elt F) (arg12.view.writes (Elt F) G12 (st_k0_t3 (F := F) Variants.none c none i arg3 harg3 arg4 harg4 arg5 harg5 arg6 harg6 arg7 harg7 arg8 harg8 arg9 harg9 arg10 harg10 arg11 harg11 arg12 harg12 v6 v38 v44 v118 cst_48 (harg8.unread x8) (arg11.view.writes (Elt F) f11 (pcs i v0 x6 x7 (k0_t1_loop i).trips)) G12 k0_pay3 n).2)
        = (acc i v0 x6 x7 x8 v6 v38 v44 v118 cst_48 n).2
  | 0, _ => ⟨rfl, hG⟩
  | n + 1, hn => by
    have ih := st3_eq v0 x6 x7 x8 v6 v38 v44 v118 cst_48 f11 G12 hG n (Nat.le_of_succ_le hn)
    rw [st_k0_t3_succ (F := F) Variants.none c none i arg3 harg3 arg4 harg4 arg5 harg5 arg6 harg6 arg7 harg7 arg8 harg8 arg9 harg9 arg10 harg10 arg11 harg11 arg12 harg12 v6 v38 v44 v118 cst_48 (harg8.unread x8) (arg11.view.writes (Elt F) f11 (pcs i v0 x6 x7 (k0_t1_loop i).trips)) G12 k0_pay3 ⟨n, hn⟩]
    dsimp only
    rw [tripR3, tripL3, ih.1]
    rw [pcs_apply i arg11 v0 x6 x7 ⟨n, hn⟩ f11 _ le_rfl hn]
    rw [View.readAt_full, ih.2, View.readAt_eq_ld, harg8.read_unread]
    rw [acc, dif_pos (show n < (k0_t1_loop i).trips from hn)]
    refine ⟨rfl, ?_⟩
    exact (View.read_writes_full _ _ _ _ _).trans rfl

end States

end Cert.AttnIdealLoops

end
-- ==== Proof.AttnIdealOut.lean ====
/- The idealized attention kernel's output block as a function of the input blocks alone. -/
module

public import proofs.«01_k».proof.Proof.AttnIdealLoops
public import proofs.«01_k».proof.Proof.Gen.AttnIdeal.Loops
public import proofs.«01_k».proof.Proof.Gen.AttnIdeal.Skeleton
public import Idealize.ShloMosaic.Lib.Pipeline.Value

@[expose] public section

set_option maxRecDepth 16384

noncomputable section

namespace Cert.AttnIdealOut

open Cert.AttnIdealRun Cert.AttnIdealLoops Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The maximum subtracted in the exponent, from the scores' maximum (scaled) and the sink. -/
def mx (v33 : FVec F S1x512 .f32) (v35 : F .f32) : FVec F S1x512 .f32 := k0_pay23 v33 v35

/-- Where the probabilities' maximum, over 448, is below the smallest normal number. -/
def low (v33 : FVec F S1x512 .f32) (v35 : F .f32) : IVec S1x512 1 := k0_pay25 v33 v35

/-- The reciprocal of the probabilities' scale, before the small case. -/
def inv (v33 : FVec F S1x512 .f32) (v35 : F .f32) : FVec F S1x512 .f32 :=
  k0_pay44 (k0_pay24 v33 v35) (k0_pay32 v33 v35) (k0_pay33 v33 v35) (k0_pay34 v33 v35) (k0_pay35 v33 v35)

/-- The probabilities' scale. -/
def psc (v33 : FVec F S1x512 .f32) (v35 : F .f32) : FVec F S1x512 .f32 :=
  k0_pay45 (k0_pay24 v33 v35) (k0_pay25 v33 v35) (k0_pay32 v33 v35) (k0_pay34 v33 v35) (k0_pay35 v33 v35)

/-- The output block, from the two sums. -/
def fin (v33 : FVec F S1x512 .f32) (v35 : F .f32) (l : FVec F S8x512 .f32) (o : FVec F S256x512 .f32) (v145 : Vec F S1x1x1 .f32) : FVec F S1x512x256 .bf16 :=
  k0_pay10 (k0_pay22 v35) (mx v33 v35) (psc v33 v35) l o v145

/-- The row of query scales of the head. -/
def qrow (i : grid0.Coords) (x5 : Vec F S1x16x512 .f32) : Vec F S1x1x512 .f32 :=
  View.ld x5 (Rect.unit (s := S1x16x512) (k0_off1 i) S1x1x512.size (k0_off1_inb i))

/-- The head's sink. -/
def sink (i : grid0.Coords) (x3 : Vec F S16 .f32) : F .f32 :=
  View.ld x3 (Rect.unit (s := S16) (k0_off8 i) S1.size (k0_off8_inb i)) (Shape.Idx.first numel1_S1.symm.le)

/-- The scale of the head's values. -/
def vsc (x9 : Vec F S1x8x256 .f32) : Vec F S1x1x1 .f32 :=
  View.ld x9 (Rect.unit (s := S1x8x256) ![0, 0, 0] S1x1x1.size inb_S1x8x256_S1x1x1_0_0_0)

/-- The scores' maximum, times the query's scale. -/
def smax (i : grid0.Coords) (x4 : Vec F S1x512x256 .fp8e4m3) (x5 : Vec F S1x16x512 .f32) (x6 : Vec F S1x4096x256 .fp8e4m3) (x7 : Vec F S1x4096x128 .f32) : FVec F S1x512 .f32 :=
  k0_pay21 (qrow i x5) (car i x4 x6 x7 (k0_t1_loop i).trips)

/-- The two sums, at the end. -/
def sums (i : grid0.Coords) (x3 : Vec F S16 .f32) (x4 : Vec F S1x512x256 .fp8e4m3) (x5 : Vec F S1x16x512 .f32) (x6 : Vec F S1x4096x256 .fp8e4m3) (x7 : Vec F S1x4096x128 .f32) (x8 : Vec F S1x4096x256 .fp8e4m3) : FVec F S8x512 .f32 × FVec F S256x512 .f32 :=
  acc i x4 x6 x7 x8 (k0_pay12 (qrow i x5)) (mx (smax i x4 x5 x6 x7) (sink i x3)) (low (smax i x4 x5 x6 x7) (sink i x3))
    (inv (smax i x4 x5 x6 x7) (sink i x3)) (Scalar.ofBits .f32 0x3F800000#32) (k0_t1_loop i).trips

/-- THE OUTPUT BLOCK at a grid point, from the input blocks alone. -/
def out (i : grid0.Coords) (x3 : Vec F S16 .f32) (x4 : Vec F S1x512x256 .fp8e4m3) (x5 : Vec F S1x16x512 .f32) (x6 : Vec F S1x4096x256 .fp8e4m3) (x7 : Vec F S1x4096x128 .f32) (x8 : Vec F S1x4096x256 .fp8e4m3) (x9 : Vec F S1x8x256 .f32) : FVec F S1x512x256 .bf16 :=
  fin (smax i x4 x5 x6 x7) (sink i x3) (sums i x3 x4 x5 x6 x7 x8).1 (sums i x3 x4 x5 x6 x7 x8).2 (vsc x9)

section Run

variable (c : Dev nD) (i : grid0.Coords) (arg3 : Memref sig .tc .smem S16 .f32) (harg3 : arg3.IsWhole) (arg4 : Memref sig .tc .vmem S1x512x256 .fp8e4m3) (harg4 : arg4.IsWhole) (arg5 : Memref sig .tc .vmem S1x16x512 .f32) (harg5 : arg5.IsWhole) (arg6 : Memref sig .tc .vmem S1x4096x256 .fp8e4m3) (harg6 : arg6.IsWhole) (arg7 : Memref sig .tc .vmem S1x4096x128 .f32) (harg7 : arg7.IsWhole) (arg8 : Memref sig .tc .vmem S1x4096x256 .fp8e4m3) (harg8 : arg8.IsWhole) (arg9 : Memref sig .tc .vmem S1x8x256 .f32) (harg9 : arg9.IsWhole) (arg10 : Memref sig .tc .vmem S1x512x256 .bf16) (harg10 : arg10.IsWhole) (arg11 : Memref sig .tc .vmem S4096x512 .f32) (harg11 : arg11.IsWhole) (arg12 : Memref sig .tc .vmem S256x512 .f32) (harg12 : arg12.IsWhole)
    (x3 : Vec F S16 .f32) (x4 : Vec F S1x512x256 .fp8e4m3) (x5 : Vec F S1x16x512 .f32) (x6 : Vec F S1x4096x256 .fp8e4m3) (x7 : Vec F S1x4096x128 .f32) (x8 : Vec F S1x4096x256 .fp8e4m3) (x9 : Vec F S1x8x256 .f32)
    (f11 : BufTy.Contents (Elt F) arg11.view.ty) (f12 : BufTy.Contents (Elt F) arg12.view.ty)

set_option maxHeartbeats 1000000 in
theorem run_mid : (kernelRun (F := F) c i arg3 harg3 arg4 harg4 arg5 harg5 arg6 harg6 arg7 harg7 arg8 harg8 arg9 harg9 arg10 harg10 arg11 harg11 arg12 harg12 x3 x4 x5 x6 x7 x8 x9 f11 f12).1 = [⟨Rect.unit (s := S1x512x256) ![0, 0, 0] S1x512x256.size inb_S1x512x256_S1x512x256_0_0_0,
        fin (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le)) (st_k0_t4 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk ((st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).2 ++ [(⟨Rect.unit (s := S256x512) ![0, 0] S256x512.size inb_S256x512_S256x512_0_0, k0_pay2⟩ : View.Piece (Elt F) S256x512 .f32)])) (st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).1 (k0_t4_loop i).trips).1 (arg12.view.readCov ((st_k0_t4 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk ((st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).2 ++ [(⟨Rect.unit (s := S256x512) ![0, 0] S256x512.size inb_S256x512_S256x512_0_0, k0_pay2⟩ : View.Piece (Elt F) S256x512 .f32)])) (st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).1 (k0_t4_loop i).trips).2 ++ ((st_k0_t3 (F := F) Variants.none c none i arg3 harg3 arg4 harg4 arg5 harg5 arg6 harg6 arg7 harg7 arg8 harg8 arg9 harg9 arg10 harg10 arg11 harg11 arg12 harg12 (k0_pay12 (View.readAt (Elt F) arg5.view (Rect.unit (s := S1x16x512) (k0_off1 i) S1x1x512.size (k0_off1_inb i)).toLoadRect (harg5.unread x5))) (mx (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (low (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (inv (k0_pay21 (View.readAt (Elt F) arg5.view (Rect.unit (s := S1x16x512) (k0_off1 i) S1x1x512.size (k0_off1_inb i)).toLoadRect (harg5.unread x5)) (st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).1) (View.readAt (Elt F) arg3.view (Rect.unit (s := S16) (k0_off8 i) S1.size (k0_off8_inb i)).toLoadRect (harg3.unread x3) (Shape.Idx.first numel1_S1.symm.le))) (Scalar.ofBits .f32 0x3F800000#32) (harg8.unread x8) (arg11.view.writes (Elt F) f11 ((st_k0_t2 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).1 (k0_t2_loop i).trips).2 ++ (st_k0_t1 (F := F) Variants.none c none i arg3 harg3 arg4 harg4 arg5 harg5 arg6 harg6 arg7 harg7 arg8 harg8 arg9 harg9 arg10 harg10 arg11 harg11 arg12 harg12 (View.readAt (Elt F) arg4.view (Rect.unit (s := S1x512x256) ![0, 0, 0] S1x512x256.size inb_S1x512x256_S1x512x256_0_0_0).toLoadRect (harg4.unread x4)) (harg6.unread x6) (harg7.unread x7) k0_pay14 (k0_t1_loop i).trips).2)) (arg12.view.writes (Elt F) arg12.view.junk [(⟨Rect.unit (s := S256x512) ![0, 0] S256x512.size inb_S256x512_S256x512_0_0, k0_pay2⟩ : View.Piece (Elt F) S256x512 .f32)]) k0_pay3 (k0_t3_loop i).trips).2 ++ [(⟨Rect.unit (s := S256x512) ![0, 0] S256x512.size inb_S256x512_S256x512_0_0, k0_pay2⟩ : View.Piece (Elt F) S256x512 .f32)])) (Rect.unit (s := S256x512) ![0, 0] S256x512.size inb_S256x512_S256x512_0_0).toLoadRect) (View.readAt (Elt F) arg9.view (Rect.unit (s := S1x8x256) ![0, 0, 0] S1x1x1.size inb_S1x8x256_S1x1x1_0_0_0).toLoadRect (harg9.unread x9))⟩] := by
  unfold kernelRun
  rfl

theorem hz3 : (![0, 0, 0] : Fin 3 → ℕ) = fun _ => 0 := by decide
theorem hz2 : (![0, 0] : Fin 2 → ℕ) = fun _ => 0 := by decide

theorem st2_eq (v0 : Vec F S1x512x256 .fp8e4m3) (X6 : BufTy.Contents (Elt F) arg6.view.ty) (X7 : BufTy.Contents (Elt F) arg7.view.ty) (a : FVec F S8x512 .f32) :
    st_k0_t2 (F := F) Variants.none c none i arg3 harg3 arg4 harg4 arg5 harg5 arg6 harg6 arg7 harg7 arg8 harg8 arg9 harg9 arg10 harg10 arg11 harg11 arg12 harg12 v0 X6 X7 a (k0_t2_loop i).trips = (a, []) := by
  rw [trips2]; rfl

theorem st4_eq (v6 v38 : FVec F S1x512 .f32) (v44 : IVec S1x512 1) (v118 : FVec F S1x512 .f32) (cst_48 : F .f32) (X8 : BufTy.Contents (Elt F) arg8.view.ty) (X11 : BufTy.Contents (Elt F) arg11.view.ty) (G : BufTy.Contents (Elt F) arg12.view.ty) (a : FVec F S8x512 .f32) :
    st_k0_t4 (F := F) Variants.none c none i arg3 harg3 arg4 harg4 arg5 harg5 arg6 harg6 arg7 harg7 arg8 harg8 arg9 harg9 arg10 harg10 arg11 harg11 arg12 harg12 v6 v38 v44 v118 cst_48 X8 X11 G a (k0_t4_loop i).trips = (a, []) := by
  rw [trips4]; rfl

theorem run_eq : (kernelRun (F := F) c i arg3 harg3 arg4 harg4 arg5 harg5 arg6 harg6 arg7 harg7 arg8 harg8 arg9 harg9 arg10 harg10 arg11 harg11 arg12 harg12 x3 x4 x5 x6 x7 x8 x9 f11 f12).1
    = [⟨Rect.unit (s := S1x512x256) ![0, 0, 0] S1x512x256.size inb_S1x512x256_S1x512x256_0_0_0, out i x3 x4 x5 x6 x7 x8 x9⟩] := by
  rw [run_mid]
  simp only [View.readAt_eq_ld, harg3.read_unread, harg4.read_unread, harg5.read_unread, harg9.read_unread]
  simp only [View.ld_unit_zero (S := S1x512x256) hz3]
  rw [st1_eq c i arg3 harg3 arg4 harg4 arg5 harg5 arg6 harg6 arg7 harg7 arg8 harg8 arg9 harg9 arg10 harg10 arg11 harg11 arg12 harg12 _ _ _ _ le_rfl]
  rw [st2_eq, st4_eq]
  dsimp only
  rw [List.nil_append, List.nil_append]
  have h3 := st3_eq c i arg3 harg3 arg4 harg4 arg5 harg5 arg6 harg6 arg7 harg7 arg8 harg8 arg9 harg9 arg10 harg10 arg11 harg11 arg12 harg12 x4 x6 x7 x8 (k0_pay12 (qrow i x5)) (mx (smax i x4 x5 x6 x7) (sink i x3)) (low (smax i x4 x5 x6 x7) (sink i x3))
    (inv (smax i x4 x5 x6 x7) (sink i x3)) (Scalar.ofBits .f32 0x3F800000#32) f11 (arg12.view.writes (Elt F) arg12.view.junk [(⟨Rect.unit (s := S256x512) ![0, 0] S256x512.size inb_S256x512_S256x512_0_0, k0_pay2⟩ : View.Piece (Elt F) S256x512 .f32)])
    (View.read_writes_full _ _ _ _ _) _ le_rfl
  rw [show ∀ L (B : LoadRect S256x512), arg12.view.readCov (Val := Elt F) (L ++ [(⟨Rect.unit (s := S256x512) ![0, 0] S256x512.size inb_S256x512_S256x512_0_0, k0_pay2⟩ : View.Piece (Elt F) S256x512 .f32)]) B = View.readAt (Elt F) arg12.view B (arg12.view.writes (Elt F) (arg12.view.writes (Elt F) arg12.view.junk [(⟨Rect.unit (s := S256x512) ![0, 0] S256x512.size inb_S256x512_S256x512_0_0, k0_pay2⟩ : View.Piece (Elt F) S256x512 .f32)]) L) from fun L B => by rw [← View.writes_append]; rfl]
  rw [View.readAt_full]
  unfold out sums
  rw [trips3] at h3
  rw [← h3.1, ← h3.2]
  rfl

end Run

end Cert.AttnIdealOut

end
-- ==== Proof.AttnIdealFrame.lean ====
/- The frame of the idealized attention kernel: the body's run at every grid point, and the launch. -/
module

public import proofs.«01_k».proof.Proof.AttnIdealOut
public import proofs.«01_k».proof.Proof.Gen.AttnIdeal.Frame
public import Idealize.ShloMosaic.Lib.Claim

@[expose] public section

set_option maxRecDepth 16384

noncomputable section

namespace Cert.AttnIdealFrame

open Cert.AttnIdealRun Cert.AttnIdealOut Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The staging memrefs and the scratch -/

abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .bf16 := win0_7.stage (cfg0.slots t 7)
abbrev hs0_7 (t : Fin cfg0.N) : (ms0_7 t).IsWhole := hstage0_7 ((cfg0.slots t 7).cast nbuf0_7)
abbrev scM0_0 : Memref sig .tc .vmem S4096x512 .f32 := Memref.whole cc0_scratch0
abbrev scM0_1 : Memref sig .tc .vmem S256x512 .f32 := Memref.whole cc0_scratch1

/-- The region's invariant: the two scratch buffers at anything, and the generator register at some state. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- A points-to over a memref's whole view is the memref owned at what it reads. -/
theorem owns_of_ptr {sp : Space} {S : Shape} {e : EltTy} (c : Dev nD) (a : Memref sig .tc sp S e) (f : BufTy.Contents (Elt F) a.view.ty) :
    (a.view.loc (c : Thread nD τ) ↦[a.view.set]{fullShare} f : sProp (MT nD τ sig Unit (Elt F) ℕ (UR sig nD τ) ℕ)) ⊢ owns (c : Thread nD τ) a fullShare (a.view.read (Elt F) f) := by
  unfold owns
  iintro H
  iexists f; isplitr
  swap; · iexact H
  ipureintro; rfl

/-- and back. -/
theorem ptr_of_owns {sp : Space} {S : Shape} {e : EltTy} (c : Dev nD) (a : Memref sig .tc sp S e) (d : S.Idx → Elt F e) :
    owns (c : Thread nD τ) a fullShare d ⊢ (iprop(∃ f, a.view.loc (c : Thread nD τ) ↦[a.view.set]{fullShare} f) : sProp (MT nD τ sig Unit (Elt F) ℕ (UR sig nD τ) ℕ)) := by
  unfold owns
  iintro ⟨%f, -, H⟩
  iexists f; iexact H

/-- What the output window's buffer holds after the body at point `t`. -/
def outAt (c : Dev nD) (t : Fin cfg0.N) : FVec F S1x512x256 .bf16 := out (grid0.coords t) (iblk m c 0 t) (iblk m c 1 t) (iblk m c 2 t) (iblk m c 3 t) (iblk m c 4 t) (iblk m c 5 t) (iblk m c 6 t)

/-- The proof data: the arrays as launched, every input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: from the inputs' blocks the run leaves the output's buffer at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [show cfg0.idle 5 (grid0.coords t) = false from rfl], after0_5]
  rw [show (dats m 0 c).leavesExact 6 t = owns (c : Thread nD τ) (ms0_6 t) fullShare ((dats m 0 c).after 6 t) from by
    unfold Dat.leavesExact; rw [show cfg0.idle 6 (grid0.coords t) = false from rfl], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  unfold outAt
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP0 := (ptr_of_owns c scM0_0 s0) $$ HS0
  ihave HP1 := (ptr_of_owns c scM0_1 s1) $$ HS1
  icases HP0 with ⟨%g0, HS0⟩
  icases HP1 with ⟨%g1, HS1⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) g0 g1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%e0, HS0⟩, ⟨%e1, HS1⟩⟩
  isplitl [HS0 HS1 Hg]
  · isplitl [HS0 HS1]
    · isplitl [HS0]
      · iexists _; iapply (owns_of_ptr c scM0_0 e0); iexact HS0
      · iexists _; iapply (owns_of_ptr c scM0_1 e1); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [run_eq]
  unfold owns; iexists _; isplitr
  swap; · iexact H7
  ipureintro; exact View.read_writes_full _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = Pipeline.ΦA spec0 c from rfl]
  try exact Idealize.SL.BI.Entails.refl _

/-! ## The run and the frame -/

set_option backward.isDefEq.respectTransparency.types false in
/-- The launch: every array of the pipeline ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.AttnIdealFrame

end
-- ==== Proof.Pow2.lean ====
module

public import Idealize.ShloMosaic.PureOps.Ideal.Laws
public import Idealize.ShloMosaic.Lib.IdealHost

@[expose] public section

/-!
# Power-of-two scales

A quantiser maps the largest magnitude of a group, divided by the top code 448, to the
power of two strictly above it.  The kernels find that power of two by a binary search over
the exponent (eight compare-and-select steps, exact in `f32`); the references write
`2 ^ (floor (log t / log 2) + 1)` with the exponent clipped to the range of `f32`.
This module states both on one extended real and proves that they agree.
-/

noncomputable section

namespace Cert.Pow2

open Idealize.ShloMosaic

/-- One step of the binary search on the power itself: raise `p` by the factor `c` if `t`
    is still at least the raised one. -/
def stepP (t p : EReal) (c : BitVec 32) : EReal :=
  Scalar.select (Ideal.cmp .oge t (p * Ideal.ofBits .f32 c)) (p * Ideal.ofBits .f32 c) p

/-- The same step on the reciprocal: lower it by the factor `c'` exactly when `p` is raised. -/
def stepV (t p : EReal) (c : BitVec 32) (v : EReal) (c' : BitVec 32) : EReal :=
  Scalar.select (Ideal.cmp .oge t (p * Ideal.ofBits .f32 c)) (v * Ideal.ofBits .f32 c') v

def p1 (t : EReal) : EReal := stepP t (Ideal.ofBits .f32 0x00800000#32) 0x7E800000#32
def p2 (t : EReal) : EReal := stepP t (p1 t) 0x5F800000#32
def p3 (t : EReal) : EReal := stepP t (p2 t) 0x4F800000#32
def p4 (t : EReal) : EReal := stepP t (p3 t) 0x47800000#32
def p5 (t : EReal) : EReal := stepP t (p4 t) 0x43800000#32
def p6 (t : EReal) : EReal := stepP t (p5 t) 0x41800000#32
def p7 (t : EReal) : EReal := stepP t (p6 t) 0x40800000#32
def p8 (t : EReal) : EReal := stepP t (p7 t) 0x40000000#32

def v1 (t : EReal) : EReal :=
  stepV t (Ideal.ofBits .f32 0x00800000#32) 0x7E800000#32 (Ideal.ofBits .f32 0x7E000000#32) 0x00800000#32
def v2 (t : EReal) : EReal := stepV t (p1 t) 0x5F800000#32 (v1 t) 0x1F800000#32
def v3 (t : EReal) : EReal := stepV t (p2 t) 0x4F800000#32 (v2 t) 0x2F800000#32
def v4 (t : EReal) : EReal := stepV t (p3 t) 0x47800000#32 (v3 t) 0x37800000#32
def v5 (t : EReal) : EReal := stepV t (p4 t) 0x43800000#32 (v4 t) 0x3B800000#32
def v6 (t : EReal) : EReal := stepV t (p5 t) 0x41800000#32 (v5 t) 0x3D800000#32
def v7 (t : EReal) : EReal := stepV t (p6 t) 0x40800000#32 (v6 t) 0x3E800000#32
def v8 (t : EReal) : EReal := stepV t (p7 t) 0x40000000#32 (v7 t) 0x3F000000#32

/-- Whether `t` is below the smallest normal number: the scale is then one. -/
def flushed (t : EReal) : BitVec 1 := Ideal.cmp .olt t (Ideal.ofBits .f32 0x00800000#32)

/-- The kernels' scale. -/
def scale (t : EReal) : EReal :=
  Scalar.select (flushed t) (Ideal.ofBits .f32 0x3F800000#32) (p8 t * Ideal.ofBits .f32 0x40000000#32)

/-- The kernels' reciprocal of the scale. -/
def inv (t : EReal) : EReal :=
  Scalar.select (flushed t) (Ideal.ofBits .f32 0x3F800000#32) (v8 t)

/-- The references' exponent. -/
def refExp (t : EReal) : EReal :=
  Scalar.select (flushed t) (Ideal.ofBits .f32 0x00000000#32)
    (min (Ideal.ofBits .f32 0x42FE0000#32)
      (max (Ideal.ofBits .f32 0xC2FC0000#32)
        (Ideal.liftRound Int.floor
          (Ideal.div (Ideal.log t) (Ideal.log (Ideal.ofBits .f32 0x40000000#32)))))
      + Ideal.ofBits .f32 0x3F800000#32)

/-! ## The constants -/

theorem c_m126 : Ideal.ofBits .f32 0x00800000#32 = (((2 : ℝ) ^ (-126 : ℤ) : ℝ) : EReal) := by
  simp [Ideal.ofBits, Ideal.ieee, -EReal.coe_mul]; norm_num
theorem c_125 : Ideal.ofBits .f32 0x7E000000#32 = (((2 : ℝ) ^ (125 : ℤ) : ℝ) : EReal) := by
  have h : (2 : ℝ) ^ (125 : ℤ) = ((42535295865117307932921825928971026432 : ℝ)) := by norm_num
  rw [h]; simp [Ideal.ofBits, Ideal.ieee, -EReal.coe_mul]; norm_num
theorem c_126 : Ideal.ofBits .f32 0x7E800000#32 = (((2 : ℝ) ^ (126 : ℤ) : ℝ) : EReal) := by
  have h : (2 : ℝ) ^ (126 : ℤ) = ((85070591730234615865843651857942052864 : ℝ)) := by norm_num
  rw [h]; simp [Ideal.ofBits, Ideal.ieee, -EReal.coe_mul]; norm_num
theorem c_64 : Ideal.ofBits .f32 0x5F800000#32 = (((2 : ℝ) ^ (64 : ℤ) : ℝ) : EReal) := by
  have h : (2 : ℝ) ^ (64 : ℤ) = ((18446744073709551616 : ℝ)) := by norm_num
  rw [h]; simp [Ideal.ofBits, Ideal.ieee, -EReal.coe_mul]; norm_num
theorem c_32 : Ideal.ofBits .f32 0x4F800000#32 = (((2 : ℝ) ^ (32 : ℤ) : ℝ) : EReal) := by
  have h : (2 : ℝ) ^ (32 : ℤ) = ((4294967296 : ℝ)) := by norm_num
  rw [h]; simp [Ideal.ofBits, Ideal.ieee, -EReal.coe_mul]; norm_num
theorem c_16 : Ideal.ofBits .f32 0x47800000#32 = (((2 : ℝ) ^ (16 : ℤ) : ℝ) : EReal) := by
  have h : (2 : ℝ) ^ (16 : ℤ) = ((65536 : ℝ)) := by norm_num
  rw [h]; simp [Ideal.ofBits, Ideal.ieee, -EReal.coe_mul]; norm_num
theorem c_8 : Ideal.ofBits .f32 0x43800000#32 = (((2 : ℝ) ^ (8 : ℤ) : ℝ) : EReal) := by
  have h : (2 : ℝ) ^ (8 : ℤ) = ((256 : ℝ)) := by norm_num
  rw [h]; simp [Ideal.ofBits, Ideal.ieee, -EReal.coe_mul]; norm_num
theorem c_4 : Ideal.ofBits .f32 0x41800000#32 = (((2 : ℝ) ^ (4 : ℤ) : ℝ) : EReal) := by
  have h : (2 : ℝ) ^ (4 : ℤ) = ((16 : ℝ)) := by norm_num
  rw [h]; simp [Ideal.ofBits, Ideal.ieee, -EReal.coe_mul]; norm_num
theorem c_2 : Ideal.ofBits .f32 0x40800000#32 = (((2 : ℝ) ^ (2 : ℤ) : ℝ) : EReal) := by
  have h : (2 : ℝ) ^ (2 : ℤ) = ((4 : ℝ)) := by norm_num
  rw [h]; simp [Ideal.ofBits, Ideal.ieee, -EReal.coe_mul]; norm_num
theorem c_1 : Ideal.ofBits .f32 0x40000000#32 = (((2 : ℝ) ^ (1 : ℤ) : ℝ) : EReal) := by
  simp [Ideal.ofBits, Ideal.ieee, -EReal.coe_mul]; norm_num
theorem c_m64 : Ideal.ofBits .f32 0x1F800000#32 = (((2 : ℝ) ^ (-64 : ℤ) : ℝ) : EReal) := by
  simp [Ideal.ofBits, Ideal.ieee, -EReal.coe_mul]; norm_num
theorem c_m32 : Ideal.ofBits .f32 0x2F800000#32 = (((2 : ℝ) ^ (-32 : ℤ) : ℝ) : EReal) := by
  simp [Ideal.ofBits, Ideal.ieee, -EReal.coe_mul]; norm_num
theorem c_m16 : Ideal.ofBits .f32 0x37800000#32 = (((2 : ℝ) ^ (-16 : ℤ) : ℝ) : EReal) := by
  simp [Ideal.ofBits, Ideal.ieee, -EReal.coe_mul]; norm_num
theorem c_m8 : Ideal.ofBits .f32 0x3B800000#32 = (((2 : ℝ) ^ (-8 : ℤ) : ℝ) : EReal) := by
  simp [Ideal.ofBits, Ideal.ieee, -EReal.coe_mul]; norm_num
theorem c_m4 : Ideal.ofBits .f32 0x3D800000#32 = (((2 : ℝ) ^ (-4 : ℤ) : ℝ) : EReal) := by
  simp [Ideal.ofBits, Ideal.ieee, -EReal.coe_mul]; norm_num
theorem c_m2 : Ideal.ofBits .f32 0x3E800000#32 = (((2 : ℝ) ^ (-2 : ℤ) : ℝ) : EReal) := by
  simp [Ideal.ofBits, Ideal.ieee, -EReal.coe_mul]; norm_num
theorem c_m1 : Ideal.ofBits .f32 0x3F000000#32 = (((2 : ℝ) ^ (-1 : ℤ) : ℝ) : EReal) := by
  simp [Ideal.ofBits, Ideal.ieee, -EReal.coe_mul]; norm_num
theorem c_127 : Ideal.ofBits .f32 0x42FE0000#32 = ((127 : ℝ) : EReal) := by
  simp [Ideal.ofBits, Ideal.ieee, -EReal.coe_mul]; norm_num
theorem c_neg126 : Ideal.ofBits .f32 0xC2FC0000#32 = ((-126 : ℝ) : EReal) := by
  simp [Ideal.ofBits, Ideal.ieee, -EReal.coe_mul]; norm_num

theorem cmp_oge_pos {x y : EReal} (h : y ≤ x) : Ideal.cmp .oge x y = 1 := by
  simp [Ideal.cmp, h]
theorem cmp_oge_neg {x y : EReal} (h : ¬ y ≤ x) : Ideal.cmp .oge x y = 0 := by
  simp [Ideal.cmp, h]
theorem cmp_olt_pos {x y : EReal} (h : x < y) : Ideal.cmp .olt x y = 1 := by
  simp [Ideal.cmp, h]
theorem cmp_olt_neg {x y : EReal} (h : ¬ x < y) : Ideal.cmp .olt x y = 0 := by
  simp [Ideal.cmp, h]

theorem coe_zpow_mul (a b : ℤ) :
    (((2 : ℝ) ^ a : ℝ) : EReal) * (((2 : ℝ) ^ b : ℝ) : EReal) = (((2 : ℝ) ^ (a + b) : ℝ) : EReal) := by
  rw [← EReal.coe_mul, zpow_add₀ (by norm_num)]

theorem coe_zpow_le {a b : ℤ} (h : a ≤ b) :
    (((2 : ℝ) ^ a : ℝ) : EReal) ≤ (((2 : ℝ) ^ b : ℝ) : EReal) :=
  EReal.coe_le_coe_iff.mpr (zpow_le_zpow_right₀ (by norm_num) h)

/-! ## The binary search -/

/-- Before a step: `p` is a power of two not above `t`, `v` half its reciprocal, and the
    exponent still to be added is at most `r`. -/
def Inv (t p v : EReal) (r : ℤ) : Prop :=
  ∃ e : ℤ, p = (((2 : ℝ) ^ e : ℝ) : EReal) ∧ v = (((2 : ℝ) ^ (-e - 1) : ℝ) : EReal)
    ∧ (((2 : ℝ) ^ e : ℝ) : EReal) ≤ t ∧ (t < (((2 : ℝ) ^ (e + r + 1) : ℝ) : EReal) ∨ e + r = 127)
    ∧ -126 ≤ e ∧ e + r ≤ 127

theorem Inv.step {t p v : EReal} {r : ℤ} (h : Inv t p v r) (k r' : ℤ) {c c' : BitVec 32}
    (hc : Ideal.ofBits .f32 c = (((2 : ℝ) ^ k : ℝ) : EReal))
    (hc' : Ideal.ofBits .f32 c' = (((2 : ℝ) ^ (-k) : ℝ) : EReal))
    (hr : r = k + r') (hk : k ≤ r' + 1) (h0 : 0 ≤ k) : Inv t (stepP t p c) (stepV t p c v c') r' := by
  obtain ⟨e, rfl, rfl, hle, hup, he, he2⟩ := h
  unfold stepP stepV
  rw [hc, hc', coe_zpow_mul, coe_zpow_mul]
  by_cases ht : (((2 : ℝ) ^ (e + k) : ℝ) : EReal) ≤ t
  · rw [cmp_oge_pos ht]
    refine ⟨e + k, by simp [Scalar.select], by
      simp only [Scalar.select, if_true]; rw [show -e - 1 + -k = -(e + k) - 1 by ring], ht, ?_, by omega, by omega⟩
    rcases hup with hup | hup
    · left; rwa [show e + k + r' + 1 = e + r + 1 by omega]
    · right; omega
  · rw [cmp_oge_neg ht]
    refine ⟨e, by simp [Scalar.select], by simp [Scalar.select], hle, ?_, he, by omega⟩
    left
    exact lt_of_lt_of_le (not_le.mp ht) (coe_zpow_le (by omega))

/-- After the eight steps the power is the largest one not above `t`. -/
theorem inv_final {t : EReal} (ht : (((2 : ℝ) ^ (-126 : ℤ) : ℝ) : EReal) ≤ t) : Inv t (p8 t) (v8 t) 0 := by
  have h0 : Inv t (Ideal.ofBits .f32 0x00800000#32) (Ideal.ofBits .f32 0x7E000000#32) 253 :=
    ⟨-126, c_m126, c_125.trans (by norm_num), ht, Or.inr (by norm_num), le_refl _, by norm_num⟩
  have h1 : Inv t (p1 t) (v1 t) 127 := h0.step 126 127 c_126 c_m126 (by norm_num) (by norm_num) (by norm_num)
  have h2 : Inv t (p2 t) (v2 t) 63 := h1.step 64 63 c_64 c_m64 (by norm_num) (by norm_num) (by norm_num)
  have h3 : Inv t (p3 t) (v3 t) 31 := h2.step 32 31 c_32 c_m32 (by norm_num) (by norm_num) (by norm_num)
  have h4 : Inv t (p4 t) (v4 t) 15 := h3.step 16 15 c_16 c_m16 (by norm_num) (by norm_num) (by norm_num)
  have h5 : Inv t (p5 t) (v5 t) 7 := h4.step 8 7 c_8 c_m8 (by norm_num) (by norm_num) (by norm_num)
  have h6 : Inv t (p6 t) (v6 t) 3 := h5.step 4 3 c_4 c_m4 (by norm_num) (by norm_num) (by norm_num)
  have h7 : Inv t (p7 t) (v7 t) 1 := h6.step 2 1 c_2 c_m2 (by norm_num) (by norm_num) (by norm_num)
  exact h7.step 1 0 c_1 c_m1 (by norm_num) (by norm_num) (by norm_num)

/-! ## The references' exponent -/

/-- The clipped floor of the base-two logarithm is the exponent the search finds. -/
theorem clip_floor {t : EReal} {e : ℤ} (hle : (((2 : ℝ) ^ e : ℝ) : EReal) ≤ t)
    (hup : t < (((2 : ℝ) ^ (e + 1) : ℝ) : EReal) ∨ e = 127) (he : -126 ≤ e) (he' : e ≤ 127) :
    min ((127 : ℝ) : EReal) (max ((-126 : ℝ) : EReal) (Ideal.liftRound Int.floor
      (Ideal.div (Ideal.log t) (Ideal.log (((2 : ℝ) ^ (1 : ℤ) : ℝ) : EReal))))) = ((e : ℝ) : EReal) := by
  have hl : Ideal.log (((2 : ℝ) ^ (1 : ℤ) : ℝ) : EReal) = ((Real.log 2 : ℝ) : EReal) := by
    rw [zpow_one]
    show (if (2 : ℝ) ≤ 0 then (⊥ : EReal) else ((Real.log 2 : ℝ) : EReal)) = _
    rw [if_neg (by norm_num)]
  have hl0 : 0 < Real.log 2 := Real.log_pos (by norm_num)
  rw [hl]
  have hd : ∀ x : EReal, Ideal.div x ((Real.log 2 : ℝ) : EReal) = x * (((Real.log 2)⁻¹ : ℝ) : EReal) := by
    intro x
    unfold Ideal.div
    rw [if_neg (by exact_mod_cast hl0.ne'), EReal.coe_inv]
  rw [hd]
  induction t using EReal.rec with
  | bot => exact absurd hle (by simp)
  | top =>
    have : e = 127 := by
      rcases hup with h | h
      · exact absurd h (by simp)
      · exact h
    subst this
    have : (⊤ : EReal) * (((Real.log 2)⁻¹ : ℝ) : EReal) = ⊤ :=
      EReal.top_mul_coe_of_pos (inv_pos.mpr hl0)
    show min ((127 : ℝ) : EReal) (max ((-126 : ℝ) : EReal)
      (Ideal.liftRound Int.floor ((⊤ : EReal) * (((Real.log 2)⁻¹ : ℝ) : EReal)))) = _
    rw [this, Ideal.liftRound_top, max_eq_right le_top, min_eq_left le_top]
    norm_num
  | coe x =>
    have hx : (2 : ℝ) ^ e ≤ x := EReal.coe_le_coe_iff.mp hle
    have hx0 : 0 < x := lt_of_lt_of_le (zpow_pos (by norm_num) _) hx
    have hlog : Ideal.log (x : EReal) = ((Real.log x : ℝ) : EReal) := by
      show (if x ≤ 0 then (⊥ : EReal) else ((Real.log x : ℝ) : EReal)) = _
      rw [if_neg (not_le.mpr hx0)]
    rw [hlog, ← EReal.coe_mul, Ideal.liftRound_coe]
    have h1 : (e : ℝ) ≤ Real.log x * (Real.log 2)⁻¹ := by
      rw [← div_eq_mul_inv, le_div_iff₀ hl0, ← Real.log_zpow]
      exact Real.log_le_log (zpow_pos (by norm_num) _) hx
    have hf : e ≤ ⌊Real.log x * (Real.log 2)⁻¹⌋ := Int.le_floor.mpr h1
    have hmax : max ((-126 : ℝ) : EReal) ((⌊Real.log x * (Real.log 2)⁻¹⌋ : ℝ) : EReal)
        = ((⌊Real.log x * (Real.log 2)⁻¹⌋ : ℝ) : EReal) := by
      apply max_eq_right
      apply EReal.coe_le_coe_iff.mpr
      have : (-126 : ℤ) ≤ ⌊Real.log x * (Real.log 2)⁻¹⌋ := he.trans hf
      exact_mod_cast this
    rw [hmax]
    rcases hup with h | h
    · have h2 : Real.log x * (Real.log 2)⁻¹ < (e : ℝ) + 1 := by
        have hx2 : x < (2 : ℝ) ^ (e + 1) := EReal.coe_lt_coe_iff.mp h
        rw [← div_eq_mul_inv, div_lt_iff₀ hl0]
        have := Real.log_lt_log hx0 hx2
        rw [Real.log_zpow] at this
        push_cast at this
        exact this
      have : ⌊Real.log x * (Real.log 2)⁻¹⌋ = e := Int.floor_eq_iff.mpr ⟨h1, h2⟩
      rw [this]
      apply min_eq_right
      apply EReal.coe_le_coe_iff.mpr
      exact_mod_cast he'
    · subst h
      rw [min_eq_left]
      · norm_num
      apply EReal.coe_le_coe_iff.mpr
      exact_mod_cast hf

/-- The scale, its reciprocal and the references' exponent name one power of two. -/
theorem pow2 (t : EReal) : ∃ n : ℤ, scale t = (((2 : ℝ) ^ n : ℝ) : EReal)
    ∧ inv t = (((2 : ℝ) ^ (-n) : ℝ) : EReal) ∧ refExp t = ((n : ℝ) : EReal) := by
  unfold scale inv refExp flushed
  rw [c_m126]
  by_cases ht : t < (((2 : ℝ) ^ (-126 : ℤ) : ℝ) : EReal)
  · rw [cmp_olt_pos ht]
    exact ⟨0, by simp [Scalar.select], by simp [Scalar.select], by simp [Scalar.select]⟩
  · rw [cmp_olt_neg ht]
    obtain ⟨e, hp, hv, hle, hup, he, he2⟩ := inv_final (not_lt.mp ht)
    rw [add_zero] at hup
    refine ⟨e + 1, ?_, ?_, ?_⟩
    · simp only [Scalar.select]
      rw [if_neg (by decide), hp, c_1, coe_zpow_mul]
    · simp only [Scalar.select]
      rw [if_neg (by decide), hv, show -e - 1 = -(e + 1) by ring]
    · rw [Int.cast_add, Int.cast_one, EReal.coe_add, EReal.coe_one]
      simp only [Scalar.select]
      rw [if_neg (by decide), c_127, c_neg126, c_1, clip_floor hle hup he (by omega), Ideal.ofBits_one_f32]

theorem exp2_int (n : ℤ) : Ideal.exp2 ((n : ℝ) : EReal) = (((2 : ℝ) ^ n : ℝ) : EReal) := by
  have h : Ideal.exp2 ((n : ℝ) : EReal) = ((Real.rpow 2 (n : ℝ) : ℝ) : EReal) := rfl
  rw [h, Real.rpow_eq_pow, Real.rpow_intCast]

theorem pow_int (x : ℝ) (n : ℤ) : Ideal.pow (x : EReal) ((n : ℝ) : EReal) = ((x ^ n : ℝ) : EReal) := by
  have h : Ideal.pow (x : EReal) ((n : ℝ) : EReal) = ((Real.rpow x (n : ℝ) : ℝ) : EReal) := rfl
  rw [h, Real.rpow_eq_pow, Real.rpow_intCast]

/-- The references' scale is the kernels'. -/
theorem exp2_refExp (t : EReal) : Ideal.exp2 (refExp t) = scale t := by
  obtain ⟨n, hs, -, he⟩ := pow2 t
  rw [hs, he, exp2_int]

/-- The references' reciprocal is the kernels'. -/
theorem exp2_neg_refExp (t : EReal) :
    Ideal.exp2 (Ideal.ofBits .f32 0x00000000#32 - refExp t) = inv t := by
  obtain ⟨n, -, hv, he⟩ := pow2 t
  rw [hv, he, Ideal.ofBits_zero_f32, zero_sub, ← EReal.coe_neg, ← Int.cast_neg, exp2_int]

/-- Two to the references' exponent, as a power, is the kernels' scale. -/
theorem pow_refExp (t : EReal) : Ideal.pow (Ideal.ofBits .f32 0x40000000#32) (refExp t) = scale t := by
  obtain ⟨n, hs, -, he⟩ := pow2 t
  rw [hs, he, c_1, zpow_one, pow_int]

/-- The scale is a positive finite number. -/
theorem scale_pos (t : EReal) : ∃ r : ℝ, 0 < r ∧ scale t = (r : EReal) := by
  obtain ⟨n, hs, -, -⟩ := pow2 t
  exact ⟨_, zpow_pos (by norm_num) n, hs⟩

end Cert.Pow2

end
-- ==== Proof.Idx.lean ====
module

public import Idealize.ShloMosaic.Lib.Pipeline.Value
public import Idealize.ShloMosaic.Lib.ValueIdx
public import Idealize.ShloMosaic.Lib.ValueIdxCore

@[expose] public section

/-!
# Indices by their coordinates

When two indices of rank three are equal, and where an index of rank one to four sits
in row-major order.
-/

namespace Cert.Ix

open Idealize.ShloMosaic

theorem ext3 {a b c : ℕ} {j k : (⟨3, ![a, b, c]⟩ : Shape).Idx} (h0 : (j 0).val = (k 0).val)
    (h1 : (j 1).val = (k 1).val) (h2 : (j 2).val = (k 2).val) : j = k := by
  funext i; apply Fin.ext
  match i with | ⟨0, _⟩ => exact h0 | ⟨1, _⟩ => exact h1 | ⟨2, _⟩ => exact h2

theorem rm1 {a : ℕ} (j : (⟨1, ![a]⟩ : Shape).Idx) : ((⟨1, ![a]⟩ : Shape).rowMajor j).val = (j 0).val :=
  Shape.rowMajor_val_one j

theorem rm2 {a b : ℕ} (j : (⟨2, ![a, b]⟩ : Shape).Idx) :
    ((⟨2, ![a, b]⟩ : Shape).rowMajor j).val = (j 0).val * b + (j 1).val :=
  Shape.rowMajor_val_two j

theorem rm3 {a b c : ℕ} (j : (⟨3, ![a, b, c]⟩ : Shape).Idx) :
    ((⟨3, ![a, b, c]⟩ : Shape).rowMajor j).val = ((j 0).val * b + (j 1).val) * c + (j 2).val :=
  Shape.rowMajor_val_three j

theorem rm4 {a b c d : ℕ} (j : (⟨4, ![a, b, c, d]⟩ : Shape).Idx) :
    ((⟨4, ![a, b, c, d]⟩ : Shape).rowMajor j).val = (((j 0).val * b + (j 1).val) * c + (j 2).val) * d + (j 3).val :=
  Shape.rowMajor_val_four j

end Cert.Ix
-- ==== Proof.Amax.lean ====
module

public import proofs.«01_k».proof.Proof.Pow2
public import proofs.«01_k».proof.Proof.Idx

@[expose] public section

/-!
# The largest magnitude of a group

A running maximum from minus infinity is a supremum, the maximum over half the lanes of the larger of
two entries is the supremum over all of them, and a group's scale is the power of two of its largest
magnitude divided by the top code.
-/

noncomputable section

namespace Cert.Amax

open Idealize.ShloMosaic Cert.Pow2

/-- Minus infinity, as the maximum reductions start from it. -/
theorem ofBits_ninf : Ideal.ofBits .f32 0xFF800000#32 = ⊥ := by
  simp [Ideal.ofBits, Ideal.ieee]

/-- A fold of `max` from minus infinity is the supremum. -/
theorem fold_max_bot {n : ℕ} (f : Fin n → EReal) : Finset.univ.fold max (⊥ : EReal) f = Finset.univ.sup f := rfl

/-- A maximum along one axis, as a supremum over that axis. -/
theorem maxReduce_apply {s t : Shape} {a : Fin s.rank} (src : FVec Ideal s .f32) (h : s.Reduces [a] t)
    (hφ : FKind.Formats .f32) (hacc : 0xFF800000#32 = FKind.maximumf.neutral .f32 hφ) (j : t.Idx) :
    multiReduction .maximumf [a] t src 0xFF800000#32 h hφ hacc j = Finset.univ.sup (fun k => src (h.lift j k)) := by
  rw [Ideal.multiReduction_maximumf_single]
  refine (congrArg (fun z => Finset.univ.fold max z _) ofBits_ninf).trans ?_
  rfl

theorem exp2_apply {s : Shape} (x : FVec Ideal s .f32) (i : s.Idx) : exp2 x i = Ideal.exp2 (x i) := rfl

/-- The exponent of a group's top value, elementwise. -/
theorem exponent_apply {s : Shape} (v : FVec Ideal s .f32) (i : s.Idx) :
    select (cmpf .olt v (broadcast s (Scalar.ofBits (F := Ideal) .f32 0x00800000#32)))
      (broadcast s (Scalar.ofBits (F := Ideal) .f32 0x00000000#32))
      (addf (minimumf (broadcast s (Scalar.ofBits (F := Ideal) .f32 0x42FE0000#32))
        (maximumf (broadcast s (Scalar.ofBits (F := Ideal) .f32 0xC2FC0000#32))
          (floor (divf (log v) (broadcast s (Scalar.log (Scalar.ofBits (F := Ideal) .f32 0x40000000#32)))))))
        (broadcast s (Scalar.ofBits (F := Ideal) .f32 0x3F800000#32))) i = refExp (v i) := rfl

/-- The magnitude. -/
def mag (x : EReal) : EReal := max x (-x)

/-- The largest magnitude of a group. -/
def amax {n : ℕ} (f : Fin n → EReal) : EReal := Finset.univ.sup fun k => mag (f k)

/-- A maximum over 128 lanes of the larger of an entry of either half is the maximum over 256. -/
theorem sup_halves (f : Fin 256 → EReal) :
    (Finset.univ.sup fun k : Fin 128 => max (f ⟨k.val, by omega⟩) (f ⟨128 + k.val, by omega⟩))
      = Finset.univ.sup f := by
  apply le_antisymm
  · refine Finset.sup_le fun k _ => max_le ?_ ?_ <;> exact Finset.le_sup (f := f) (Finset.mem_univ _)
  · refine Finset.sup_le fun k _ => ?_
    by_cases hk : k.val < 128
    · exact le_trans (le_max_left (f ⟨k.val, by omega⟩) (f ⟨128 + k.val, by omega⟩))
        (Finset.le_sup (f := fun k : Fin 128 => max (f ⟨k.val, by omega⟩) (f ⟨128 + k.val, by omega⟩))
          (Finset.mem_univ (⟨k.val, hk⟩ : Fin 128)))
    · refine le_trans ?_
        (Finset.le_sup (f := fun k : Fin 128 => max (f ⟨k.val, by omega⟩) (f ⟨128 + k.val, by omega⟩))
          (Finset.mem_univ (⟨k.val - 128, by omega⟩ : Fin 128)))
      refine le_trans (le_of_eq (congrArg f (Fin.ext ?_))) (le_max_right _ _)
      show k.val = 128 + (k.val - 128)
      omega

/-- What the scale is taken of: the largest magnitude over the top code. -/
def top (a : EReal) : EReal := a * Ideal.ofBits .f32 0x3B124925#32

/-- One code: the entry times the reciprocal of its group's scale, clipped. -/
def code (x v : EReal) : EReal :=
  min (Ideal.ofBits .f32 0x43E00000#32) (max (Ideal.ofBits .f32 0xC3E00000#32) (x * v))

/-- Zero is below the smallest normal number, so a group of zeros has scale one. -/
theorem scale_top_zero : scale (top 0) = Ideal.ofBits .f32 0x3F800000#32 := by
  unfold scale flushed top
  rw [zero_mul, cmp_olt_pos]
  · simp [Scalar.select]
  · rw [c_m126]
    exact_mod_cast zpow_pos (by norm_num : (0 : ℝ) < 2) (-126)

end Cert.Amax

end
-- ==== Proof.AttnIdealScale.lean ====
module

public import proofs.«01_k».proof.Proof.AttnIdealOut
public import proofs.«01_k».proof.Proof.Amax
public import Idealize.ShloMosaic.PureOps.Ideal.Laws

@[expose] public section

/-!
# The probabilities' scale in the attention kernel, elementwise

The binary search on powers of two is the one of the quantisers.
-/

noncomputable section

namespace Cert.AttnIdealScale

open Cert.AttnIdeal Cert.AttnIdeal.Gen Cert.AttnIdealOut Idealize.ShloMosaic Idealize.ShloMosaic.TcCoe Idealize.SL.Sem
open Cert.Pow2 Cert.Amax

variable (a : FVec Ideal S1x512 .f32) (b : Ideal .f32)

theorem pay28_eq : k0_pay28 a b = fun i => p1 (k0_pay24 a b i) := by
  unfold k0_pay28 k0_pay27 k0_pay26
  rfl

theorem pay30_eq : k0_pay30 a b = fun i => p2 (k0_pay24 a b i) := by
  unfold k0_pay30 k0_pay29
  rw [pay28_eq]
  rfl

theorem pay32_eq : k0_pay32 a b = fun i => p3 (k0_pay24 a b i) := by
  unfold k0_pay32 k0_pay31
  rw [pay30_eq]
  rfl

theorem pay33_eq : k0_pay33 a b = fun i => v3 (k0_pay24 a b i) := by
  unfold k0_pay33 k0_pay31 k0_pay29 k0_pay27 k0_pay26
  rw [pay30_eq, pay28_eq]
  rfl

variable (t : FVec Ideal S1x512 .f32)

/-- The comparison of the fourth step, and the power it would move to. -/
def up4 : FVec Ideal S1x512 .f32 := mulf (fun i => p3 (t i)) (broadcast S1x512 (Scalar.ofBits .f32 0x47800000#32))
def ge4 : IVec S1x512 1 := cmpf .oge t (up4 t)

theorem pay34_eq : k0_pay34 a b = ge4 (k0_pay24 a b) := by
  unfold k0_pay34 ge4 up4
  rw [pay32_eq]

theorem pay35_eq : k0_pay35 a b = up4 (k0_pay24 a b) := by
  unfold k0_pay35 up4
  rw [pay32_eq]

theorem stepP_eq (p : FVec Ideal S1x512 .f32) (c : BitVec 32) :
    select (cmpf .oge t (mulf p (broadcast S1x512 (Scalar.ofBits .f32 c)))) (mulf p (broadcast S1x512 (Scalar.ofBits .f32 c))) p
      = fun i => stepP (t i) (p i) c := rfl

theorem stepV_eq (p v : FVec Ideal S1x512 .f32) (c c' : BitVec 32) :
    select (cmpf .oge t (mulf p (broadcast S1x512 (Scalar.ofBits .f32 c)))) (mulf v (broadcast S1x512 (Scalar.ofBits .f32 c'))) v
      = fun i => stepV (t i) (p i) c (v i) c' := rfl

theorem pay36_eq : k0_pay36 (F := Ideal) (fun i => p3 (t i)) (ge4 t) (up4 t) = fun i => p4 (t i) := by
  unfold k0_pay36 ge4 up4 p4
  dsimp only
  rw [stepP_eq]

theorem pay38_eq : k0_pay38 t (fun i => p3 (t i)) (ge4 t) (up4 t) = fun i => p5 (t i) := by
  unfold k0_pay38 k0_pay37
  rw [pay36_eq]
  rfl

theorem pay40_eq : k0_pay40 t (fun i => p3 (t i)) (ge4 t) (up4 t) = fun i => p6 (t i) := by
  unfold k0_pay40 k0_pay39
  rw [pay38_eq]
  rfl

theorem pay42_eq : k0_pay42 t (fun i => p3 (t i)) (ge4 t) (up4 t) = fun i => p7 (t i) := by
  unfold k0_pay42 k0_pay41
  rw [pay40_eq]
  rfl

/-- The last reciprocals. -/
def recips : FVec Ideal S1x512 .f32 := fun i => v8 (t i)

theorem pay44_eq : k0_pay44 t (fun i => p3 (t i)) (fun i => v3 (t i)) (ge4 t) (up4 t) = recips t := by
  unfold k0_pay44 k0_pay43 k0_pay41 k0_pay39 k0_pay37 recips v8 v7 v6 v5 v4
  rw [pay42_eq, pay40_eq, pay38_eq, pay36_eq]
  dsimp only
  unfold ge4 up4
  rw [stepV_eq, stepV_eq, stepV_eq, stepV_eq, stepV_eq]

/-- Twice the last power. -/
def twice : FVec Ideal S1x512 .f32 := mulf (fun i => p8 (t i)) (broadcast S1x512 (Scalar.ofBits .f32 0x40000000#32))

theorem pay45_eq (f : IVec S1x512 1) : k0_pay45 t f (fun i => p3 (t i)) (ge4 t) (up4 t)
    = select f (broadcast S1x512 (Scalar.ofBits .f32 0x3F800000#32)) (twice t) := by
  unfold k0_pay45 k0_pay43 twice
  rw [pay42_eq]
  dsimp only
  rw [stepP_eq]
  rfl

/-- The probabilities' scale, elementwise. -/
theorem psc_eq : psc a b = fun i => scale (k0_pay24 a b i) := by
  unfold psc
  rw [pay32_eq, pay34_eq, pay35_eq, pay45_eq]
  unfold k0_pay25
  rfl

/-- The reciprocal of the probabilities' scale, elementwise. -/
theorem inv_eq : k0_pay1 (low a b) (AttnIdealOut.inv a b) (Scalar.ofBits .f32 0x3F800000#32) = fun i => Pow2.inv (k0_pay24 a b i) := by
  unfold AttnIdealOut.inv low k0_pay1
  rw [pay32_eq, pay33_eq, pay34_eq, pay35_eq, pay44_eq]
  unfold k0_pay25
  rfl

/-- What the scale is taken of, elementwise. -/
theorem pay24_apply (i : S1x512.Idx) : k0_pay24 a b i = top (Ideal.exp2 (a i - mx a b i)) := by
  unfold k0_pay24 mx top
  rfl

end Cert.AttnIdealScale

end
-- ==== Proof.AttnIdealScore.lean ====
module

public import proofs.«01_k».proof.Proof.AttnIdealOut
public import proofs.«01_k».proof.Proof.Amax
public import Idealize.ShloMosaic.Lib.Pointwise
public import Idealize.ShloMosaic.Lib.WordCmp

@[expose] public section

set_option maxRecDepth 16384

/-!
# One chunk's scores, entry by entry

A score is the product of a key row and a query row times the key's scale, or minus infinity where the query does not
see the key.
-/

noncomputable section

namespace Cert.AttnIdealScore

open Cert.AttnIdealLoops Cert.AttnIdeal Cert.AttnIdeal.Gen Cert.AttnIdealOut Idealize.ShloMosaic Idealize.ShloMosaic.TcCoe Idealize.SL.Sem
open Cert.Amax (ofBits_ninf)

/-- The query row `r` of head `h` sees the key `k`: not a later one and, for an odd head, none of 1024 or more before. -/
def Sees (h r k : ℕ) : Prop := k ≤ r ∧ (h % 2 = 1 → r < k + 1024)

instance (h r k : ℕ) : Decidable (Sees h r k) := by unfold Sees; infer_instance

/-- Whether the head is odd, as the kernel computes it. -/
def odd32 (h : ℕ) : BitVec 1 :=
  Scalar.cmpi CmpIPredicate.eq
    (Scalar.select
      (Scalar.andi
        (Scalar.xori
          (Scalar.cmpi CmpIPredicate.slt (Scalar.remsi (BitVec.ofNat 32 h) (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (Scalar.cmpi CmpIPredicate.ne (Scalar.remsi (BitVec.ofNat 32 h) (Scalar.select (Scalar.cmpi CmpIPredicate.eq 2#32 0#32) 1#32 2#32)) 0#32))
      (Scalar.addi (Scalar.remsi (BitVec.ofNat 32 h) (Scalar.select (Scalar.cmpi CmpIPredicate.eq 2#32 0#32) 1#32 2#32))
        (Scalar.select (Scalar.cmpi CmpIPredicate.eq 2#32 0#32) 1#32 2#32))
      (Scalar.remsi (BitVec.ofNat 32 h) (Scalar.select (Scalar.cmpi CmpIPredicate.eq 2#32 0#32) 1#32 2#32)))
    1#32

/-- The window's width: 1024 for an odd head. -/
theorem limit_eq (h : ℕ) (hh : h < 16) :
    Scalar.select (odd32 h) 1024#32 1073741824#32 = BitVec.ofNat 32 (if h % 2 = 1 then 1024 else 1073741824) := by
  have H : ∀ h : Fin 16, Scalar.select (odd32 h.val) 1024#32 1073741824#32 = BitVec.ofNat 32 (if h.val % 2 = 1 then 1024 else 1073741824) := by decide +kernel
  exact H ⟨h, hh⟩

/-- The distance of the row block from the chunk. -/
def dist32 (h b k : ℕ) : BitVec 32 :=
  Scalar.muli (Scalar.subi (BitVec.ofNat 32 b)
    (Scf.iv (Scalar.select (odd32 h) (Scalar.maxsi (Scalar.subi (BitVec.ofNat 32 b) 2#32) 0#32) 0#32) 1#32 k)) 512#32

theorem dist_eq (h b k : ℕ) (hh : h < 16) (hb : b < 8) (hk : k < 8) :
    dist32 h b k = BitVec.ofInt 32 (512 * (b : ℤ) - 512 * (((if h % 2 = 1 then b - 2 else 0) + k : ℕ) : ℤ)) := by
  have H : ∀ (h : Fin 16) (b k : Fin 8), dist32 h.val b.val k.val
      = BitVec.ofInt 32 (512 * (b.val : ℤ) - 512 * (((if h.val % 2 = 1 then b.val - 2 else 0) + k.val : ℕ) : ℤ)) := by decide +kernel
  exact H ⟨h, hh⟩ ⟨b, hb⟩ ⟨k, hk⟩

theorem rel_eq (z : ℤ) (c j : ℕ) :
    IntOp.subi (IntOp.addi (BitVec.ofInt 32 z) (BitVec.ofNat 32 c)) (BitVec.ofNat 32 j) = BitVec.ofInt 32 (z + c - j) := by
  have e1 : BitVec.ofNat 32 c = BitVec.ofInt 32 c := (BitVec.ofInt_natCast ..).symm
  have e2 : BitVec.ofNat 32 j = BitVec.ofInt 32 j := (BitVec.ofInt_natCast ..).symm
  show BitVec.ofInt 32 z + BitVec.ofNat 32 c - BitVec.ofNat 32 j = _
  rw [e1, e2, ← BitVec.ofInt_add, BitVec.sub_eq_add_neg, Int.sub_eq_add_neg, BitVec.ofInt_add _ (-(j : ℤ)), BitVec.ofInt_neg]

theorem keep_eq (z : ℤ) (n : ℕ) (hz : -8192 < z ∧ z < 8192) (hn : n < 2 ^ 31) :
    IntOp.andi (IntOp.cmpi .sge (BitVec.ofInt 32 z) 0#32) (IntOp.cmpi .slt (BitVec.ofInt 32 z) (BitVec.ofNat 32 n))
      = BitVec.ofBool (decide (0 ≤ z ∧ z < n)) := by
  have e : (BitVec.ofInt 32 z).toInt = z := by
    exact BitVec.toInt_ofInt_eq_self (by decide) (by norm_num; omega) (by norm_num; omega)
  have en : (BitVec.ofNat 32 n).toInt = n := by
    rw [← BitVec.ofInt_natCast]
    exact BitVec.toInt_ofInt_eq_self (by decide) (by norm_num <;> omega) (by norm_num <;> omega)
  have e0 : (0#32).toInt = 0 := rfl
  show BitVec.ofBool (decide ((0#32).toInt ≤ (BitVec.ofInt 32 z).toInt))
    &&& BitVec.ofBool (decide ((BitVec.ofInt 32 z).toInt < (BitVec.ofNat 32 n).toInt)) = _
  rw [e, en, e0]
  by_cases h1 : 0 ≤ z <;> by_cases h2 : z < n <;> simp [h1, h2]

theorem head_eq (h : ℕ) (hh : h < 16) :
    (Scalar.select (IntOp.cmpi CmpIPredicate.slt (BitVec.ofNat 32 h) 0#32) (IntOp.addi (BitVec.ofNat 32 h) 128#32) (BitVec.ofNat 32 h)).toNat % 128 = h := by
  have H : ∀ h : Fin 16, (Scalar.select (IntOp.cmpi CmpIPredicate.slt (BitVec.ofNat 32 h.val) 0#32) (IntOp.addi (BitVec.ofNat 32 h.val) 128#32) (BitVec.ofNat 32 h.val)).toNat % 128 = h.val := by decide +kernel
  exact H ⟨h, hh⟩

/-- The head as a column of the key scales. -/
def hcol (i : grid0.Coords) : Fin 128 := ⟨(i 1).val, Nat.lt_of_lt_of_le (i 1).isLt (by decide)⟩

theorem sees_iff (h b l j c : ℕ) (hl : l ≤ 8) (hj : j < 512) (hc : c < 512) (hb : b < 8) :
    (0 ≤ 512 * (b : ℤ) - 512 * (l : ℤ) + c - j
      ∧ 512 * (b : ℤ) - 512 * (l : ℤ) + c - j < ((if h % 2 = 1 then 1024 else 1073741824 : ℕ) : ℤ))
      ↔ Sees h (512 * b + c) (512 * l + j) := by
  unfold Sees
  split <;> omega

/-- The kernel's test whether the query row sees the key. -/
theorem test_eq (h b k j c : ℕ) (hh : h < 16) (hb : b < 8) (hk : k < 8) (hj : j < 512) (hc : c < 512)
    (hl : (if h % 2 = 1 then b - 2 else 0) + k ≤ 8) :
    IntOp.andi (IntOp.cmpi .sge (IntOp.subi (IntOp.addi (dist32 h b k) (BitVec.ofNat 32 c)) (BitVec.ofNat 32 j)) 0#32)
      (IntOp.cmpi .slt (IntOp.subi (IntOp.addi (dist32 h b k) (BitVec.ofNat 32 c)) (BitVec.ofNat 32 j))
        (Scalar.select (odd32 h) 1024#32 1073741824#32))
      = BitVec.ofBool (decide (Sees h (512 * b + c) (512 * ((if h % 2 = 1 then b - 2 else 0) + k) + j))) := by
  rw [limit_eq h hh, dist_eq h b k hh hb hk, rel_eq, keep_eq]
  · exact congrArg BitVec.ofBool (decide_eq_decide.mpr (sees_iff h b _ j c hl hj hc hb))
  · constructor <;> omega
  · split <;> omega

theorem select_decide (p : Prop) [Decidable p] (a b : EReal) :
    Scalar.select (BitVec.ofBool (decide p)) a b = if p then a else b := by
  by_cases h : p <;> simp [h, Scalar.select]

theorem pay15_apply (i : grid0.Coords) (v0 : Vec Ideal S1x512x256 .fp8e4m3) (k : Fin (k0_t1_loop i).trips) (v160 : Vec Ideal S1x512x256 .fp8e4m3) (v164 : Vec Ideal S1x512x128 .f32)
    (j c : Fin 512) : k0_pay15 i v0 k v160 v164 (ix2 j c)
      = if Sees (i 1).val (512 * (i 2).val + c.val) (512 * (lo i + k.val) + j.val)
        then (∑ x : Fin 256, v160 (ix3 0 j x) * v0 (ix3 0 c x)) * v164 (ix3 0 j (hcol i)) else ⊥ := by
  have h1 : (i 1).val < 16 := (i 1).isLt
  have h2 : (i 2).val < 8 := (i 2).isLt
  have h4 : k.val < (i 2).val + 1 - lo i := by rw [← trips1]; exact k.isLt
  have hk := test_eq (i 1).val (i 2).val k.val j.val c.val h1 h2 (lt8 k) j.isLt c.isLt (by unfold lo at h4; omega)
  unfold dist32 odd32 at hk
  pointwise [k0_pay15, k0_pay11, k0_pay13, dynamicGather]
  simp only [head_eq _ h1, dite_eq_ite, ite_self]
  rw [hk, ofBits_ninf]
  refine (select_decide (Sees (i 1).val (512 * (i 2).val + c.val) (512 * (lo i + k.val) + j.val)) _ _).trans ?_
  refine if_congr Iff.rfl (congrArg (fun z : EReal => (∑ x : Fin 256, v160 (ix3 0 j x) * v0 (ix3 0 c x)) * z) ?_) rfl
  split
  · rfl
  · split
    · rfl
    · split <;> rfl

end Cert.AttnIdealScore

end
-- ==== Proof.AttnMath.lean ====
module

public import proofs.«01_k».proof.Proof.Amax

@[expose] public section

/-!
# One query row of the attention, over the extended reals

The specification `att` of one output entry from the row's scores, and the same entry computed in base two from
the keys that are not masked alone.
-/

noncomputable section

namespace Cert.AttnMath

open Idealize.ShloMosaic Cert.Pow2 Cert.Amax

/-! ## The specification -/

/-- What is subtracted from the scores: their maximum, or the sink's logit if that is larger. -/
def rowMax (s : Fin 4096 → EReal) (sink : EReal) : EReal := max (Finset.univ.sup s) sink

/-- The weight of a key, not yet divided by the weights' total. -/
def prob (s : Fin 4096 → EReal) (sink : EReal) (k : Fin 4096) : EReal := Ideal.exp (s k - rowMax s sink)

/-- The weights' total, the sink's included. -/
def total (s : Fin 4096 → EReal) (sink : EReal) : EReal := (∑ k, prob s sink k) + Ideal.exp (sink - rowMax s sink)

/-- What the weights' scale is taken of. -/
def probTop (s : Fin 4096 → EReal) (sink : EReal) : EReal := top (Finset.univ.sup (prob s sink))

/-- One output entry: the quantised weights against the value codes `v`, times the scales over the total. -/
def att (s v : Fin 4096 → EReal) (sink vs : EReal) : EReal :=
  (∑ k, code (prob s sink k) (inv (probTop s sink)) * v k) * Ideal.div (scale (probTop s sink) * vs) (total s sink)

/-! ## Base two -/

/-- The logarithm of `e` in base two. -/
def L : EReal := (((Real.log 2)⁻¹ : ℝ) : EReal)

theorem log2_pos : (0 : ℝ) < (Real.log 2)⁻¹ := inv_pos.mpr (Real.log_pos (by norm_num))

theorem L_nonneg : (0 : EReal) ≤ L := EReal.coe_nonneg.mpr log2_pos.le

theorem exp2_mul_L (x : EReal) : Ideal.exp2 (x * L) = Ideal.exp x := by
  unfold L
  induction x using EReal.rec with
  | bot => rw [EReal.bot_mul_coe_of_pos log2_pos]; rfl
  | top => rw [EReal.top_mul_coe_of_pos log2_pos]; rfl
  | coe r =>
    rw [← EReal.coe_mul]
    show ((Real.rpow 2 (r * (Real.log 2)⁻¹) : ℝ) : EReal) = ((Real.exp r : ℝ) : EReal)
    rw [Real.rpow_eq_pow, Real.rpow_def_of_pos (by norm_num)]
    congr 2
    have := (Real.log_pos (by norm_num : (1 : ℝ) < 2)).ne'
    field_simp

theorem sub_mul_L (a b : EReal) : a * L - b * L = (a - b) * L := by
  unfold L
  induction a using EReal.rec with
  | bot => rw [EReal.bot_mul_coe_of_pos log2_pos, EReal.bot_sub, EReal.bot_sub, EReal.bot_mul_coe_of_pos log2_pos]
  | top =>
    induction b using EReal.rec with
    | bot => rw [EReal.bot_mul_coe_of_pos log2_pos, EReal.top_mul_coe_of_pos log2_pos, EReal.top_sub_bot, EReal.top_mul_coe_of_pos log2_pos]
    | top => rw [EReal.top_mul_coe_of_pos log2_pos, EReal.sub_top, EReal.bot_mul_coe_of_pos log2_pos]
    | coe b => rw [EReal.top_mul_coe_of_pos log2_pos, ← EReal.coe_mul, EReal.top_sub_coe, EReal.top_sub_coe, EReal.top_mul_coe_of_pos log2_pos]
  | coe a =>
    induction b using EReal.rec with
    | bot => rw [EReal.bot_mul_coe_of_pos log2_pos, ← EReal.coe_mul, EReal.coe_sub_bot, EReal.coe_sub_bot, EReal.top_mul_coe_of_pos log2_pos]
    | top => rw [EReal.top_mul_coe_of_pos log2_pos, EReal.sub_top, EReal.sub_top, EReal.bot_mul_coe_of_pos log2_pos]
    | coe b => rw [← EReal.coe_mul, ← EReal.coe_mul, ← EReal.coe_sub, ← EReal.coe_sub, ← EReal.coe_mul, sub_mul]

theorem exp_bot : Ideal.exp ⊥ = 0 := rfl

theorem exp_mono : Monotone Ideal.exp := by
  intro a b h
  induction a using EReal.rec with
  | bot =>
    rw [exp_bot]
    induction b using EReal.rec with
    | bot => exact le_rfl
    | top => exact le_top
    | coe b => exact EReal.coe_nonneg.mpr (Real.exp_pos b).le
  | top => rw [top_le_iff.mp h]
  | coe a =>
    induction b using EReal.rec with
    | bot => exact absurd (le_bot_iff.mp h) (EReal.coe_ne_bot a)
    | top => exact le_top
    | coe b => exact EReal.coe_le_coe_iff.mpr (Real.exp_le_exp.mpr (EReal.coe_le_coe_iff.mp h))

/-- A monotone map takes a supremum over a nonempty finite set to the supremum of the images. -/
theorem map_sup {ι : Type} {V : Finset ι} (hV : V.Nonempty) {f : ι → EReal} {g : EReal → EReal} (hg : Monotone g) :
    g (V.sup f) = V.sup (fun k => g (f k)) := by
  obtain ⟨k, hk, he⟩ := Finset.exists_mem_eq_sup V hV f
  apply le_antisymm
  · rw [he]; exact Finset.le_sup (f := fun k => g (f k)) hk
  · exact Finset.sup_le fun k hk => hg (Finset.le_sup hk)

theorem mul_mono {c : EReal} (hc : 0 ≤ c) : Monotone (fun x : EReal => x * c) :=
  fun _ _ h => mul_le_mul_of_nonneg_right h hc

theorem code_zero (x : EReal) : code 0 x = 0 := by
  unfold code
  have h1 : Ideal.ofBits .f32 0xC3E00000#32 = ((-448 : ℝ) : EReal) := by
    simp [Ideal.ofBits, Ideal.ieee, -EReal.coe_mul]; norm_num
  have h2 : Ideal.ofBits .f32 0x43E00000#32 = ((448 : ℝ) : EReal) := by
    simp [Ideal.ofBits, Ideal.ieee, -EReal.coe_mul]; norm_num
  rw [zero_mul, h1, h2, max_eq_right (by exact_mod_cast (by norm_num : (-448 : ℝ) ≤ 0)),
    min_eq_right (by exact_mod_cast (by norm_num : (0 : ℝ) ≤ 448))]

/-! ## The keys that are not masked alone -/

section Visited

variable {V : Finset (Fin 4096)} (hV : V.Nonempty) {s y : Fin 4096 → EReal} {q sink : EReal} (hq : 0 ≤ q)
  (hin : ∀ k ∈ V, y k * q = s k * L) (hout : ∀ k ∉ V, s k = ⊥)

include hV hout in
theorem sup_visited : V.sup s = Finset.univ.sup s := by
  apply le_antisymm
  · exact Finset.sup_mono (Finset.subset_univ V)
  · refine Finset.sup_le fun k _ => ?_
    by_cases hk : k ∈ V
    · exact Finset.le_sup hk
    · rw [hout k hk]; exact bot_le

include hV hq hin hout in
theorem max_eq : V.sup y * q = Finset.univ.sup s * L := by
  rw [← sup_visited hV hout]
  refine (map_sup hV (mul_mono hq)).trans (Eq.trans ?_ (map_sup hV (mul_mono L_nonneg)).symm)
  exact Finset.sup_congr rfl hin

include hV hq hin hout in
theorem rowMax_eq : max (V.sup y * q) (sink * L) = rowMax s sink * L := by
  rw [max_eq hV hq hin hout]
  exact ((mul_mono L_nonneg).map_max).symm

include hV hq hin hout in
theorem prob_eq {k : Fin 4096} (hk : k ∈ V) :
    Ideal.exp2 (y k * q - max (V.sup y * q) (sink * L)) = prob s sink k := by
  rw [rowMax_eq hV hq hin hout, hin k hk, sub_mul_L, exp2_mul_L]; rfl

include hV hq hin hout in
theorem sink_eq :
    Ideal.exp2 (sink * L - max (V.sup y * q) (sink * L)) = Ideal.exp (sink - rowMax s sink) := by
  rw [rowMax_eq hV hq hin hout, sub_mul_L, exp2_mul_L]

theorem sup_prob : Finset.univ.sup (prob s sink) = Ideal.exp (Finset.univ.sup s - rowMax s sink) :=
  (map_sup Finset.univ_nonempty (g := fun x => Ideal.exp (x - rowMax s sink))
    (fun _ _ h => exp_mono (EReal.sub_le_sub h le_rfl))).symm

include hV hq hin hout in
theorem top_eq : top (Ideal.exp2 (V.sup y * q - max (V.sup y * q) (sink * L))) = probTop s sink := by
  unfold probTop
  rw [rowMax_eq hV hq hin hout, max_eq hV hq hin hout, sub_mul_L, exp2_mul_L, sup_prob]

include hout in
theorem prob_out {k : Fin 4096} (hk : k ∉ V) : prob s sink k = 0 := by
  unfold prob
  rw [hout k hk, EReal.bot_sub, exp_bot]

include hout in
theorem sum_prob : ∑ k ∈ V, prob s sink k = ∑ k, prob s sink k :=
  Finset.sum_subset (Finset.subset_univ V) fun _ _ hk => prob_out hout hk

include hout in
theorem sum_code (c : EReal) (v : Fin 4096 → EReal) :
    ∑ k ∈ V, code (prob s sink k) c * v k = ∑ k, code (prob s sink k) c * v k :=
  Finset.sum_subset (Finset.subset_univ V) fun _ _ hk => by rw [prob_out hout hk, code_zero, zero_mul]

include hV hq hin hout in
/-- THE ROW: the output entry computed in base two from the visited keys is the specification's. -/
theorem att_eq (v : Fin 4096 → EReal) (vs : EReal) (M mk t : EReal) (hM : M = V.sup y * q) (hmk : mk = max M (sink * L))
    (ht : t = top (Ideal.exp2 (M - mk))) :
    (∑ k ∈ V, code (Ideal.exp2 (y k * q - mk)) (inv t) * v k)
        * Ideal.div (scale t * vs) ((∑ k ∈ V, Ideal.exp2 (y k * q - mk)) + Ideal.exp2 (sink * L - mk))
      = att s v sink vs := by
  subst hM; subst hmk; subst ht
  rw [top_eq hV hq hin hout, sink_eq hV hq hin hout]
  rw [Finset.sum_congr rfl fun k hk => by rw [prob_eq hV hq hin hout hk],
    Finset.sum_congr (g := prob s sink) rfl fun k hk => prob_eq hV hq hin hout hk, sum_prob hout]
  unfold att total
  rw [← sum_code hout]

end Visited

end Cert.AttnMath

end
-- ==== Proof.AttnIdealSteps.lean ====
module

public import proofs.«01_k».proof.Proof.AttnIdealScale
public import proofs.«01_k».proof.Proof.AttnIdealScore
public import proofs.«01_k».proof.Proof.AttnMath

@[expose] public section

set_option maxRecDepth 16384

/-!
# The attention kernel's steps, entry by entry
-/

noncomputable section

namespace Cert.AttnIdealSteps

open Cert.AttnIdealLoops Cert.AttnIdeal Cert.AttnIdeal.Gen Cert.AttnIdealOut Cert.AttnIdealScore Idealize.ShloMosaic Idealize.ShloMosaic.TcCoe Idealize.SL.Sem
open Cert.Amax (ofBits_ninf code)

theorem pay14_apply (j : S8x512.Idx) : (k0_pay14 : FVec Ideal S8x512 .f32) j = ⊥ := ofBits_ninf

theorem pay17_apply (i : grid0.Coords) (v0 : Vec Ideal S1x512x256 .fp8e4m3) (k : Fin (k0_t1_loop i).trips) (r : FVec Ideal S8x512 .f32) (v160 : Vec Ideal S1x512x256 .fp8e4m3) (v164 : Vec Ideal S1x512x128 .f32)
    (a : Fin 8) (c : Fin 512) : k0_pay17 i v0 k r v160 v164 (ix2 a c)
      = max (r (ix2 a c)) (Finset.univ.sup fun b : Fin 64 => k0_pay15 i v0 k v160 v164 (ix2 ⟨b.val * 8 + a.val, by omega⟩ c)) := by
  pointwise [k0_pay17]
  rw [ofBits_ninf]
  rfl

theorem pay12_apply (v3 : Vec Ideal S1x1x512 .f32) (c : Fin 512) :
    k0_pay12 v3 (ix2 0 c) = v3 (ix3 0 0 c) * (((Real.log 2)⁻¹ * 16⁻¹ : ℝ) : EReal) := by
  pointwise [k0_pay12]
  rfl

theorem pay22_eq (v : Ideal .f32) : k0_pay22 v = v * AttnMath.L := rfl

theorem pay21_apply (v3 : Vec Ideal S1x1x512 .f32) (r : FVec Ideal S8x512 .f32) (c : Fin 512) :
    k0_pay21 v3 r (ix2 0 c) = (Finset.univ.sup fun a : Fin 8 => r (ix2 a c)) * k0_pay12 v3 (ix2 0 c) := by
  pointwise [k0_pay21]
  rw [ofBits_ninf]
  rfl

theorem mx_apply (v33 : FVec Ideal S1x512 .f32) (v35 : Ideal .f32) (c : Fin 512) :
    mx v33 v35 (ix2 0 c) = max (v33 (ix2 0 c)) (v35 * AttnMath.L) := rfl

theorem pay5_apply (v6 v38 : FVec Ideal S1x512 .f32) (l : FVec Ideal S8x512 .f32) (y : FVec Ideal S512x512 .f32) (a : Fin 8) (c : Fin 512) :
    k0_pay5 v6 v38 l y (ix2 a c)
      = l (ix2 a c) + ∑ b : Fin 64, Ideal.exp2 (y (ix2 ⟨b.val * 8 + a.val, by omega⟩ c) * v6 (ix2 0 c) - v38 (ix2 0 c)) := by
  pointwise [k0_pay5, k0_pay4]
  rfl

theorem pay6_apply (v6 v38 : FVec Ideal S1x512 .f32) (v44 : IVec S1x512 1) (v118 : FVec Ideal S1x512 .f32) (cst : Ideal .f32) (y : FVec Ideal S512x512 .f32)
    (A : FVec Ideal S256x512 .f32) (v : Vec Ideal S1x512x256 .fp8e4m3) (d : Fin 256) (c : Fin 512) :
    k0_pay6 v6 v38 v44 v118 cst y A v (ix2 d c)
      = A (ix2 d c) + ∑ j : Fin 512, v (ix3 0 j d) * code (Ideal.exp2 (y (ix2 j c) * v6 (ix2 0 c) - v38 (ix2 0 c))) (k0_pay1 v44 v118 cst (ix2 0 c)) := by
  pointwise [k0_pay6, k0_pay4]
  rfl

theorem pay10_apply (v36 : Ideal .f32) (v38 p : FVec Ideal S1x512 .f32) (l : FVec Ideal S8x512 .f32) (A : FVec Ideal S256x512 .f32) (w : Vec Ideal S1x1x1 .f32)
    (c : Fin 512) (d : Fin 256) :
    k0_pay10 v36 v38 p l A w (ix3 0 c d)
      = A (ix2 d c) * Ideal.div (p (ix2 0 c) * w (ix3 0 0 0)) ((∑ a : Fin 8, l (ix2 a c)) + Ideal.exp2 (v36 - v38 (ix2 0 c))) := by
  pointwise [k0_pay10]
  rfl

end Cert.AttnIdealSteps

end
-- ==== Proof.AttnIdealBlock.lean ====
module

public import proofs.«01_k».proof.Proof.AttnIdealSteps

@[expose] public section

set_option maxRecDepth 16384

/-!
# One output block of the attention kernel

The running maximum and the two sums over the visited chunks, as a maximum and sums over the visited keys; then the
block's entries, which are the specification's.
-/

noncomputable section

namespace Cert.AttnIdealBlock

open Cert.AttnIdealLoops Cert.AttnIdeal Cert.AttnIdeal.Gen Cert.AttnIdealOut Cert.AttnIdealScore Cert.AttnIdealSteps Idealize.ShloMosaic Idealize.ShloMosaic.TcCoe Idealize.SL.Sem
open Cert.Amax (code top)

/-- The keys of the first `n` chunks from chunk `l`. -/
def keys (l n : ℕ) : Finset (Fin 4096) := Finset.univ.filter fun k => 512 * l ≤ k.val ∧ k.val < 512 * (l + n)

theorem mem_keys {l n : ℕ} {k : Fin 4096} : k ∈ keys l n ↔ 512 * l ≤ k.val ∧ k.val < 512 * (l + n) := by
  simp [keys]

theorem keys_zero (l : ℕ) : keys l 0 = ∅ := by
  ext k; simp only [mem_keys, Finset.notMem_empty, iff_false]; omega

/-- Key `j` of chunk `l + n`. -/
def key (l n : ℕ) (h : l + n < 8) (j : Fin 512) : Fin 4096 := ⟨512 * (l + n) + j.val, by omega⟩

/-- A sum over the keys, one chunk more. -/
theorem sum_keys_succ (l n : ℕ) (h : l + n < 8) (g : Fin 4096 → EReal) :
    ∑ k ∈ keys l (n + 1), g k = ∑ k ∈ keys l n, g k + ∑ j : Fin 512, g (key l n h j) := by
  have e : keys l (n + 1) = keys l n ∪ Finset.univ.image (key l n h) := by
    ext k
    simp only [mem_keys, Finset.mem_union, Finset.mem_image, Finset.mem_univ, true_and]
    constructor
    · intro hk
      by_cases hlt : k.val < 512 * (l + n)
      · exact Or.inl ⟨hk.1, hlt⟩
      · refine Or.inr ⟨⟨k.val - 512 * (l + n), by omega⟩, Fin.ext ?_⟩
        show 512 * (l + n) + (k.val - 512 * (l + n)) = k.val
        omega
    · rintro (hk | ⟨j, rfl⟩)
      · omega
      · show 512 * l ≤ 512 * (l + n) + j.val ∧ 512 * (l + n) + j.val < 512 * (l + (n + 1))
        omega
  rw [e, Finset.sum_union, Finset.sum_image]
  · intro a _ b _ hab
    have := congrArg Fin.val hab
    apply Fin.ext
    have h' : 512 * (l + n) + a.val = 512 * (l + n) + b.val := this
    omega
  · rw [Finset.disjoint_left]
    intro k hk hk'
    obtain ⟨j, -, rfl⟩ := Finset.mem_image.mp hk'
    have h' : 512 * (l + n) + j.val < 512 * (l + n) := (mem_keys.mp hk).2
    omega

/-- Rows taken eight apart, all together. -/
theorem sum_rows (g : Fin 512 → EReal) :
    ∑ a : Fin 8, ∑ b : Fin 64, g ⟨b.val * 8 + a.val, by omega⟩ = ∑ j : Fin 512, g j := by
  rw [Finset.sum_comm, ← Fintype.sum_prod_type']
  refine Fintype.sum_equiv (finProdFinEquiv (m := 64) (n := 8)) _ _ fun x => ?_
  refine congrArg g (Fin.ext ?_)
  show x.1.val * 8 + x.2.val = x.2.val + 8 * x.1.val
  omega

section Block

variable (i : grid0.Coords) (x3 : Vec Ideal S16 .f32) (x4 : Vec Ideal S1x512x256 .fp8e4m3) (x5 : Vec Ideal S1x16x512 .f32)
  (x6 : Vec Ideal S1x4096x256 .fp8e4m3) (x7 : Vec Ideal S1x4096x128 .f32) (x8 : Vec Ideal S1x4096x256 .fp8e4m3) (x9 : Vec Ideal S1x8x256 .f32)

theorem lt8' (k : Fin (k0_t1_loop i).trips) : lo i + k.val < 8 := by
  have h4 : k.val < (i 2).val + 1 - lo i := by rw [← trips1]; exact k.isLt
  have h2 : (i 2).val < 8 := (i 2).isLt
  omega

/-- A score before the query's scale: minus infinity where the query does not see the key. -/
def Y (c : Fin 512) (k : Fin 4096) : EReal :=
  if Sees (i 1).val (512 * (i 2).val + c.val) k.val
  then (∑ x : Fin 256, x6 (ix3 0 k x) * x4 (ix3 0 c x)) * x7 (ix3 0 k (hcol i)) else ⊥

theorem kblk_apply (x : Vec Ideal S1x4096x256 .fp8e4m3) (k : Fin (k0_t1_loop i).trips) (j : Fin 512) (d : Fin 256) :
    kblk i x k (ix3 0 j d) = x (ix3 0 (key (lo i) k.val (lt8' i k) j) d) := by
  refine congrArg x (funext fun a => Fin.ext ?_)
  have e : ∀ b, k0_off2 i k b = ![0, 512 * (lo i + k.val), 0] b := fun b => by rw [off2_eq]
  match a with
  | ⟨0, _⟩ => show k0_off2 i k 0 + 1 * 0 = 0; rw [e]; rfl
  | ⟨1, _⟩ =>
    show k0_off2 i k 1 + 1 * j.val = 512 * (lo i + k.val) + j.val
    rw [e]; show 512 * (lo i + k.val) + 1 * j.val = _; omega
  | ⟨2, _⟩ => show k0_off2 i k 2 + 1 * d.val = d.val; rw [e]; show 0 + 1 * d.val = _; omega

theorem cblk_apply (x : Vec Ideal S1x4096x128 .f32) (k : Fin (k0_t1_loop i).trips) (j : Fin 512) (d : Fin 128) :
    cblk i x k (ix3 0 j d) = x (ix3 0 (key (lo i) k.val (lt8' i k) j) d) := by
  refine congrArg x (funext fun a => Fin.ext ?_)
  have e : ∀ b, k0_off3 i k b = ![0, 512 * (lo i + k.val), 0] b := fun b => by rw [off3_eq]
  match a with
  | ⟨0, _⟩ => show k0_off3 i k 0 + 1 * 0 = 0; rw [e]; rfl
  | ⟨1, _⟩ =>
    show k0_off3 i k 1 + 1 * j.val = 512 * (lo i + k.val) + j.val
    rw [e]; show 512 * (lo i + k.val) + 1 * j.val = _; omega
  | ⟨2, _⟩ => show k0_off3 i k 2 + 1 * d.val = d.val; rw [e]; show 0 + 1 * d.val = _; omega

theorem chunk_apply (k : Fin (k0_t1_loop i).trips) (j c : Fin 512) :
    k0_pay15 i x4 k (kblk i x6 k) (cblk i x7 k) (ix2 j c) = Y i x4 x6 x7 c (key (lo i) k.val (lt8' i k) j) := by
  rw [pay15_apply, cblk_apply]
  simp only [kblk_apply]
  rfl

theorem ych_apply (k : Fin (k0_t1_loop i).trips) (j c : Fin 512) :
    ych i x4 x6 x7 k (ix2 j c) = Y i x4 x6 x7 c (key (lo i) k.val (lt8' i k) j) := by
  rw [← chunk_apply]
  unfold ych
  pointwise [k0_pay16]

/-- The running maximum, by its upper bounds. -/
theorem car_le (c : Fin 512) (z : EReal) : ∀ n, n ≤ (k0_t1_loop i).trips →
    ((∀ a : Fin 8, car i x4 x6 x7 n (ix2 a c) ≤ z) ↔ ∀ k ∈ keys (lo i) n, Y i x4 x6 x7 c k ≤ z)
  | 0, _ => by
    rw [keys_zero]
    refine ⟨fun _ k hk => absurd hk (Finset.notMem_empty k), fun _ a => ?_⟩
    exact (pay14_apply (ix2 a c)).le.trans bot_le
  | n + 1, hn => by
    have ih := car_le c z n (Nat.le_of_succ_le hn)
    have h8 := lt8' i ⟨n, hn⟩
    rw [car, dif_pos (show n < (k0_t1_loop i).trips from hn)]
    simp only [pay17_apply, chunk_apply, max_le_iff, forall_and, ih, Finset.sup_le_iff, Finset.mem_univ, true_imp_iff]
    constructor
    · rintro ⟨h1, h2⟩ k hk
      rw [mem_keys] at hk
      by_cases hlt : k.val < 512 * (lo i + n)
      · exact h1 k (mem_keys.mpr ⟨hk.1, hlt⟩)
      · have := h2 ⟨(k.val - 512 * (lo i + n)) % 8, by omega⟩ ⟨(k.val - 512 * (lo i + n)) / 8, by omega⟩
        refine le_of_eq_of_le (congrArg (Y i x4 x6 x7 c) (Fin.ext ?_)) this
        show k.val = 512 * (lo i + n) + ((k.val - 512 * (lo i + n)) / 8 * 8 + (k.val - 512 * (lo i + n)) % 8)
        omega
    · intro h
      refine ⟨fun k hk => h k ?_, fun a b => h _ ?_⟩
      · rw [mem_keys] at hk ⊢; omega
      · rw [mem_keys]
        show 512 * lo i ≤ 512 * (lo i + n) + (b.val * 8 + a.val) ∧ 512 * (lo i + n) + (b.val * 8 + a.val) < _
        omega

/-- The visited keys. -/
def V : Finset (Fin 4096) := keys (lo i) (k0_t1_loop i).trips

theorem mem_V (k : Fin 4096) : k ∈ V i ↔ 512 * lo i ≤ k.val ∧ k.val < 512 * ((i 2).val + 1) := by
  have := lo_le i
  unfold V
  rw [mem_keys, trips1, show lo i + ((i 2).val + 1 - lo i) = (i 2).val + 1 by omega]

theorem V_nonempty : (V i).Nonempty := by
  have h2 : (i 2).val < 8 := (i 2).isLt
  have := lo_le i
  exact ⟨⟨512 * (i 2).val, by omega⟩, (mem_V i _).mpr ⟨by show _ ≤ 512 * (i 2).val; omega, by show 512 * (i 2).val < _; omega⟩⟩

/-- The query's scale times one sixteenth, in base two. -/
def qsc (c : Fin 512) : EReal := k0_pay12 (qrow i x5) (ix2 0 c)

theorem smax_apply (c : Fin 512) : smax i x4 x5 x6 x7 (ix2 0 c) = (V i).sup (Y i x4 x6 x7 c) * qsc i x5 c := by
  refine (pay21_apply _ _ c).trans (congrArg (fun z : EReal => z * qsc i x5 c) ?_)
  refine eq_of_forall_ge_iff fun z => ?_
  rw [Finset.sup_le_iff, Finset.sup_le_iff]
  simp only [Finset.mem_univ, true_imp_iff]
  exact car_le i x4 x6 x7 c z _ le_rfl

/-- What is subtracted in the exponent. -/
def M (c : Fin 512) : EReal := mx (smax i x4 x5 x6 x7) (sink i x3) (ix2 0 c)

/-- What the probabilities' scale is taken of. -/
def T (c : Fin 512) : EReal := k0_pay24 (smax i x4 x5 x6 x7) (sink i x3) (ix2 0 c)

/-- A key's weight. -/
def E (c : Fin 512) (k : Fin 4096) : EReal := Ideal.exp2 (Y i x4 x6 x7 c k * qsc i x5 c - M i x3 x4 x5 x6 x7 c)

/-- The accumulators before trip `n`. -/
def accs (n : ℕ) : FVec Ideal S8x512 .f32 × FVec Ideal S256x512 .f32 :=
  acc i x4 x6 x7 x8 (k0_pay12 (qrow i x5)) (mx (smax i x4 x5 x6 x7) (sink i x3)) (low (smax i x4 x5 x6 x7) (sink i x3))
    (AttnIdealOut.inv (smax i x4 x5 x6 x7) (sink i x3)) (Scalar.ofBits .f32 0x3F800000#32) n

theorem accs_succ (n : ℕ) (hn : n < (k0_t1_loop i).trips) : accs i x3 x4 x5 x6 x7 x8 (n + 1)
    = (k0_pay5 (k0_pay12 (qrow i x5)) (mx (smax i x4 x5 x6 x7) (sink i x3)) (accs i x3 x4 x5 x6 x7 x8 n).1 (ych i x4 x6 x7 ⟨n, hn⟩),
       k0_pay6 (k0_pay12 (qrow i x5)) (mx (smax i x4 x5 x6 x7) (sink i x3)) (low (smax i x4 x5 x6 x7) (sink i x3))
        (AttnIdealOut.inv (smax i x4 x5 x6 x7) (sink i x3)) (Scalar.ofBits .f32 0x3F800000#32) (ych i x4 x6 x7 ⟨n, hn⟩) (accs i x3 x4 x5 x6 x7 x8 n).2 (kblk i x8 ⟨n, hn⟩)) := by
  unfold accs
  rw [acc, dif_pos hn]

theorem sum1 (c : Fin 512) : ∀ n, n ≤ (k0_t1_loop i).trips →
    ∑ a : Fin 8, (accs i x3 x4 x5 x6 x7 x8 n).1 (ix2 a c) = ∑ k ∈ keys (lo i) n, E i x3 x4 x5 x6 x7 c k
  | 0, _ => by
    rw [keys_zero, Finset.sum_empty]
    refine Finset.sum_eq_zero fun a _ => ?_
    exact Ideal.ofBits_zero_f32
  | n + 1, hn => by
    have ih := sum1 c n (Nat.le_of_succ_le hn)
    rw [accs_succ i x3 x4 x5 x6 x7 x8 n hn]
    dsimp only
    simp only [pay5_apply, ych_apply]
    rw [Finset.sum_add_distrib, ih, sum_keys_succ (lo i) n (lt8' i ⟨n, hn⟩)]
    exact congrArg _ (sum_rows fun j => E i x3 x4 x5 x6 x7 c (key (lo i) n (lt8' i ⟨n, hn⟩) j))

theorem sum2 (c : Fin 512) (d : Fin 256) : ∀ n, n ≤ (k0_t1_loop i).trips →
    (accs i x3 x4 x5 x6 x7 x8 n).2 (ix2 d c)
      = ∑ k ∈ keys (lo i) n, code (E i x3 x4 x5 x6 x7 c k) (Pow2.inv (T i x3 x4 x5 x6 x7 c)) * x8 (ix3 0 k d)
  | 0, _ => by
    rw [keys_zero, Finset.sum_empty]
    exact Ideal.ofBits_zero_f32
  | n + 1, hn => by
    have ih := sum2 c d n (Nat.le_of_succ_le hn)
    rw [accs_succ i x3 x4 x5 x6 x7 x8 n hn]
    dsimp only
    rw [pay6_apply, ih, sum_keys_succ (lo i) n (lt8' i ⟨n, hn⟩)]
    simp only [ych_apply, kblk_apply, AttnIdealScale.inv_eq]
    refine congrArg _ (Finset.sum_congr rfl fun j _ => ?_)
    exact mul_comm _ _

/-- THE BLOCK: an entry is the specification's, for the scores `s` that the chunk scores are, in base two. -/
theorem out_apply (c : Fin 512) (d : Fin 256) (s : Fin 4096 → EReal) (hq : 0 ≤ qsc i x5 c)
    (hin : ∀ k ∈ V i, Y i x4 x6 x7 c k * qsc i x5 c = s k * AttnMath.L) (hout : ∀ k ∉ V i, s k = ⊥) :
    out i x3 x4 x5 x6 x7 x8 x9 (ix3 0 c d) = AttnMath.att s (fun k => x8 (ix3 0 k d)) (sink i x3) (vsc x9 (ix3 0 0 0)) := by
  rw [← AttnMath.att_eq (V_nonempty i) hq hin hout (fun k => x8 (ix3 0 k d)) (vsc x9 (ix3 0 0 0)) _ (M i x3 x4 x5 x6 x7 c) (T i x3 x4 x5 x6 x7 c) (smax_apply i x4 x5 x6 x7 c)
    (mx_apply _ _ c) (AttnIdealScale.pay24_apply _ _ _)]
  refine (pay10_apply _ _ _ _ _ _ c d).trans ?_
  have h1 := sum1 i x3 x4 x5 x6 x7 x8 c _ le_rfl
  have h2 := sum2 i x3 x4 x5 x6 x7 x8 c d _ le_rfl
  refine congrArg₂ (fun a b : EReal => a * b) h2 ?_
  refine congrArg₂ Ideal.div ?_ (congrArg (fun z : EReal => z + _) h1)
  rw [AttnIdealScale.psc_eq]
  rfl

end Block

end Cert.AttnIdealBlock

end
-- ==== Proof.AttnSpec.lean ====
module

public import proofs.«01_k».proof.Proof.AttnMath
public import proofs.«01_k».proof.Proof.AttnIdealScore
public import Idealize.ShloMosaic.Lib.Pointwise

@[expose] public section

/-!
# The attention result as a function of the arguments
-/

noncomputable section

namespace Cert.AttnSpec

open Cert.AttnIdeal Cert.AttnIdealScore Idealize.ShloMosaic Idealize.ShloMosaic.TcCoe Idealize.SL.Sem

/-- Column `x` of head `h`. -/
def hcol256 (h : Fin 16) (x : Fin 256) : Fin 4096 := ⟨256 * h.val + x.val, by omega⟩

/-- A score of head `h`: the query row and the key row multiplied, times the scales and a sixteenth; minus infinity
    where the query does not see the key. -/
def score (qc : Vec Ideal S8x4096x4096 .fp8e4m3) (qs : Vec Ideal S8x16x4096 .f32) (kc : Vec Ideal S8x4096x4096 .fp8e4m3)
    (kcol : Vec Ideal S8x4096x128 .f32) (b : Fin 8) (h : Fin 16) (r k : Fin 4096) : EReal :=
  if Sees h.val r.val k.val
  then (∑ x : Fin 256, qc (ix3 b r (hcol256 h x)) * kc (ix3 b k (hcol256 h x)))
    * (qs (ix3 b h r) * Ideal.ofBits .f32 0x3D800000#32) * kcol (ix3 b k ⟨h.val, by omega⟩)
  else ⊥

/-- The result. -/
def result (sinks : Vec Ideal S16 .f32) (qc : Vec Ideal S8x4096x4096 .fp8e4m3) (qs : Vec Ideal S8x16x4096 .f32)
    (kc : Vec Ideal S8x4096x4096 .fp8e4m3) (kcol : Vec Ideal S8x4096x128 .f32) (vc : Vec Ideal S8x4096x4096 .fp8e4m3)
    (vs : Vec Ideal S8x8x4096 .f32) (b : Fin 8) (r : Fin 4096) (h : Fin 16) (d : Fin 256) : EReal :=
  AttnMath.att (score qc qs kc kcol b h r) (fun k => vc (ix3 b k (hcol256 h d))) (sinks (ix1 h)) (vs (ix3 b 0 (hcol256 h 0)))

theorem sixteenth : Ideal.ofBits .f32 0x3D800000#32 = ((16⁻¹ : ℝ) : EReal) := by
  have h : (2:ℝ)^(23:ℤ) = 8388608 := by norm_num
  simp [Ideal.ofBits, Ideal.ieee, -EReal.coe_mul]
  try norm_num

end Cert.AttnSpec

end
-- ==== Proof.AttnIdealValue.lean ====
module

public import proofs.«01_k».proof.Proof.AttnIdealBlock
public import proofs.«01_k».proof.Proof.AttnIdealFrame
public import proofs.«01_k».proof.Proof.AttnSpec
public import proofs.«01_k».proof.Proof.Idx

@[expose] public section

set_option maxRecDepth 16384

/-!
# The array the attention kernel leaves
-/

noncomputable section

namespace Cert.AttnIdealValue

open Cert.AttnIdeal Cert.AttnIdeal.Gen Cert.AttnIdealLoops Cert.AttnIdealOut Cert.AttnIdealScore Cert.AttnIdealBlock Cert.AttnIdealFrame Cert.AttnSpec
open Idealize.ShloMosaic Idealize.ShloMosaic.TcCoe Idealize.SL.Sem
open Cert.Ix (ext3)

variable (m : (ℓ : Loc nD τ sig) → Buf (Elt Ideal) ℓ) (ρ : Dev nD → PrngReg)

/-- The arguments. -/
abbrev a0 (c : Dev nD) : Vec Ideal S16 .f32 := V m c main_arg0
abbrev a1 (c : Dev nD) : Vec Ideal S8x4096x4096 .fp8e4m3 := V m c main_arg1
abbrev a2 (c : Dev nD) : Vec Ideal S8x16x4096 .f32 := V m c main_arg2
abbrev a3 (c : Dev nD) : Vec Ideal S8x4096x4096 .fp8e4m3 := V m c main_arg3
abbrev a4 (c : Dev nD) : Vec Ideal S8x4096x128 .f32 := V m c main_arg4
abbrev a5 (c : Dev nD) : Vec Ideal S8x4096x4096 .fp8e4m3 := V m c main_arg5
abbrev a6 (c : Dev nD) : Vec Ideal S8x8x4096 .f32 := V m c main_arg6

/-- The batch, the head and the row block of a point. -/
def bat (t : Fin cfg0.N) : Fin 8 := ⟨t.val / 128, by have := lt_of_lt_of_eq t.isLt N_0; omega⟩
def hed (t : Fin cfg0.N) : Fin 16 := ⟨t.val / 8 % 16, by omega⟩
def rowb (t : Fin cfg0.N) (r : Fin 512) : Fin 4096 := ⟨t.val % 8 * 512 + r.val, by omega⟩

theorem coords : ∀ t : Fin cfg0.N, (grid0.coords t 1).val = t.val / 8 % 16 ∧ (grid0.coords t 2).val = t.val % 8 :=
  (by decide +kernel : ∀ t : Fin grid0.N, _)

theorem idx : ∀ t : Fin cfg0.N,
    (win0_0.index t (0 : Fin 1) = 0)
    ∧ (win0_1.index t (0 : Fin 3) = t.val / 128 ∧ win0_1.index t (1 : Fin 3) = t.val % 8 ∧ win0_1.index t (2 : Fin 3) = t.val / 8 % 16)
    ∧ (win0_2.index t (0 : Fin 3) = t.val / 128 ∧ win0_2.index t (1 : Fin 3) = 0 ∧ win0_2.index t (2 : Fin 3) = t.val % 8)
    ∧ (win0_3.index t (0 : Fin 3) = t.val / 128 ∧ win0_3.index t (1 : Fin 3) = 0 ∧ win0_3.index t (2 : Fin 3) = t.val / 8 % 16)
    ∧ (win0_4.index t (0 : Fin 3) = t.val / 128 ∧ win0_4.index t (1 : Fin 3) = 0 ∧ win0_4.index t (2 : Fin 3) = 0)
    ∧ (win0_5.index t (0 : Fin 3) = t.val / 128 ∧ win0_5.index t (1 : Fin 3) = 0 ∧ win0_5.index t (2 : Fin 3) = t.val / 8 % 16)
    ∧ (win0_6.index t (0 : Fin 3) = t.val / 128 ∧ win0_6.index t (1 : Fin 3) = 0 ∧ win0_6.index t (2 : Fin 3) = t.val / 8 % 16)
    ∧ (win0_7.index t (0 : Fin 3) = t.val / 128 ∧ win0_7.index t (1 : Fin 3) = t.val % 8 ∧ win0_7.index t (2 : Fin 3) = t.val / 8 % 16) :=
  (by decide +kernel : ∀ t : Fin grid0.N, _)

theorem emb0 (t : Fin cfg0.N) (h : Fin 16) : ((cfg0.win 0).blk t).view.emb (ix1 h : S16.Idx) = (ix1 h : S16.Idx) := by
  obtain ⟨e0, -⟩ := idx t
  funext a; apply Fin.ext
  match a with
  | ⟨0, _⟩ => show win0_0.index t (0 : Fin 1) * 16 + 1 * h.val = h.val; omega

theorem emb1 (t : Fin cfg0.N) (r : Fin 512) (d : Fin 256) :
    ((cfg0.win 1).blk t).view.emb (ix3 0 r d : S1x512x256.Idx) = (ix3 (bat t) (rowb t r) (hcol256 (hed t) d) : S8x4096x4096.Idx) := by
  obtain ⟨-, ⟨e0, e1, e2⟩, -⟩ := idx t
  refine ext3 ?_ ?_ ?_
  · show win0_1.index t (0 : Fin 3) * 1 + 1 * 0 = t.val / 128; omega
  · show win0_1.index t (1 : Fin 3) * 512 + 1 * r.val = t.val % 8 * 512 + r.val; omega
  · show win0_1.index t (2 : Fin 3) * 256 + 1 * d.val = 256 * (t.val / 8 % 16) + d.val; omega

theorem emb2 (t : Fin cfg0.N) (h : Fin 16) (r : Fin 512) :
    ((cfg0.win 2).blk t).view.emb (ix3 0 h r : S1x16x512.Idx) = (ix3 (bat t) h (rowb t r) : S8x16x4096.Idx) := by
  obtain ⟨-, -, ⟨e0, e1, e2⟩, -⟩ := idx t
  refine ext3 ?_ ?_ ?_
  · show win0_2.index t (0 : Fin 3) * 1 + 1 * 0 = t.val / 128; omega
  · show win0_2.index t (1 : Fin 3) * 16 + 1 * h.val = h.val; omega
  · show win0_2.index t (2 : Fin 3) * 512 + 1 * r.val = t.val % 8 * 512 + r.val; omega

theorem emb3 (t : Fin cfg0.N) (k : Fin 4096) (d : Fin 256) :
    ((cfg0.win 3).blk t).view.emb (ix3 0 k d : S1x4096x256.Idx) = (ix3 (bat t) k (hcol256 (hed t) d) : S8x4096x4096.Idx) := by
  obtain ⟨-, -, -, ⟨e0, e1, e2⟩, -⟩ := idx t
  refine ext3 ?_ ?_ ?_
  · show win0_3.index t (0 : Fin 3) * 1 + 1 * 0 = t.val / 128; omega
  · show win0_3.index t (1 : Fin 3) * 4096 + 1 * k.val = k.val; omega
  · show win0_3.index t (2 : Fin 3) * 256 + 1 * d.val = 256 * (t.val / 8 % 16) + d.val; omega

theorem emb4 (t : Fin cfg0.N) (k : Fin 4096) (h : Fin 128) :
    ((cfg0.win 4).blk t).view.emb (ix3 0 k h : S1x4096x128.Idx) = (ix3 (bat t) k h : S8x4096x128.Idx) := by
  obtain ⟨-, -, -, -, ⟨e0, e1, e2⟩, -⟩ := idx t
  refine ext3 ?_ ?_ ?_
  · show win0_4.index t (0 : Fin 3) * 1 + 1 * 0 = t.val / 128; omega
  · show win0_4.index t (1 : Fin 3) * 4096 + 1 * k.val = k.val; omega
  · show win0_4.index t (2 : Fin 3) * 128 + 1 * h.val = h.val; omega

theorem emb5 (t : Fin cfg0.N) (k : Fin 4096) (d : Fin 256) :
    ((cfg0.win 5).blk t).view.emb (ix3 0 k d : S1x4096x256.Idx) = (ix3 (bat t) k (hcol256 (hed t) d) : S8x4096x4096.Idx) := by
  obtain ⟨-, -, -, -, -, ⟨e0, e1, e2⟩, -⟩ := idx t
  refine ext3 ?_ ?_ ?_
  · show win0_5.index t (0 : Fin 3) * 1 + 1 * 0 = t.val / 128; omega
  · show win0_5.index t (1 : Fin 3) * 4096 + 1 * k.val = k.val; omega
  · show win0_5.index t (2 : Fin 3) * 256 + 1 * d.val = 256 * (t.val / 8 % 16) + d.val; omega

theorem emb6 (t : Fin cfg0.N) (k : Fin 8) (d : Fin 256) :
    ((cfg0.win 6).blk t).view.emb (ix3 0 k d : S1x8x256.Idx) = (ix3 (bat t) k (hcol256 (hed t) d) : S8x8x4096.Idx) := by
  obtain ⟨-, -, -, -, -, -, ⟨e0, e1, e2⟩, -⟩ := idx t
  refine ext3 ?_ ?_ ?_
  · show win0_6.index t (0 : Fin 3) * 1 + 1 * 0 = t.val / 128; omega
  · show win0_6.index t (1 : Fin 3) * 8 + 1 * k.val = k.val; omega
  · show win0_6.index t (2 : Fin 3) * 256 + 1 * d.val = 256 * (t.val / 8 % 16) + d.val; omega

theorem emb7 (t : Fin cfg0.N) (r : Fin 512) (d : Fin 256) :
    ((cfg0.win 7).blk t).view.emb (ix3 0 r d : S1x512x256.Idx) = (ix3 (bat t) (rowb t r) (hcol256 (hed t) d) : S8x4096x4096.Idx) := by
  obtain ⟨-, -, -, -, -, -, -, e0, e1, e2⟩ := idx t
  refine ext3 ?_ ?_ ?_
  · show win0_7.index t (0 : Fin 3) * 1 + 1 * 0 = t.val / 128; omega
  · show win0_7.index t (1 : Fin 3) * 512 + 1 * r.val = t.val % 8 * 512 + r.val; omega
  · show win0_7.index t (2 : Fin 3) * 256 + 1 * d.val = 256 * (t.val / 8 % 16) + d.val; omega

/-! ## The blocks -/

section Blocks

variable (c : Dev nD) (t : Fin cfg0.N)

theorem blk1 (r : Fin 512) (d : Fin 256) : iblk m c 1 t (ix3 0 r d : S1x512x256.Idx) = a1 m c (ix3 (bat t) (rowb t r) (hcol256 (hed t) d) : S8x4096x4096.Idx) :=
  congrArg (a1 m c) (emb1 t r d)

theorem blk2 (h : Fin 16) (r : Fin 512) : iblk m c 2 t (ix3 0 h r : S1x16x512.Idx) = a2 m c (ix3 (bat t) h (rowb t r) : S8x16x4096.Idx) :=
  congrArg (a2 m c) (emb2 t h r)

theorem blk3 (k : Fin 4096) (d : Fin 256) : iblk m c 3 t (ix3 0 k d : S1x4096x256.Idx) = a3 m c (ix3 (bat t) k (hcol256 (hed t) d) : S8x4096x4096.Idx) :=
  congrArg (a3 m c) (emb3 t k d)

theorem blk4 (k : Fin 4096) (h : Fin 128) : iblk m c 4 t (ix3 0 k h : S1x4096x128.Idx) = a4 m c (ix3 (bat t) k h : S8x4096x128.Idx) :=
  congrArg (a4 m c) (emb4 t k h)

theorem blk5 (k : Fin 4096) (d : Fin 256) : iblk m c 5 t (ix3 0 k d : S1x4096x256.Idx) = a5 m c (ix3 (bat t) k (hcol256 (hed t) d) : S8x4096x4096.Idx) :=
  congrArg (a5 m c) (emb5 t k d)

theorem head_val : (grid0.coords t 1).val = (hed t).val := (coords t).1

theorem sink_eq : sink (grid0.coords t) (iblk m c 0 t) = a0 m c (ix1 (hed t) : S16.Idx) := by
  refine (congrArg (iblk m c 0 t) (?_ : _ = (ix1 (hed t) : S16.Idx))).trans (congrArg (a0 m c) (emb0 t (hed t)))
  funext a; apply Fin.ext
  match a with
  | ⟨0, _⟩ =>
    show (BitVec.ofNat 32 (grid0.coords t 1).val).toNat + 1 * 0 = (hed t).val
    rw [head_val, BitVec.toNat_ofNat]
    have := (hed t).isLt
    omega

theorem qsc_eq (r : Fin 512) : qsc (grid0.coords t) (iblk m c 2 t) r
    = a2 m c (ix3 (bat t) (hed t) (rowb t r) : S8x16x4096.Idx) * (((Real.log 2)⁻¹ * 16⁻¹ : ℝ) : EReal) := by
  refine (AttnIdealSteps.pay12_apply _ r).trans (congrArg (fun z : EReal => z * _) ?_)
  refine (congrArg (iblk m c 2 t) (?_ : _ = (ix3 0 (hed t) r : S1x16x512.Idx))).trans (blk2 m c t (hed t) r)
  refine ext3 rfl ?_ ?_
  · show (BitVec.ofNat 32 (grid0.coords t 1).val).toNat + 1 * 0 = (hed t).val
    rw [head_val, BitVec.toNat_ofNat]
    have := (hed t).isLt
    omega
  · show 0 + 1 * r.val = r.val; omega

theorem vsc_eq : vsc (iblk m c 6 t) (ix3 0 0 0 : S1x1x1.Idx) = a6 m c (ix3 (bat t) 0 (hcol256 (hed t) 0) : S8x8x4096.Idx) := by
  refine (congrArg (iblk m c 6 t) (?_ : _ = (ix3 0 0 0 : S1x8x256.Idx))).trans (congrArg (a6 m c) (emb6 t 0 0))
  exact ext3 rfl rfl rfl

theorem hcol_eq : hcol (grid0.coords t) = ⟨(hed t).val, by have := (hed t).isLt; omega⟩ := Fin.ext (coords t).1

theorem Y_eq (r : Fin 512) (k : Fin 4096) :
    Y (grid0.coords t) (iblk m c 1 t) (iblk m c 3 t) (iblk m c 4 t) r k
      = if Sees (hed t).val (rowb t r).val k.val
        then (∑ x : Fin 256, a1 m c (ix3 (bat t) (rowb t r) (hcol256 (hed t) x) : S8x4096x4096.Idx) * a3 m c (ix3 (bat t) k (hcol256 (hed t) x) : S8x4096x4096.Idx))
          * a4 m c (ix3 (bat t) k ⟨(hed t).val, by have := (hed t).isLt; omega⟩ : S8x4096x128.Idx) else (⊥ : EReal) := by
  unfold Y
  refine if_congr ?_ ?_ rfl
  · rw [head_val, (coords t).2, show 512 * (t.val % 8) + r.val = (rowb t r).val from (by show _ = t.val % 8 * 512 + r.val; omega)]
  · rw [hcol_eq]
    refine congrArg₂ (fun a b : EReal => a * b) (Finset.sum_congr rfl fun x _ => ?_) (blk4 m c t k _)
    exact (congrArg₂ (fun a b : EReal => a * b) (blk3 m c t k x) (blk1 m c t r x)).trans (mul_comm _ _)

end Blocks

/-- The whole result. -/
def final (c : Dev nD) : Vec Ideal S8x4096x4096 .bf16 := fun i =>
  result (a0 m c) (a1 m c) (a2 m c) (a3 m c) (a4 m c) (a5 m c) (a6 m c)
    (i 0) (i 1) ⟨(i 2).val / 256, by have h : (i 2).val < 4096 := (i 2).isLt; omega⟩ ⟨(i 2).val % 256, by omega⟩

theorem L_mul : (((Real.log 2)⁻¹ * 16⁻¹ : ℝ) : EReal) = Ideal.ofBits .f32 0x3D800000#32 * AttnMath.L := by
  rw [sixteenth, AttnMath.L, ← EReal.coe_mul, mul_comm]

theorem bot_mul_pos {x : EReal} (h : 0 < x) : (⊥ : EReal) * x = ⊥ := EReal.bot_mul_of_pos h

theorem L_pos : (0 : EReal) < AttnMath.L := EReal.coe_pos.mpr AttnMath.log2_pos

/-- What a point leaves is its block of the result, where the query scales are positive. -/
theorem outAt_eq (c : Dev nD) (hpos : ∀ i : S8x16x4096.Idx, (0 : EReal) < a2 m c i) (t : Fin cfg0.N) (r : Fin 512) (d : Fin 256) :
    outAt m c t (ix3 0 r d : S1x512x256.Idx)
      = result (a0 m c) (a1 m c) (a2 m c) (a3 m c) (a4 m c) (a5 m c) (a6 m c)
        (bat t) (rowb t r) (hed t) d := by
  have hl : (0 : EReal) < (((Real.log 2)⁻¹ * 16⁻¹ : ℝ) : EReal) :=
    EReal.coe_pos.mpr (mul_pos AttnMath.log2_pos (by norm_num))
  have hq : (0 : EReal) < a2 m c (ix3 (bat t) (hed t) (rowb t r) : S8x16x4096.Idx) * (((Real.log 2)⁻¹ * 16⁻¹ : ℝ) : EReal) :=
    EReal.mul_pos (hpos _) hl
  refine (out_apply (grid0.coords t) (iblk m c 0 t) (iblk m c 1 t) (iblk m c 2 t) (iblk m c 3 t) (iblk m c 4 t) (iblk m c 5 t) (iblk m c 6 t) r d
    (score (a1 m c) (a2 m c) (a3 m c) (a4 m c) (bat t) (hed t) (rowb t r)) ?_ ?_ ?_).trans ?_
  · rw [qsc_eq]; exact hq.le
  · intro k hk
    rw [qsc_eq, Y_eq]
    unfold score
    by_cases hs : Sees (hed t).val (rowb t r).val k.val
    · rw [if_pos hs, if_pos hs, L_mul]
      ac_rfl
    · rw [if_neg hs, if_neg hs, bot_mul_pos hq, bot_mul_pos L_pos]
  · intro k hk
    unfold score
    rw [if_neg]
    intro hs
    refine hk ((mem_V _ k).mpr ?_)
    unfold Sees at hs
    have e : (rowb t r).val = t.val % 8 * 512 + r.val := rfl
    have h1 := (coords t).1
    have h2 := (coords t).2
    have h3 : (hed t).val = t.val / 8 % 16 := rfl
    unfold lo
    rw [h1, h2]
    rw [h3] at hs
    have hr := r.isLt
    split <;> omega
  · unfold result
    rw [sink_eq, vsc_eq]
    exact congrArg (fun v => AttnMath.att _ v _ _) (funext fun k => blk5 m c t k d)

theorem flushed_eq (c : Dev nD) (hpos : ∀ i : S8x16x4096.Idx, (0 : EReal) < a2 m c i) (t : Fin cfg0.N) :
    (dats m 0 c).flushed 7 t = ((cfg0.win 7).blk t).view.read (Elt Ideal) (final m c) := by
  show (cfg0.win 7).cut (grid0.coords t) ((dats m 0 c).after 7 t) = _
  rw [after0_7]
  funext j
  obtain ⟨b, r, d, rfl⟩ : ∃ (b : Fin 1) (r : Fin 512) (d : Fin 256), j = (ix3 b r d : S1x512x256.Idx) :=
    ⟨j 0, j 1, j 2, eq_ix3 j⟩
  obtain rfl : b = 0 := Subsingleton.elim _ _
  show outAt m c t (ix3 0 r d : S1x512x256.Idx) = final m c (((cfg0.win 7).blk t).view.emb (ix3 0 r d : S1x512x256.Idx))
  rw [emb7, outAt_eq m c hpos]
  unfold final
  refine congrArg₂ (result (a0 m c) (a1 m c) (a2 m c) (a3 m c) (a4 m c) (a5 m c) (a6 m c) (bat t) (rowb t r)) (Fin.ext ?_) (Fin.ext ?_)
  · show t.val / 8 % 16 = (256 * (t.val / 8 % 16) + d.val) / 256; omega
  · show d.val = (256 * (t.val / 8 % 16) + d.val) % 256; omega

/-- Every index of the array is in some point's block. -/
theorem covered (i : S8x4096x4096.Idx) :
    ∃ t : Fin cfg0.N, (cfg0.win 7).flush t = true ∧ i ∈ ((cfg0.win 7).blk t).view.set := by
  have h0 : (i 0).val < 8 := (i 0).isLt
  have h1 : (i 1).val < 4096 := (i 1).isLt
  have h2 : (i 2).val < 4096 := (i 2).isLt
  let t : Fin cfg0.N := ⟨(i 0).val * 128 + (i 2).val / 256 * 8 + (i 1).val / 512, lt_of_lt_of_eq (by omega) N_0.symm⟩
  refine ⟨t, flush0_7 _, ?_⟩
  refine (congrArg (fun k => k ∈ ((cfg0.win 7).blk t).view.set)
    ((emb7 t ⟨(i 1).val % 512, by omega⟩ ⟨(i 2).val % 256, by omega⟩).trans ?_)).mp (((cfg0.win 7).blk t).view.emb_mem_set _)
  refine ext3 ?_ ?_ ?_
  · show ((i 0).val * 128 + (i 2).val / 256 * 8 + (i 1).val / 512) / 128 = (i 0).val; omega
  · show ((i 0).val * 128 + (i 2).val / 256 * 8 + (i 1).val / 512) % 8 * 512 + (i 1).val % 512 = (i 1).val; omega
  · show 256 * (((i 0).val * 128 + (i 2).val / 256 * 8 + (i 1).val / 512) / 8 % 16) + (i 2).val % 256 = (i 2).val; omega

/-- The array after the run: the result of the arguments. -/
theorem arr_eq (c : Dev nD) (hpos : ∀ i : S8x16x4096.Idx, (0 : EReal) < a2 m c i) : (dats m 0 c).arrAt 7 cfg0.N = final m c :=
  (dats m 0 c).arrAt_eq_of_cover 7 (final m c) (fun t _ => flushed_eq m c hpos t) covered

end Cert.AttnIdealValue

end
-- ==== Proof.AttnRefSteps.lean ====
module

public import proofs.«01_k».proof.Proof.Gen.AttnRefIdeal.Value
public import proofs.«01_k».proof.Proof.AttnSpec
public import proofs.«01_k».proof.Proof.Amax
public import proofs.«01_k».proof.Proof.Pow2
public import Idealize.ShloMosaic.Lib.Pointwise

@[expose] public section

set_option maxRecDepth 16384

/-!
# The attention reference's steps, entry by entry
-/

noncomputable section

namespace Cert.AttnRefSteps

open Cert.AttnRefIdeal Cert.AttnRefIdeal.Gen Cert.AttnIdealScore Idealize.ShloMosaic Idealize.ShloMosaic.TcCoe Idealize.SL.Sem
open Cert.Amax (ofBits_ninf code top)
open Cert.Pow2 (refExp)
open Cert.AttnSpec (hcol256)

/-- The batch and the head of a row of heads. -/
def bat (g : Fin 128) : Fin 8 := ⟨g.val / 16, by omega⟩
def hed (g : Fin 128) : Fin 16 := ⟨g.val % 16, by omega⟩

/-- The largest entry of each row. -/
def rowSup (y : FVec Ideal S128x4096x4096 .f32) : FVec Ideal S128x4096 .f32 :=
  multiReduction .maximumf [2] S128x4096 y 0xFF800000#32 reduces_S128x4096x4096_S128x4096 (.inl rfl) rfl

/-- The sum of each row. -/
def rowSum (y : FVec Ideal S128x4096x4096 .f32) : FVec Ideal S128x4096 .f32 :=
  multiReduction .add [2] S128x4096 y 0x00000000#32 reduces_S128x4096x4096_S128x4096 (.inl rfl) rfl

theorem lift_eq (g : Fin 128) (r k : Fin 4096) :
    (reduces_S128x4096x4096_S128x4096 : S128x4096x4096.Reduces [2] S128x4096).lift (ix2 g r) k = ix3 g r k := by
  funext a
  match a with
  | ⟨0, _⟩ => rfl
  | ⟨1, _⟩ => rfl
  | ⟨2, _⟩ => rfl

theorem rowSup_apply (y : FVec Ideal S128x4096x4096 .f32) (g : Fin 128) (r : Fin 4096) :
    rowSup y (ix2 g r) = Finset.univ.sup fun k : Fin 4096 => y (ix3 g r k) :=
  (Amax.maxReduce_apply y reduces_S128x4096x4096_S128x4096 (.inl rfl) rfl (ix2 g r)).trans
    (congrArg (Finset.univ : Finset (Fin 4096)).sup (funext fun k => congrArg y (lift_eq g r k)))

theorem rowSum_apply (y : FVec Ideal S128x4096x4096 .f32) (g : Fin 128) (r : Fin 4096) :
    rowSum y (ix2 g r) = ∑ k : Fin 4096, y (ix3 g r k) :=
  (Ideal.multiReduction_add_single y 0x00000000#32 reduces_S128x4096x4096_S128x4096 (.inl rfl) rfl (ix2 g r)).trans
    (Finset.sum_congr rfl fun k _ => congrArg y (lift_eq g r k))

theorem max_at {s : Shape} (x y : FVec Ideal s .f32) (i : s.Idx) : maximumf x y i = max (x i) (y i) := rfl
theorem mul_at {s : Shape} (x y : FVec Ideal s .f32) (i : s.Idx) : mulf x y i = x i * y i := rfl
theorem add_at {s : Shape} (x y : FVec Ideal s .f32) (i : s.Idx) : addf x y i = x i + y i := rfl
theorem exp_sub_at {s : Shape} (x y : FVec Ideal s .f32) (i : s.Idx) : exp (subf x y) i = Ideal.exp (x i - y i) := rfl
theorem bcast_at {s : Shape} (w : BitVec 32) (i : s.Idx) : broadcast s (Scalar.ofBits (F := Ideal) .f32 w) i = Ideal.ofBits .f32 w := rfl

theorem col_apply (w : FVec Ideal S128x4096 .f32) (g : Fin 128) (r : Fin 4096) :
    shapeCast S128x4096x1 w shapeCasts_S128x4096_S128x4096x1 (ix3 g r 0) = w (ix2 g r) := by
  pointwise []

theorem one_apply (w : FVec Ideal S128x1x1 .f32) (g : Fin 128) (r : Fin 4096) :
    broadcastTo S128x4096x1 w broadcasts_S128x1x1_S128x4096x1 (ix3 g r 0) = w (ix3 g 0 0) := by
  pointwise []

theorem pay8_apply (v : Vec Ideal S128x1x1 .f32) (g : Fin 128) : k0_pay8 v (ix3 g 0 0) = v (ix3 g 0 0) := by
  pointwise [k0_pay8]

theorem pay2_apply (v : Vec Ideal S8x4096x4096 .fp8e4m3) (g : Fin 128) (k : Fin 4096) (d : Fin 256) :
    k0_pay2 v (ix3 g k d) = v (ix3 (bat g) k (hcol256 (hed g) d)) := by
  have e : (⟨g.val % 16 * 256 + d.val, by omega⟩ : Fin 4096) = hcol256 (hed g) d :=
    Fin.ext (show g.val % 16 * 256 + d.val = 256 * (g.val % 16) + d.val by omega)
  rw [← e]
  pointwise [k0_pay2]
  rfl

theorem pay1_apply (v : FVec Ideal S128x4096x256 .f32) (b : Fin 8) (r q : Fin 4096) :
    k0_pay1 v (ix3 b r q) = v (ix3 ⟨b.val * 16 + q.val / 256, by omega⟩ r ⟨q.val % 256, by omega⟩) := by
  pointwise [k0_pay1]

theorem pay3_apply (v0 v5 : Vec Ideal S8x4096x4096 .fp8e4m3) (v15 : Vec Ideal S8x16x4096 .f32) (v17 : Vec Ideal S8x4096x16 .f32) (g : Fin 128) (r k : Fin 4096) :
    k0_pay3 v0 v5 v15 v17 (ix3 g r k)
      = (∑ x : Fin 256, v0 (ix3 (bat g) r (hcol256 (hed g) x)) * v5 (ix3 (bat g) k (hcol256 (hed g) x)))
        * (v15 (ix3 (bat g) (hed g) r) * Ideal.ofBits .f32 0x3D800000#32) * v17 (ix3 (bat g) k (hed g)) := by
  have e : ∀ x : Fin 256, (⟨g.val % 16 * 256 + x.val, by omega⟩ : Fin 4096) = hcol256 (hed g) x :=
    fun x => Fin.ext (show g.val % 16 * 256 + x.val = 256 * (g.val % 16) + x.val by omega)
  pointwise [k0_pay3]
  refine congrArg (fun z : EReal => z * _ * _) (Finset.sum_congr rfl fun x _ => ?_)
  rw [e x]
  rfl

/-- The head number of row `g` of the heads, from the row's number. -/
def head32 (g : ℕ) : BitVec 32 :=
  Scalar.select
    (IntOp.andi
      (IntOp.xori
        (IntOp.cmpi CmpIPredicate.slt
          (IntOp.remsi ArithUnit.vector (BitVec.ofNat 32 g) (Scalar.select (Scalar.cmpi CmpIPredicate.eq 16#32 0#32) 1#32 16#32)) 0#32)
        (Scalar.cmpi CmpIPredicate.slt (Scalar.select (Scalar.cmpi CmpIPredicate.eq 16#32 0#32) 1#32 16#32) 0#32))
      (IntOp.cmpi CmpIPredicate.ne
        (IntOp.remsi ArithUnit.vector (BitVec.ofNat 32 g) (Scalar.select (Scalar.cmpi CmpIPredicate.eq 16#32 0#32) 1#32 16#32)) 0#32))
    (IntOp.addi (IntOp.remsi ArithUnit.vector (BitVec.ofNat 32 g) (Scalar.select (Scalar.cmpi CmpIPredicate.eq 16#32 0#32) 1#32 16#32))
      (Scalar.select (Scalar.cmpi CmpIPredicate.eq 16#32 0#32) 1#32 16#32))
    (IntOp.remsi ArithUnit.vector (BitVec.ofNat 32 g) (Scalar.select (Scalar.cmpi CmpIPredicate.eq 16#32 0#32) 1#32 16#32))

/-- Whether the head is even. -/
def even32 (w : BitVec 32) : BitVec 1 :=
  IntOp.cmpi CmpIPredicate.eq
    (Scalar.select
      (IntOp.andi
        (IntOp.xori
          (IntOp.cmpi CmpIPredicate.slt
            (IntOp.remsi ArithUnit.vector w (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne
          (IntOp.remsi ArithUnit.vector w (Scalar.select (Scalar.cmpi CmpIPredicate.eq 2#32 0#32) 1#32 2#32)) 0#32))
      (IntOp.addi (IntOp.remsi ArithUnit.vector w (Scalar.select (Scalar.cmpi CmpIPredicate.eq 2#32 0#32) 1#32 2#32))
        (Scalar.select (Scalar.cmpi CmpIPredicate.eq 2#32 0#32) 1#32 2#32))
      (IntOp.remsi ArithUnit.vector w (Scalar.select (Scalar.cmpi CmpIPredicate.eq 2#32 0#32) 1#32 2#32)))
    0#32

theorem even_eq (g : Fin 128) : even32 (head32 g.val) = BitVec.ofBool (decide (g.val % 16 % 2 = 0)) := by
  have H : ∀ g : Fin 128, even32 (head32 g.val) = BitVec.ofBool (decide (g.val % 16 % 2 = 0)) := by decide +kernel
  exact H g

theorem keep_eq (h r k : ℕ) (hr : r < 4096) (hk : k < 4096) :
    IntOp.andi (IntOp.cmpi .sge (IntOp.subi (BitVec.ofNat 32 r) (BitVec.ofNat 32 k)) 0#32)
      (IntOp.ori (BitVec.ofBool (decide (h % 2 = 0)))
        (IntOp.cmpi .slt (IntOp.subi (BitVec.ofNat 32 r) (BitVec.ofNat 32 k)) 1024#32))
      = BitVec.ofBool (decide (Sees h r k)) := by
  have e0 : IntOp.subi (BitVec.ofNat 32 r) (BitVec.ofNat 32 k) = BitVec.ofInt 32 ((r : ℤ) - k) := by
    have := rel_eq 0 r k
    rw [show IntOp.addi (BitVec.ofInt 32 0) (BitVec.ofNat 32 r) = BitVec.ofNat 32 r from BitVec.zero_add _, zero_add] at this
    exact this
  have e : (BitVec.ofInt 32 ((r : ℤ) - k)).toInt = (r : ℤ) - k := by
    exact BitVec.toInt_ofInt_eq_self (by decide) (by norm_num; omega) (by norm_num; omega)
  rw [e0]
  show BitVec.ofBool ((0#32).sle _) &&& (BitVec.ofBool _ ||| BitVec.ofBool (BitVec.slt _ 1024#32)) = _
  rw [BitVec.sle, BitVec.slt, e, show (0#32 : BitVec 32).toInt = 0 from rfl, show (1024#32 : BitVec 32).toInt = 1024 from rfl,
    BitVec.ofBool_or_ofBool, BitVec.ofBool_and_ofBool, ← Bool.decide_or, ← Bool.decide_and]
  refine congrArg BitVec.ofBool (decide_eq_decide.mpr ?_)
  unfold Sees
  omega

theorem pay7_apply (x : FVec Ideal S128x4096x4096 .f32) (g : Fin 128) (r k : Fin 4096) :
    k0_pay7 x (Scalar.select (Scalar.cmpi CmpIPredicate.eq 16#32 0#32) 1#32 16#32) k0_pay4 k0_pay5 k0_pay6
        (Scalar.cmpi CmpIPredicate.slt (Scalar.select (Scalar.cmpi CmpIPredicate.eq 16#32 0#32) 1#32 16#32) 0#32) (ix3 g r k)
      = if Sees (g.val % 16) r.val k.val then x (ix3 g r k) else ⊥ := by
  have h4 : (k0_pay4 : IVec S128x4096x4096 32) (ix3 g r k)
      = IntOp.remsi ArithUnit.vector (BitVec.ofNat 32 g.val) (Scalar.select (Scalar.cmpi CmpIPredicate.eq 16#32 0#32) 1#32 16#32) := by
    pointwise [k0_pay4]
  have h5 : (k0_pay5 : IVec S128x4096x4096 1) (ix3 g r k)
      = IntOp.cmpi CmpIPredicate.ne (IntOp.remsi ArithUnit.vector (BitVec.ofNat 32 g.val) (Scalar.select (Scalar.cmpi CmpIPredicate.eq 16#32 0#32) 1#32 16#32)) 0#32 := by
    pointwise [k0_pay5, k0_pay4]
  have h6 : (k0_pay6 : IVec S128x4096x4096 1) (ix3 g r k)
      = IntOp.cmpi CmpIPredicate.slt (IntOp.remsi ArithUnit.vector (BitVec.ofNat 32 g.val) (Scalar.select (Scalar.cmpi CmpIPredicate.eq 16#32 0#32) 1#32 16#32)) 0#32 := by
    pointwise [k0_pay6, k0_pay4]
  rw [← select_decide, ← keep_eq _ _ _ r.isLt k.isLt, ← even_eq, ← ofBits_ninf]
  pointwise [k0_pay7]
  rw [h4, h5, h6]
  rfl

theorem pay9_eq (x : FVec Ideal S128x4096x4096 .f32) (a : BitVec 32) (b : IVec S128x4096x4096 32) (c d : IVec S128x4096x4096 1) (e : BitVec 1)
    (v : Vec Ideal S128x1x1 .f32) :
    k0_pay9 x a b c d e v = maximumf (shapeCast S128x4096x1 (rowSup (k0_pay7 x a b c d e)) shapeCasts_S128x4096_S128x4096x1)
      (broadcastTo S128x4096x1 (k0_pay8 v) broadcasts_S128x1x1_S128x4096x1) := rfl

/-- The maximum of a row of scores and the sink. -/
theorem pay9_apply (x : FVec Ideal S128x4096x4096 .f32) (a : BitVec 32) (b : IVec S128x4096x4096 32) (c d : IVec S128x4096x4096 1) (e : BitVec 1)
    (v : Vec Ideal S128x1x1 .f32) (g : Fin 128) (r : Fin 4096) (s : Fin 4096 → EReal) (hs : ∀ k, k0_pay7 x a b c d e (ix3 g r k) = s k) :
    k0_pay9 x a b c d e v (ix3 g r 0) = AttnMath.rowMax s (v (ix3 g 0 0)) := by
  obtain rfl : (fun k => k0_pay7 x a b c d e (ix3 g r k)) = s := funext hs
  rw [pay9_eq, max_at, col_apply, rowSup_apply, one_apply, pay8_apply, AttnMath.rowMax]

theorem pay10_eq (x : FVec Ideal S128x4096x4096 .f32) (a : BitVec 32) (b : IVec S128x4096x4096 32) (c d : IVec S128x4096x4096 1) (e : BitVec 1)
    (v : Vec Ideal S128x1x1 .f32) :
    k0_pay10 x a b c d e v = exp (subf (k0_pay7 x a b c d e) (broadcastTo S128x4096x4096 (k0_pay9 x a b c d e v) broadcasts_S128x4096x1_S128x4096x4096)) := rfl

theorem row_apply (w : FVec Ideal S128x4096x1 .f32) (g : Fin 128) (r k : Fin 4096) :
    broadcastTo S128x4096x4096 w broadcasts_S128x4096x1_S128x4096x4096 (ix3 g r k) = w (ix3 g r 0) := by
  pointwise []

theorem pay10_apply (x : FVec Ideal S128x4096x4096 .f32) (a : BitVec 32) (b : IVec S128x4096x4096 32) (c d : IVec S128x4096x4096 1) (e : BitVec 1)
    (v : Vec Ideal S128x1x1 .f32) (g : Fin 128) (r k : Fin 4096) (s : Fin 4096 → EReal) (hs : ∀ k, k0_pay7 x a b c d e (ix3 g r k) = s k) :
    k0_pay10 x a b c d e v (ix3 g r k) = AttnMath.prob s (v (ix3 g 0 0)) k := by
  rw [pay10_eq, exp_sub_at, hs, row_apply, pay9_apply x a b c d e v g r s hs, AttnMath.prob]

/-- The top of each row of probabilities. -/
def tops (v81 : FVec Ideal S128x4096x4096 .f32) : FVec Ideal S128x4096x1 .f32 :=
  mulf (shapeCast S128x4096x1 (multiReduction .maximumf [2] S128x4096 v81 0xFF800000#32 reduces_S128x4096x4096_S128x4096 (.inl rfl) rfl) shapeCasts_S128x4096_S128x4096x1)
    (broadcast S128x4096x1 (Scalar.ofBits .f32 0x3B124925#32))

/-- The exponent of each row. -/
def expo (v91 : FVec Ideal S128x4096x1 .f32) : FVec Ideal S128x4096x1 .f32 :=
  select (cmpf .olt v91 (broadcast S128x4096x1 (Scalar.ofBits (F := Ideal) .f32 0x00800000#32)))
    (broadcast S128x4096x1 (Scalar.ofBits (F := Ideal) .f32 0x00000000#32))
    (addf (minimumf (broadcast S128x4096x1 (Scalar.ofBits (F := Ideal) .f32 0x42FE0000#32))
      (maximumf (broadcast S128x4096x1 (Scalar.ofBits (F := Ideal) .f32 0xC2FC0000#32))
        (floor (divf (log v91) (broadcast S128x4096x1 (Scalar.log (Scalar.ofBits (F := Ideal) .f32 0x40000000#32)))))))
      (broadcast S128x4096x1 (Scalar.ofBits (F := Ideal) .f32 0x3F800000#32)))

/-- The sum of each row of probabilities and the sink's. -/
def totals (v74 : FVec Ideal S128x1x1 .f32) (v78 : FVec Ideal S128x4096x1 .f32) (v81 : FVec Ideal S128x4096x4096 .f32) : FVec Ideal S128x4096x1 .f32 :=
  addf (shapeCast S128x4096x1 (multiReduction .add [2] S128x4096 v81 0x00000000#32 reduces_S128x4096x4096_S128x4096 (.inl rfl) rfl) shapeCasts_S128x4096_S128x4096x1)
    (exp (subf (broadcastTo S128x4096x1 v74 broadcasts_S128x1x1_S128x4096x1) v78))

/-- The rest, from the exponents and the sums. -/
def tail (v14 : FVec Ideal S128x4096x256 .f32) (v81 : FVec Ideal S128x4096x4096 .f32) (v120 : Vec Ideal S128x1x1 .f32)
    (v106 v87 : FVec Ideal S128x4096x1 .f32) : FVec Ideal S128x4096x256 .f32 :=
  mulf (matmul dot_S128x4096x4096_S128x4096x256_S128x4096x256_2_1_1_2_0_0 none
      (extf .f32 (truncf .fp8e4m3 (minimumf (broadcast S128x4096x4096 (Scalar.ofBits .f32 0x43E00000#32)) (maximumf (broadcast S128x4096x4096 (Scalar.ofBits .f32 0xC3E00000#32))
        (mulf v81 (broadcastTo S128x4096x4096 (exp2 (subf (broadcast S128x4096x1 (Scalar.ofBits .f32 0x00000000#32)) v106)) broadcasts_S128x4096x1_S128x4096x4096)))) bitsLt_fp8e4m3_f32) bitsLt_fp8e4m3_f32)
      v14 (constant S128x4096x256 .f32 0x00000000#32))
    (broadcastTo S128x4096x256 (divf (mulf (exp2 v106) (broadcastTo S128x4096x1 (shapeCast S128x1x1 v120 shapeCasts_S128x1x1_S128x1x1) broadcasts_S128x1x1_S128x4096x1)) v87) broadcasts_S128x4096x1_S128x4096x256)

theorem pay11_eq (v14 : FVec Ideal S128x4096x256 .f32) (v74 : FVec Ideal S128x1x1 .f32) (v78 : FVec Ideal S128x4096x1 .f32) (v81 : FVec Ideal S128x4096x4096 .f32) (v120 : Vec Ideal S128x1x1 .f32) :
    k0_pay11 v14 v74 v78 v81 v120 = tail v14 v81 v120 (expo (tops v81)) (totals v74 v78 v81) := rfl

theorem tops_eq (v81 : FVec Ideal S128x4096x4096 .f32) :
    tops v81 = mulf (shapeCast S128x4096x1 (rowSup v81) shapeCasts_S128x4096_S128x4096x1) (broadcast S128x4096x1 (Scalar.ofBits .f32 0x3B124925#32)) := rfl

theorem tops_apply (v81 : FVec Ideal S128x4096x4096 .f32) (g : Fin 128) (r : Fin 4096) :
    tops v81 (ix3 g r 0) = top (Finset.univ.sup fun k : Fin 4096 => v81 (ix3 g r k)) := by
  rw [tops_eq, mul_at, col_apply, rowSup_apply, bcast_at, top]

theorem expo_apply (v : FVec Ideal S128x4096x1 .f32) (i : S128x4096x1.Idx) : expo v i = refExp (v i) := Amax.exponent_apply v i

theorem totals_eq (v74 : FVec Ideal S128x1x1 .f32) (v78 : FVec Ideal S128x4096x1 .f32) (v81 : FVec Ideal S128x4096x4096 .f32) :
    totals v74 v78 v81 = addf (shapeCast S128x4096x1 (rowSum v81) shapeCasts_S128x4096_S128x4096x1)
      (exp (subf (broadcastTo S128x4096x1 v74 broadcasts_S128x1x1_S128x4096x1) v78)) := rfl

theorem totals_apply (v74 : FVec Ideal S128x1x1 .f32) (v78 : FVec Ideal S128x4096x1 .f32) (v81 : FVec Ideal S128x4096x4096 .f32) (g : Fin 128) (r : Fin 4096) :
    totals v74 v78 v81 (ix3 g r 0) = (∑ k : Fin 4096, v81 (ix3 g r k)) + Ideal.exp (v74 (ix3 g 0 0) - v78 (ix3 g r 0)) := by
  rw [totals_eq, add_at, col_apply, rowSum_apply, exp_sub_at, one_apply]

theorem tail_apply (v14 : FVec Ideal S128x4096x256 .f32) (v81 : FVec Ideal S128x4096x4096 .f32) (v120 : Vec Ideal S128x1x1 .f32)
    (v106 v87 : FVec Ideal S128x4096x1 .f32) (g : Fin 128) (r : Fin 4096) (d : Fin 256) :
    tail v14 v81 v120 v106 v87 (ix3 g r d)
      = (∑ k : Fin 4096, code (v81 (ix3 g r k)) (Ideal.exp2 (0 - v106 (ix3 g r 0))) * v14 (ix3 g k d))
        * Ideal.div (Ideal.exp2 (v106 (ix3 g r 0)) * v120 (ix3 g 0 0)) (v87 (ix3 g r 0)) := by
  unfold code
  pointwise [tail]
  rfl

end Cert.AttnRefSteps

end
-- ==== Proof.AttnRefHost.lean ====
module

public import proofs.«01_k».proof.Proof.Gen.AttnRefIdeal.Frame
public import Idealize.ShloMosaic.Lib.Pointwise
public import Idealize.ShloMosaic.Lib.StableHlo.ReadAt

@[expose] public section

/-!
# What the attention reference's region reads of the sinks and of the value scales
-/

noncomputable section

namespace Cert.AttnRefHost

open Cert.AttnRefIdeal Cert.AttnRefIdeal.Gen Idealize.ShloMosaic Idealize.ShloMosaic.TcCoe Idealize.SL.Sem Idealize.ShloMosaic.StableHlo

variable (m : (ℓ : Loc nD τ sig) → Buf (Elt Ideal) ℓ)

/-- The sinks, one per row of heads. -/
theorem sinks_apply (c : Dev nD) (g : Fin 128) :
    (V m c main_v2 : Vec Ideal S128x1x1 .f32) (ix3 g 0 0)
      = (m ((c.tc : Thread nD τ).loc main_arg0) : Vec Ideal S16 .f32) (ix1 ⟨g.val % 16, by omega⟩) := by
  unfold V
  after_reads_at

/-- The value scales, one per row of heads. -/
theorem scales_apply (c : Dev nD) (g : Fin 128) :
    (V m c main_v5 : Vec Ideal S128x1x1 .f32) (ix3 g 0 0)
      = (m ((c.tc : Thread nD τ).loc main_arg6) : Vec Ideal S8x8x4096 .f32) (ix3 ⟨g.val / 16, by omega⟩ 0 ⟨256 * (g.val % 16), by omega⟩) := by
  unfold V
  after_reads_at

end Cert.AttnRefHost

end
-- ==== Proof.AttnRef.lean ====
module

public import proofs.«01_k».proof.Proof.AttnRefSteps
public import proofs.«01_k».proof.Proof.AttnRefHost
public import proofs.«01_k».proof.Proof.Idx

@[expose] public section

set_option maxRecDepth 16384

/-!
# The array the attention reference leaves

Entry by entry it is the result of the arguments.
-/

noncomputable section

namespace Cert.AttnRef

open Cert.AttnRefIdeal Cert.AttnRefIdeal.Gen Cert.AttnRefSteps Cert.AttnSpec Cert.AttnIdealScore
open Idealize.ShloMosaic Idealize.ShloMosaic.TcCoe Idealize.SL.Sem
open Cert.Amax (code top)
open Cert.Ix (ext3)

theorem hz : (![0, 0, 0] : Fin 3 → Nat) = fun _ => 0 := funext fun a => by fin_cases a <;> rfl

/-- The key scales' columns that are read. -/
theorem ld2 (x4 : Vec Ideal S8x4096x128 .f32) (b : Fin 8) (k : Fin 4096) (h : Fin 16) :
    (View.ld x4 r0_2 : Vec Ideal S8x4096x16 .f32) (ix3 b k h) = x4 (ix3 b k ⟨h.val, by omega⟩) := by
  pointwise []

/-- What the body leaves, one row of one head. -/
theorem heads_apply (x0 : Vec Ideal S128x1x1 .f32) (x1 : Vec Ideal S8x4096x4096 .fp8e4m3) (x2 : Vec Ideal S8x16x4096 .f32)
    (x3 : Vec Ideal S8x4096x4096 .fp8e4m3) (x4 : Vec Ideal S8x4096x128 .f32) (x5 : Vec Ideal S8x4096x4096 .fp8e4m3) (x6 : Vec Ideal S128x1x1 .f32)
    (s : FVec Ideal S128x4096x4096 .f32) (v9 : FVec Ideal S128x4096x1 .f32) (v10 : FVec Ideal S128x4096x4096 .f32)
    (g : Fin 128) (r : Fin 4096) (d : Fin 256) (sc : Fin 4096 → EReal) (sink : EReal)
    (h8 : k0_pay8 x0 (ix3 g 0 0) = sink)
    (h9 : v9 (ix3 g r 0) = AttnMath.rowMax sc sink) (h10 : ∀ k, v10 (ix3 g r k) = AttnMath.prob sc sink k) :
    k0_pay11 (k0_pay2 x5) (k0_pay8 x0) v9 v10 x6 (ix3 g r d)
      = AttnMath.att sc (fun k => x5 (ix3 (bat g) k (hcol256 (hed g) d))) sink (x6 (ix3 g 0 0)) := by
  have ht : tops v10 (ix3 g r 0) = AttnMath.probTop sc sink := by
    rw [tops_apply, AttnMath.probTop]
    exact congrArg top (congrArg (Finset.univ : Finset (Fin 4096)).sup (funext h10))
  have hl : totals (k0_pay8 x0) v9 v10 (ix3 g r 0) = AttnMath.total sc sink := by
    rw [totals_apply, AttnMath.total, h8, h9]
    exact congrArg (fun z : EReal => z + _) (Finset.sum_congr rfl fun k _ => h10 k)
  have hi : Ideal.exp2 (0 - Pow2.refExp (AttnMath.probTop sc sink)) = Pow2.inv (AttnMath.probTop sc sink) := by
    rw [← Pow2.exp2_neg_refExp, Ideal.ofBits_zero_f32]
  rw [pay11_eq, tail_apply, expo_apply, ht, hl, hi, Pow2.exp2_refExp, AttnMath.att]
  refine congrArg (fun z : EReal => z * _) (Finset.sum_congr rfl fun k _ => ?_)
  rw [h10, pay2_apply]

/-- What the body leaves, at an index. -/
theorem out_apply (x0 : Vec Ideal S128x1x1 .f32) (x1 : Vec Ideal S8x4096x4096 .fp8e4m3) (x2 : Vec Ideal S8x16x4096 .f32)
    (x3 : Vec Ideal S8x4096x4096 .fp8e4m3) (x4 : Vec Ideal S8x4096x128 .f32) (x5 : Vec Ideal S8x4096x4096 .fp8e4m3) (x6 : Vec Ideal S128x1x1 .f32)
    (b : Fin 8) (r q : Fin 4096) (g : Fin 128) (hg : g.val = b.val * 16 + q.val / 256) :
    out0_7 x0 x1 x2 x3 x4 x5 x6 (ix3 b r q)
      = AttnMath.att (score x1 x2 x3 x4 b ⟨q.val / 256, by omega⟩ r)
          (fun k => x5 (ix3 b k (hcol256 ⟨q.val / 256, by omega⟩ ⟨q.val % 256, by omega⟩))) (x0 (ix3 g 0 0)) (x6 (ix3 g 0 0)) := by
  have hb : bat g = b := Fin.ext (show g.val / 16 = b.val by omega)
  have hh : hed g = ⟨q.val / 256, by omega⟩ := Fin.ext (show g.val % 16 = q.val / 256 by omega)
  have e1 : (⟨b.val * 16 + q.val / 256, by omega⟩ : Fin 128) = g := Fin.ext hg.symm
  rw [← hb, ← hh]
  unfold out0_7 k0_pay15 k0_pay14 k0_pay13 k0_pay12
  rw [View.canon_unit_zero hz, View.ld_unit_zero (S := S8x4096x4096) hz, View.ld_unit_zero (S := S8x4096x4096) hz, View.ld_unit_zero (S := S8x4096x4096) hz,
    View.ld_unit_zero (S := S8x16x4096) hz, View.ld_unit_zero (S := S128x1x1) hz, View.ld_unit_zero (S := S128x1x1) hz, hb, pay1_apply, e1, ← hb]
  have hs : ∀ k, k0_pay7 (k0_pay3 x1 x3 x2 (View.ld x4 r0_2)) (Scalar.select (Scalar.cmpi CmpIPredicate.eq 16#32 0#32) 1#32 16#32) k0_pay4 k0_pay5 k0_pay6
      (Scalar.cmpi CmpIPredicate.slt (Scalar.select (Scalar.cmpi CmpIPredicate.eq 16#32 0#32) 1#32 16#32) 0#32) (ix3 g r k)
      = score x1 x2 x3 x4 (bat g) (hed g) r k := by
    intro k
    rw [pay7_apply, pay3_apply, ld2, score]
    rfl
  exact heads_apply x0 x1 x2 x3 x4 x5 x6 (k0_pay3 x1 x3 x2 (View.ld x4 r0_2)) _ _ g r _ _ _ (pay8_apply x0 g)
    (pay9_apply _ _ _ _ _ _ x0 g r _ hs) (fun k => pay10_apply _ _ _ _ _ _ x0 g r k _ hs)

variable (m : (ℓ : Loc nD τ sig) → Buf (Elt Ideal) ℓ)

theorem idx : ∀ t : Fin cfg0.N,
    (win0_0.index t (0 : Fin 3) = 0 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0) :=
  (by decide +kernel : ∀ t : Fin grid0.N, _)

theorem emb0 (t : Fin cfg0.N) (a : Fin 128) (b : Fin 1) (d : Fin 1) :
    ((cfg0.win 0).blk t).view.emb (ix3 a b d : S128x1x1.Idx) = (ix3 a b d : S128x1x1.Idx) := by
  obtain ⟨⟨e0, e1, e2⟩, -⟩ := idx t
  refine ext3 ?_ ?_ ?_
  · show win0_0.index t (0 : Fin 3) * 128 + 1 * a.val = a.val; omega
  · show win0_0.index t (1 : Fin 3) * 1 + 1 * b.val = b.val; omega
  · show win0_0.index t (2 : Fin 3) * 1 + 1 * d.val = d.val; omega

theorem emb1 (t : Fin cfg0.N) (a : Fin 8) (b : Fin 4096) (d : Fin 4096) :
    ((cfg0.win 1).blk t).view.emb (ix3 a b d : S8x4096x4096.Idx) = (ix3 a b d : S8x4096x4096.Idx) := by
  obtain ⟨-, ⟨e0, e1, e2⟩, -⟩ := idx t
  refine ext3 ?_ ?_ ?_
  · show win0_1.index t (0 : Fin 3) * 8 + 1 * a.val = a.val; omega
  · show win0_1.index t (1 : Fin 3) * 4096 + 1 * b.val = b.val; omega
  · show win0_1.index t (2 : Fin 3) * 4096 + 1 * d.val = d.val; omega

theorem emb2 (t : Fin cfg0.N) (a : Fin 8) (b : Fin 16) (d : Fin 4096) :
    ((cfg0.win 2).blk t).view.emb (ix3 a b d : S8x16x4096.Idx) = (ix3 a b d : S8x16x4096.Idx) := by
  obtain ⟨-, -, ⟨e0, e1, e2⟩, -⟩ := idx t
  refine ext3 ?_ ?_ ?_
  · show win0_2.index t (0 : Fin 3) * 8 + 1 * a.val = a.val; omega
  · show win0_2.index t (1 : Fin 3) * 16 + 1 * b.val = b.val; omega
  · show win0_2.index t (2 : Fin 3) * 4096 + 1 * d.val = d.val; omega

theorem emb3 (t : Fin cfg0.N) (a : Fin 8) (b : Fin 4096) (d : Fin 4096) :
    ((cfg0.win 3).blk t).view.emb (ix3 a b d : S8x4096x4096.Idx) = (ix3 a b d : S8x4096x4096.Idx) := by
  obtain ⟨-, -, -, ⟨e0, e1, e2⟩, -⟩ := idx t
  refine ext3 ?_ ?_ ?_
  · show win0_3.index t (0 : Fin 3) * 8 + 1 * a.val = a.val; omega
  · show win0_3.index t (1 : Fin 3) * 4096 + 1 * b.val = b.val; omega
  · show win0_3.index t (2 : Fin 3) * 4096 + 1 * d.val = d.val; omega

theorem emb4 (t : Fin cfg0.N) (a : Fin 8) (b : Fin 4096) (d : Fin 128) :
    ((cfg0.win 4).blk t).view.emb (ix3 a b d : S8x4096x128.Idx) = (ix3 a b d : S8x4096x128.Idx) := by
  obtain ⟨-, -, -, -, ⟨e0, e1, e2⟩, -⟩ := idx t
  refine ext3 ?_ ?_ ?_
  · show win0_4.index t (0 : Fin 3) * 8 + 1 * a.val = a.val; omega
  · show win0_4.index t (1 : Fin 3) * 4096 + 1 * b.val = b.val; omega
  · show win0_4.index t (2 : Fin 3) * 128 + 1 * d.val = d.val; omega

theorem emb5 (t : Fin cfg0.N) (a : Fin 8) (b : Fin 4096) (d : Fin 4096) :
    ((cfg0.win 5).blk t).view.emb (ix3 a b d : S8x4096x4096.Idx) = (ix3 a b d : S8x4096x4096.Idx) := by
  obtain ⟨-, -, -, -, -, ⟨e0, e1, e2⟩, -⟩ := idx t
  refine ext3 ?_ ?_ ?_
  · show win0_5.index t (0 : Fin 3) * 8 + 1 * a.val = a.val; omega
  · show win0_5.index t (1 : Fin 3) * 4096 + 1 * b.val = b.val; omega
  · show win0_5.index t (2 : Fin 3) * 4096 + 1 * d.val = d.val; omega

theorem emb6 (t : Fin cfg0.N) (a : Fin 128) (b : Fin 1) (d : Fin 1) :
    ((cfg0.win 6).blk t).view.emb (ix3 a b d : S128x1x1.Idx) = (ix3 a b d : S128x1x1.Idx) := by
  obtain ⟨-, -, -, -, -, -, ⟨e0, e1, e2⟩, -⟩ := idx t
  refine ext3 ?_ ?_ ?_
  · show win0_6.index t (0 : Fin 3) * 128 + 1 * a.val = a.val; omega
  · show win0_6.index t (1 : Fin 3) * 1 + 1 * b.val = b.val; omega
  · show win0_6.index t (2 : Fin 3) * 1 + 1 * d.val = d.val; omega

theorem emb7 (t : Fin cfg0.N) (a : Fin 8) (b : Fin 4096) (d : Fin 4096) :
    ((cfg0.win 7).blk t).view.emb (ix3 a b d : S8x4096x4096.Idx) = (ix3 a b d : S8x4096x4096.Idx) := by
  obtain ⟨-, -, -, -, -, -, -, e0, e1, e2⟩ := idx t
  refine ext3 ?_ ?_ ?_
  · show win0_7.index t (0 : Fin 3) * 8 + 1 * a.val = a.val; omega
  · show win0_7.index t (1 : Fin 3) * 4096 + 1 * b.val = b.val; omega
  · show win0_7.index t (2 : Fin 3) * 4096 + 1 * d.val = d.val; omega

theorem blk0 (c : Dev nD) (t : Fin cfg0.N) : (iblk m c 0 t : Vec Ideal S128x1x1 .f32) = V m c main_v2 := by
  funext i
  obtain ⟨a, b, d, rfl⟩ : ∃ a b d, i = (ix3 a b d : S128x1x1.Idx) := ⟨i 0, i 1, i 2, Idealize.ShloMosaic.ValueIdx.eq_ix3 i⟩
  show V m c main_v2 (((cfg0.win 0).blk t).view.emb (ix3 a b d : S128x1x1.Idx)) = _
  rw [emb0]

theorem blk1 (c : Dev nD) (t : Fin cfg0.N) : (iblk m c 1 t : Vec Ideal S8x4096x4096 .fp8e4m3) = V m c main_arg1 := by
  funext i
  obtain ⟨a, b, d, rfl⟩ : ∃ a b d, i = (ix3 a b d : S8x4096x4096.Idx) := ⟨i 0, i 1, i 2, Idealize.ShloMosaic.ValueIdx.eq_ix3 i⟩
  show V m c main_arg1 (((cfg0.win 1).blk t).view.emb (ix3 a b d : S8x4096x4096.Idx)) = _
  rw [emb1]

theorem blk2 (c : Dev nD) (t : Fin cfg0.N) : (iblk m c 2 t : Vec Ideal S8x16x4096 .f32) = V m c main_arg2 := by
  funext i
  obtain ⟨a, b, d, rfl⟩ : ∃ a b d, i = (ix3 a b d : S8x16x4096.Idx) := ⟨i 0, i 1, i 2, Idealize.ShloMosaic.ValueIdx.eq_ix3 i⟩
  show V m c main_arg2 (((cfg0.win 2).blk t).view.emb (ix3 a b d : S8x16x4096.Idx)) = _
  rw [emb2]

theorem blk3 (c : Dev nD) (t : Fin cfg0.N) : (iblk m c 3 t : Vec Ideal S8x4096x4096 .fp8e4m3) = V m c main_arg3 := by
  funext i
  obtain ⟨a, b, d, rfl⟩ : ∃ a b d, i = (ix3 a b d : S8x4096x4096.Idx) := ⟨i 0, i 1, i 2, Idealize.ShloMosaic.ValueIdx.eq_ix3 i⟩
  show V m c main_arg3 (((cfg0.win 3).blk t).view.emb (ix3 a b d : S8x4096x4096.Idx)) = _
  rw [emb3]

theorem blk4 (c : Dev nD) (t : Fin cfg0.N) : (iblk m c 4 t : Vec Ideal S8x4096x128 .f32) = V m c main_arg4 := by
  funext i
  obtain ⟨a, b, d, rfl⟩ : ∃ a b d, i = (ix3 a b d : S8x4096x128.Idx) := ⟨i 0, i 1, i 2, Idealize.ShloMosaic.ValueIdx.eq_ix3 i⟩
  show V m c main_arg4 (((cfg0.win 4).blk t).view.emb (ix3 a b d : S8x4096x128.Idx)) = _
  rw [emb4]

theorem blk5 (c : Dev nD) (t : Fin cfg0.N) : (iblk m c 5 t : Vec Ideal S8x4096x4096 .fp8e4m3) = V m c main_arg5 := by
  funext i
  obtain ⟨a, b, d, rfl⟩ : ∃ a b d, i = (ix3 a b d : S8x4096x4096.Idx) := ⟨i 0, i 1, i 2, Idealize.ShloMosaic.ValueIdx.eq_ix3 i⟩
  show V m c main_arg5 (((cfg0.win 5).blk t).view.emb (ix3 a b d : S8x4096x4096.Idx)) = _
  rw [emb5]

theorem blk6 (c : Dev nD) (t : Fin cfg0.N) : (iblk m c 6 t : Vec Ideal S128x1x1 .f32) = V m c main_v5 := by
  funext i
  obtain ⟨a, b, d, rfl⟩ : ∃ a b d, i = (ix3 a b d : S128x1x1.Idx) := ⟨i 0, i 1, i 2, Idealize.ShloMosaic.ValueIdx.eq_ix3 i⟩
  show V m c main_v5 (((cfg0.win 6).blk t).view.emb (ix3 a b d : S128x1x1.Idx)) = _
  rw [emb6]

/-- The arguments. -/
abbrev a0 (c : Dev nD) : Vec Ideal S16 .f32 := m ((c.tc : Thread nD τ).loc main_arg0)
abbrev a1 (c : Dev nD) : Vec Ideal S8x4096x4096 .fp8e4m3 := V m c main_arg1
abbrev a2 (c : Dev nD) : Vec Ideal S8x16x4096 .f32 := V m c main_arg2
abbrev a3 (c : Dev nD) : Vec Ideal S8x4096x4096 .fp8e4m3 := V m c main_arg3
abbrev a4 (c : Dev nD) : Vec Ideal S8x4096x128 .f32 := V m c main_arg4
abbrev a5 (c : Dev nD) : Vec Ideal S8x4096x4096 .fp8e4m3 := V m c main_arg5
abbrev a6 (c : Dev nD) : Vec Ideal S8x8x4096 .f32 := m ((c.tc : Thread nD τ).loc main_arg6)

/-- The result array. -/
def final (c : Dev nD) : Vec Ideal S8x4096x4096 .bf16 := fun i =>
  result (a0 m c) (a1 m c) (a2 m c) (a3 m c) (a4 m c) (a5 m c) (a6 m c) (i 0) (i 1)
    ⟨(i 2).val / 256, by have : (i 2).val < 4096 := (i 2).isLt; omega⟩ ⟨(i 2).val % 256, by omega⟩

theorem flushed_eq (c : Dev nD) (t : Fin cfg0.N) :
    (dats m 0 c).flushed 7 t = ((cfg0.win 7).blk t).view.read (Elt Ideal) (final m c) := by
  rw [Value.flushed7]
  funext j
  obtain ⟨b, r, q, rfl⟩ : ∃ (b : Fin 8) (r q : Fin 4096), j = (ix3 b r q : S8x4096x4096.Idx) := ⟨j 0, j 1, j 2, Idealize.ShloMosaic.ValueIdx.eq_ix3 j⟩
  show out0_7 (iblk m c 0 t) (iblk m c 1 t) (iblk m c 2 t) (iblk m c 3 t) (iblk m c 4 t) (iblk m c 5 t) (iblk m c 6 t) (ix3 b r q : S8x4096x4096.Idx)
    = final m c (((cfg0.win 7).blk t).view.emb (ix3 b r q : S8x4096x4096.Idx))
  have e0 := AttnRefHost.sinks_apply m c ⟨b.val * 16 + q.val / 256, by omega⟩
  have e6 := AttnRefHost.scales_apply m c ⟨b.val * 16 + q.val / 256, by omega⟩
  rw [emb7, blk0, blk1, blk2, blk3, blk4, blk5, blk6, out_apply _ _ _ _ _ _ _ b r q ⟨b.val * 16 + q.val / 256, by omega⟩ rfl, e0, e6]
  unfold final result
  refine congrArg₂ (AttnMath.att _ _) (congrArg (a0 m c) (congrArg ix1 (Fin.ext ?_))) (congrArg (a6 m c) (ext3 ?_ rfl ?_))
  · show (b.val * 16 + q.val / 256) % 16 = q.val / 256; omega
  · show (b.val * 16 + q.val / 256) / 16 = b.val; omega
  · show 256 * ((b.val * 16 + q.val / 256) % 16) = 256 * (q.val / 256) + 0; omega

/-- Every index of the array is in the point's block. -/
theorem covered (i : S8x4096x4096.Idx) :
    ∃ t : Fin cfg0.N, (cfg0.win 7).flush t = true ∧ i ∈ ((cfg0.win 7).blk t).view.set := by
  obtain ⟨a, b, d, rfl⟩ : ∃ a b d, i = (ix3 a b d : S8x4096x4096.Idx) := ⟨i 0, i 1, i 2, Idealize.ShloMosaic.ValueIdx.eq_ix3 i⟩
  let t : Fin cfg0.N := ⟨0, by decide⟩
  exact ⟨t, flush0_7 _, (congrArg (fun k => k ∈ ((cfg0.win 7).blk t).view.set) (emb7 t a b d)).mp (((cfg0.win 7).blk t).view.emb_mem_set _)⟩

/-- The array after the run: the result of the arguments. -/
theorem arr_eq (c : Dev nD) : (dats m 0 c).arrAt 7 cfg0.N = final m c :=
  (dats m 0 c).arrAt_eq_of_cover 7 (final m c) (fun t _ => flushed_eq m c t) covered

end Cert.AttnRef

end
-- ==== Proof.AttnClaims.lean ====
module

public import proofs.«01_k».proof.Defs
public import proofs.«01_k».proof.Proof.Gen.Attn
public import proofs.«01_k».proof.Proof.Gen.Pre_scales_positive
public import proofs.«01_k».proof.Proof.AttnFrame
public import proofs.«01_k».proof.Proof.AttnIdealValue
public import proofs.«01_k».proof.Proof.AttnRef
public import Idealize.ShloMosaic.Adequacy
public import Idealize.ShloMosaic.Init

@[expose] public section

/-!
# The claims about the attention call

The kernel keeps its arguments and runs to the end, its two constants are named, and its idealization and the
reference, run from equal arguments with positive query scales, end with equal results.
-/

noncomputable section

namespace Cert.AttnClaims

open Idealize.ShloMosaic Idealize.ShloMosaic.TcCoe Idealize.SL.Sem

theorem preserves : Cert.preserves_Attn_AttnIdeal :=
  ⟨IdealRules.named_const.statement Cert.AttnIdeal.κ "log2e_sm" .f32 0x3DB8AA3B#32 (((Real.log 2)⁻¹ * 16⁻¹ : ℝ) : EReal) rfl,
   IdealRules.named_const.statement Cert.AttnIdeal.κ "log2e" .f32 0x3FB8AA3B#32 (((Real.log 2)⁻¹ : ℝ) : EReal) rfl⟩

/-- The precondition, entry by entry. -/
theorem positive (x : Vec Ideal Cert.AttnIdeal.S8x16x4096 .f32) (a0 a1 a3 a4 a5 a6)
    (h : Cert.Pre_scales_positive.fn (F := Ideal) a0 a1 x a3 a4 a5 a6 = fun _ => 1#1) (i : Cert.AttnIdeal.S8x16x4096.Idx) :
    (0 : EReal) < x i := by
  have hi : BitVec.ofBool (decide (Ideal.ofBits .f32 0x00000000#32 < x i)) = 1#1 := congrFun h i
  rw [Ideal.ofBits_zero_f32] at hi
  by_contra hn
  rw [decide_eq_false hn] at hi
  exact absurd hi (by decide)

theorem algebraic : Cert.algebraic_AttnIdeal_AttnRefIdeal_pre_scales_positive := by
  intro m ρ m' ρ' hpre hag
  have hpos : ∀ (c : Dev Cert.AttnIdeal.nD) (i : Cert.AttnIdeal.S8x16x4096.Idx), (0 : EReal) < Cert.AttnIdealValue.a2 m c i := by
    intro c i
    show (0 : EReal) < Cert.AttnIdeal.Gen.V m c Cert.AttnIdeal.main_arg2 i
    rw [Cert.AttnIdeal.Gen.V_main_arg2]
    exact positive _ _ _ _ _ _ _ (hpre c) i
  refine ⟨fun c => Cert.AttnIdealValue.final m c, ?_, ?_⟩
  · refine (θ_run _ _ _).mono (fun r h c => ?_) (Cert.AttnIdealFrame.run_main (F := Ideal) m ρ)
    have arg := fun k (hk : _) => ((h c).1 k).trans (((Cert.AttnIdealFrame.dats m 0 c).arrAt_in k hk _).trans (Cert.AttnIdealFrame.A_eq m c k))
    exact ⟨((h c).1 7).trans (Cert.AttnIdealValue.arr_eq m c (hpos c)),
      (arg 0 rfl).trans (Cert.AttnIdeal.Gen.V_main_arg0 m c), (arg 1 rfl).trans (Cert.AttnIdeal.Gen.V_main_arg1 m c),
      (arg 2 rfl).trans (Cert.AttnIdeal.Gen.V_main_arg2 m c), (arg 3 rfl).trans (Cert.AttnIdeal.Gen.V_main_arg3 m c),
      (arg 4 rfl).trans (Cert.AttnIdeal.Gen.V_main_arg4 m c), (arg 5 rfl).trans (Cert.AttnIdeal.Gen.V_main_arg5 m c),
      (arg 6 rfl).trans (Cert.AttnIdeal.Gen.V_main_arg6 m c)⟩
  · refine (θ_run _ _ _).mono (fun r h c => ?_) (Cert.AttnRefIdeal.Value.run_blocks (F := Ideal) m' ρ')
    obtain ⟨h1, h2⟩ := h c
    refine ⟨h1.trans ((Cert.AttnRef.arr_eq m' c).trans ?_), h2⟩
    obtain ⟨e0, e1, e2, e3, e4, e5, e6⟩ := hag c
    have q0 : Cert.AttnRef.a0 m' c = Cert.AttnIdealValue.a0 m c := e0.trans (Cert.AttnIdeal.Gen.V_main_arg0 m c).symm
    have q1 : Cert.AttnRef.a1 m' c = Cert.AttnIdealValue.a1 m c :=
      (Cert.AttnRefIdeal.Gen.V_main_arg1 m' c).trans (e1.trans (Cert.AttnIdeal.Gen.V_main_arg1 m c).symm)
    have q2 : Cert.AttnRef.a2 m' c = Cert.AttnIdealValue.a2 m c :=
      (Cert.AttnRefIdeal.Gen.V_main_arg2 m' c).trans (e2.trans (Cert.AttnIdeal.Gen.V_main_arg2 m c).symm)
    have q3 : Cert.AttnRef.a3 m' c = Cert.AttnIdealValue.a3 m c :=
      (Cert.AttnRefIdeal.Gen.V_main_arg3 m' c).trans (e3.trans (Cert.AttnIdeal.Gen.V_main_arg3 m c).symm)
    have q4 : Cert.AttnRef.a4 m' c = Cert.AttnIdealValue.a4 m c :=
      (Cert.AttnRefIdeal.Gen.V_main_arg4 m' c).trans (e4.trans (Cert.AttnIdeal.Gen.V_main_arg4 m c).symm)
    have q5 : Cert.AttnRef.a5 m' c = Cert.AttnIdealValue.a5 m c :=
      (Cert.AttnRefIdeal.Gen.V_main_arg5 m' c).trans (e5.trans (Cert.AttnIdeal.Gen.V_main_arg5 m c).symm)
    have q6 : Cert.AttnRef.a6 m' c = Cert.AttnIdealValue.a6 m c := e6.trans (Cert.AttnIdeal.Gen.V_main_arg6 m c).symm
    unfold Cert.AttnRef.final Cert.AttnIdealValue.final
    rw [q0, q1, q2, q3, q4, q5, q6]

end Cert.AttnClaims

end
-- ==== Proof.QKQuantBlock.lean ====
module

public import proofs.«01_k».proof.Proof.Gen.QKQuantIdeal.Value
public import proofs.«01_k».proof.Proof.Amax

@[expose] public section

/-!
# One block of the query and key quantiser

What the body leaves in its three output blocks, entry by entry: the codes, the scales by head, and the
scales by row with ones after the sixteen heads.
-/

noncomputable section

namespace Cert.QKQuantBlock

open Cert.QKQuantIdeal Cert.QKQuantIdeal.Gen Idealize.ShloMosaic Idealize.ShloMosaic.TcCoe Idealize.SL.Sem
open Cert.Ix Cert.Pow2 Cert.Amax Idealize.ShloMosaic.ValueIdx

/-- One head's largest magnitudes, row by row: over half its lanes, the larger of the two halves' magnitudes. -/
def rowMax (v : Vec Ideal S1x512x256 .bf16) : FVec Ideal S512 .f32 :=
  multiReduction .maximumf [1] S512
    (extf .f32
      (maximumf
        (extractStridedSlice S512x128 ![0, 0] (absf (shapeCast S512x256 v shapeCasts_S1x512x256_S512x256))
          slices_S512x256_o0_0_S512x128)
        (extractStridedSlice S512x128 ![0, 128] (absf (shapeCast S512x256 v shapeCasts_S1x512x256_S512x256))
          slices_S512x256_o0_128_S512x128))
      bitsLt_bf16_f32)
    0xFF800000#32 reduces_S512x128_S512 (.inl rfl) rfl

/-- One head's row maxima written into that head's lane. -/
def step (n : BitVec 32) (v : Vec Ideal S1x512x256 .bf16) (acc : FVec Ideal S512x128 .f32) : FVec Ideal S512x128 .f32 :=
  select (cmpi .eq (iota .tc S512x128 32 [1] iota_S512x128_d1_w32) (broadcast S512x128 n))
    (broadcastTo S512x128 (shapeCast S512x1 (shapeCast S512x1 (rowMax v) shapeCasts_S512_S512x1) shapeCasts_S512x1_S512x1)
      broadcasts_S512x1_S512x128)
    acc

theorem cast_apply (v : Vec Ideal S1x512x256 .bf16) (r : Fin 512) (k : Fin 256) :
    shapeCast S512x256 v shapeCasts_S1x512x256_S512x256 (ix2 r k) = v (ix3 0 r k) :=
  shapeCast_apply _ _ (ix2 r k : S512x256.Idx) (ix3 0 r k : S1x512x256.Idx) (by
    rw [rm2, rm3]
    show (0 * 512 + r.val) * 256 + k.val = r.val * 256 + k.val
    omega)

theorem lift_eq (r : Fin 512) (k : Fin 128) :
    reduces_S512x128_S512.lift (ix1 r : S512.Idx) k = (ix2 r k : S512x128.Idx) := by
  funext a
  match a with | ⟨0, _⟩ => rfl | ⟨1, _⟩ => rfl

/-- The row maxima of one head. -/
theorem rowMax_apply (v : Vec Ideal S1x512x256 .bf16) (r : Fin 512) :
    rowMax v (ix1 r : S512.Idx) = amax (fun k : Fin 256 => v (ix3 0 r k)) := by
  unfold rowMax
  refine (maxReduce_apply _ _ _ _ (ix1 r : S512.Idx)).trans ?_
  refine Eq.trans (Finset.sup_congr rfl fun k _ => ?_) (sup_halves fun k => mag (v (ix3 0 r k)))
  have hk : k.val < 128 := k.isLt
  refine (congrArg _ (lift_eq r k)).trans ?_
  rw [extf_apply, maximumf_apply]
  refine congrArg₂ max ?_ ?_
  · refine (extractStridedSlice_apply _ _ _ (ix2 r k : S512x128.Idx) (ix2 r ⟨k.val, by omega⟩ : S512x256.Idx)
      (fun a => match a with | ⟨0, _⟩ => (Nat.zero_add _).symm | ⟨1, _⟩ => (Nat.zero_add _).symm)).trans ?_
    exact congrArg mag (cast_apply v r ⟨k.val, by omega⟩)
  · refine (extractStridedSlice_apply _ _ _ (ix2 r k : S512x128.Idx) (ix2 r ⟨128 + k.val, by omega⟩ : S512x256.Idx)
      (fun a => match a with | ⟨0, _⟩ => (Nat.zero_add _).symm | ⟨1, _⟩ => rfl)).trans ?_
    exact congrArg mag (cast_apply v r ⟨128 + k.val, by omega⟩)

theorem step_apply (h : ℕ) (hh : h < 16) (v : Vec Ideal S1x512x256 .bf16) (acc : FVec Ideal S512x128 .f32) (r : Fin 512)
    (l : Fin 128) : step (BitVec.ofNat 32 h) v acc (ix2 r l)
      = if l.val = h then amax (fun k : Fin 256 => v (ix3 0 r k)) else acc (ix2 r l) := by
  have hb : broadcastTo S512x128
      (shapeCast S512x1 (shapeCast S512x1 (rowMax v) shapeCasts_S512_S512x1) shapeCasts_S512x1_S512x1)
      broadcasts_S512x1_S512x128 (ix2 r l : S512x128.Idx) = amax (fun k : Fin 256 => v (ix3 0 r k)) := by
    refine (broadcastTo_apply _ _ (ix2 r l : S512x128.Idx) (ix2 r 0 : S512x1.Idx)
      (fun a => match a with | ⟨0, _⟩ => rfl | ⟨1, _⟩ => rfl)).trans ?_
    refine (shapeCast_apply _ _ (ix2 r 0 : S512x1.Idx) (ix2 r 0 : S512x1.Idx) rfl).trans ?_
    refine (shapeCast_apply _ _ (ix2 r 0 : S512x1.Idx) (ix1 r : S512.Idx) (by
      rw [rm1, rm2]
      show r.val = r.val * 1 + 0
      omega)).trans (rowMax_apply v r)
  have hc : cmpi .eq (iota .tc S512x128 32 [1] iota_S512x128_d1_w32) (broadcast S512x128 (BitVec.ofNat 32 h)) (ix2 r l : S512x128.Idx)
      = if l.val = h then 1#1 else 0#1 := by
    show BitVec.ofBool (iota .tc S512x128 32 [1] iota_S512x128_d1_w32 (ix2 r l : S512x128.Idx) == BitVec.ofNat 32 h) = _
    rw [iota_single_apply]
    show BitVec.ofBool (BitVec.ofNat 32 l.val == BitVec.ofNat 32 h) = _
    have : (BitVec.ofNat 32 l.val == BitVec.ofNat 32 h) = decide (l.val = h) := by
      rw [Bool.eq_iff_iff, beq_iff_eq, decide_eq_true_iff, ← BitVec.toNat_inj, BitVec.toNat_ofNat, BitVec.toNat_ofNat,
        Nat.mod_eq_of_lt (by omega), Nat.mod_eq_of_lt (by omega)]
    rw [this]
    by_cases hl : l.val = h <;> simp [hl]
  unfold step
  rw [select_apply, hb, hc]
  by_cases hl : l.val = h
  · rw [if_pos hl, if_pos hl]; rfl
  · rw [if_neg hl, if_neg hl]; rfl

/-- The lanes of the running maxima after the sixteen heads, times the reciprocal of the top code. -/
theorem pay64_eq (x0 : Vec Ideal S1x512x4096 .bf16) : k0_pay64 x0 = mulf
    (step 15#32 (View.ld x0 r0_15) <| step 14#32 (View.ld x0 r0_14) <| step 13#32 (View.ld x0 r0_13) <|
     step 12#32 (View.ld x0 r0_12) <| step 11#32 (View.ld x0 r0_11) <| step 10#32 (View.ld x0 r0_10) <|
     step 9#32 (View.ld x0 r0_9) <| step 8#32 (View.ld x0 r0_8) <| step 7#32 (View.ld x0 r0_7) <|
     step 6#32 (View.ld x0 r0_6) <| step 5#32 (View.ld x0 r0_5) <| step 4#32 (View.ld x0 r0_4) <|
     step 3#32 (View.ld x0 r0_3) <| step 2#32 (View.ld x0 r0_2) <| step 1#32 (View.ld x0 r0_1) <|
     step 0#32 (View.ld x0 r0_0) (broadcast S512x128 (Scalar.ofBits .f32 0x00000000#32)))
    (broadcast S512x128 (Scalar.ofBits .f32 0x3B124925#32)) := by
  unfold k0_pay64 k0_pay63 k0_pay62 k0_pay61 k0_pay12 k0_pay11 k0_pay10 k0_pay9 k0_pay8 k0_pay7 k0_pay6 k0_pay5 k0_pay4
    k0_pay3 k0_pay2 step rowMax
  rfl

/-- A block's head, read at an offset. -/
theorem ld_apply (x0 : Vec Ideal S1x512x4096 .bf16) (o : ℕ) (inb) (r : Fin 512) (k : Fin 256) (ho : o + k.val < 4096) :
    View.ld x0 (Rect.unit (s := S1x512x4096) ![0, 0, o] S1x512x256.size inb) (ix3 0 r k : S1x512x256.Idx)
      = x0 (ix3 0 r ⟨o + k.val, ho⟩ : S1x512x4096.Idx) := by
  refine congrArg x0 ?_
  apply ext3
  · rfl
  · show 0 + 1 * r.val = r.val
    omega
  · show o + 1 * k.val = o + k.val
    omega

/-- The top value of a row of a head of a block. -/
def btop (x0 : Vec Ideal S1x512x4096 .bf16) (r : Fin 512) (h : Fin 16) : EReal :=
  top (amax fun k : Fin 256 => x0 (ix3 0 r ⟨h.val * 256 + k.val, by omega⟩ : S1x512x4096.Idx))

/-- The same by lane: zero after the sixteen heads. -/
theorem pay64_apply (x0 : Vec Ideal S1x512x4096 .bf16) (r : Fin 512) (l : Fin 128) :
    k0_pay64 x0 (ix2 r l) = if hl : l.val < 16 then btop x0 r ⟨l.val, hl⟩ else top 0 := by
  rw [pay64_eq, mulf_apply]
  refine (congrArg top ?_ : _ = top (if hl : l.val < 16 then
    amax fun k : Fin 256 => x0 (ix3 0 r ⟨l.val * 256 + k.val, by omega⟩ : S1x512x4096.Idx) else 0)).trans ?_
  · rw [step_apply 15 (by omega), step_apply 14 (by omega), step_apply 13 (by omega), step_apply 12 (by omega),
      step_apply 11 (by omega), step_apply 10 (by omega), step_apply 9 (by omega), step_apply 8 (by omega),
      step_apply 7 (by omega), step_apply 6 (by omega), step_apply 5 (by omega), step_apply 4 (by omega),
      step_apply 3 (by omega), step_apply 2 (by omega), step_apply 1 (by omega), step_apply 0 (by omega)]
    obtain ⟨l, hl'⟩ := l
    by_cases hl : l < 16
    · rw [dif_pos hl]
      interval_cases l <;> simp only [reduceIte, Nat.reduceEqDiff] <;>
        (refine congrArg (fun f : Fin 256 → EReal => amax f) (funext fun k => ?_)) <;>
        exact ld_apply x0 _ _ r k (by omega)
    · rw [dif_neg hl]
      iterate 16 rw [if_neg (by simp only; omega)]
      exact Ideal.ofBits_zero_f32
  · by_cases hl : l.val < 16
    · rw [dif_pos hl, dif_pos hl]; rfl
    · rw [dif_neg hl, dif_neg hl]

end Cert.QKQuantBlock

end
-- ==== Proof.QKQuantOut.lean ====
module

public import proofs.«01_k».proof.Proof.QKQuantBlock

@[expose] public section

/-!
# The three output blocks of the query and key quantiser

The scale and the reciprocal of every lane by the binary search on powers of two, and from them the codes,
the scales by head and the scales by row.
-/

noncomputable section

namespace Cert.QKQuantOut

open Cert.QKQuantIdeal Cert.QKQuantIdeal.Gen Idealize.ShloMosaic Idealize.ShloMosaic.TcCoe Idealize.SL.Sem
open Cert.Ix Cert.Pow2 Cert.Amax Cert.QKQuantBlock Idealize.ShloMosaic.ValueIdx

/-! ## The search, elementwise -/

section Search

variable (a : IVec S512x128 32) (b c : FVec Ideal S512x128 .f32)

theorem pay16_eq : k0_pay16 a b c = fun i => p1 (k0_pay12 a b c i) := by
  unfold k0_pay16 k0_pay15 k0_pay14
  rfl

theorem pay18_eq : k0_pay18 a b c = fun i => p2 (k0_pay12 a b c i) := by
  unfold k0_pay18 k0_pay17
  rw [pay16_eq]
  rfl

theorem pay20_eq : k0_pay20 a b c = fun i => p3 (k0_pay12 a b c i) := by
  unfold k0_pay20 k0_pay19
  rw [pay18_eq]
  rfl

theorem pay21_eq : k0_pay21 a b c = fun i => v3 (k0_pay12 a b c i) := by
  unfold k0_pay21 k0_pay19 k0_pay17 k0_pay15 k0_pay14
  rw [pay18_eq, pay16_eq]
  rfl

/-- The comparison of the fourth step. -/
def ge4 (t : FVec Ideal S512x128 .f32) : IVec S512x128 1 :=
  cmpf .oge t (mulf (fun i => p3 (t i)) (broadcast S512x128 (Scalar.ofBits .f32 0x47800000#32)))

theorem pay22_eq : k0_pay22 a b c = ge4 (k0_pay12 a b c) := by
  unfold k0_pay22 ge4
  rw [pay20_eq]

variable (t : FVec Ideal S512x128 .f32)

/-- One step on the powers. -/
theorem stepP_eq (p : FVec Ideal S512x128 .f32) (c : BitVec 32) :
    select (cmpf .oge t (mulf p (broadcast S512x128 (Scalar.ofBits .f32 c)))) (mulf p (broadcast S512x128 (Scalar.ofBits .f32 c))) p
      = fun i => stepP (t i) (p i) c := rfl

/-- One step on the reciprocals. -/
theorem stepV_eq (p v : FVec Ideal S512x128 .f32) (c c' : BitVec 32) :
    select (cmpf .oge t (mulf p (broadcast S512x128 (Scalar.ofBits .f32 c)))) (mulf v (broadcast S512x128 (Scalar.ofBits .f32 c'))) v
      = fun i => stepV (t i) (p i) c (v i) c' := rfl

theorem pay23_eq : k0_pay23 (F := Ideal) (fun i => p3 (t i)) (ge4 t) (Scalar.ofBits .f32 0x47800000#32) = fun i => p4 (t i) := by
  unfold k0_pay23 ge4 p4
  dsimp only
  rw [stepP_eq]

theorem pay25_eq : k0_pay25 t (fun i => p3 (t i)) (ge4 t) (Scalar.ofBits .f32 0x47800000#32) = fun i => p5 (t i) := by
  unfold k0_pay25 k0_pay24
  rw [pay23_eq]
  rfl

theorem pay27_eq : k0_pay27 t (fun i => p3 (t i)) (ge4 t) (Scalar.ofBits .f32 0x47800000#32) = fun i => p6 (t i) := by
  unfold k0_pay27 k0_pay26
  rw [pay25_eq]
  rfl

theorem pay29_eq : k0_pay29 t (fun i => p3 (t i)) (ge4 t) (Scalar.ofBits .f32 0x47800000#32) = fun i => p7 (t i) := by
  unfold k0_pay29 k0_pay28
  rw [pay27_eq]
  rfl

/-- Twice the last power. -/
def twice : FVec Ideal S512x128 .f32 := mulf (fun i => p8 (t i)) (broadcast S512x128 (Scalar.ofBits .f32 0x40000000#32))

theorem pay32_eq : k0_pay32 t (fun i => p3 (t i)) (ge4 t) (Scalar.ofBits .f32 0x47800000#32) = twice t := by
  unfold k0_pay32 k0_pay30 twice
  rw [pay29_eq]
  dsimp only
  rw [stepP_eq]
  rfl

/-- The last reciprocals. -/
def recips : FVec Ideal S512x128 .f32 := fun i => v8 (t i)

theorem pay31_eq : k0_pay31 t (fun i => p3 (t i)) (fun i => v3 (t i)) (ge4 t) (Scalar.ofBits .f32 0x47800000#32)
    = recips t := by
  unfold k0_pay31 k0_pay30 k0_pay28 k0_pay26 k0_pay24 recips v8 v7 v6 v5 v4
  rw [pay29_eq, pay27_eq, pay25_eq, pay23_eq]
  dsimp only
  unfold ge4
  rw [stepV_eq, stepV_eq, stepV_eq, stepV_eq, stepV_eq]

end Search

variable (x0 : Vec Ideal S1x512x4096 .bf16)

/-- The scale of every lane. -/
theorem scale_eq : k0_pay34 (k0_pay65 x0) (k0_pay69 x0) (k0_pay70 x0) = fun i => scale (k0_pay64 x0 i) := by
  have h3 : k0_pay66 x0 = fun i => p3 (k0_pay64 x0 i) := pay20_eq _ _ _
  have h4 : k0_pay67 x0 = ge4 (k0_pay64 x0) := pay22_eq _ _ _
  unfold k0_pay34 k0_pay69
  rw [h3, h4, pay32_eq]
  rfl

/-- The reciprocal of the scale of every lane. -/
theorem inv_eq : k0_pay71 x0 = fun i => inv (k0_pay64 x0 i) := by
  have h3 : k0_pay66 x0 = fun i => p3 (k0_pay64 x0 i) := pay20_eq _ _ _
  have h3' : k0_pay21 (k0_pay61 x0) (k0_pay62 x0) (k0_pay63 x0) = fun i => v3 (k0_pay64 x0 i) := pay21_eq _ _ _
  have h4 : k0_pay67 x0 = ge4 (k0_pay64 x0) := pay22_eq _ _ _
  unfold k0_pay71 k0_pay35 k0_pay68
  rw [h3, h3', h4, pay31_eq]
  rfl

/-! ## The codes -/

/-- One head's codes, from its lane of the reciprocals. -/
def codePiece (h : ℕ) (hs : S512x128.Slices ![0, h] S512x1) (iv : FVec Ideal S512x128 .f32) (v : Vec Ideal S1x512x256 .bf16) :
    FVec Ideal S1x512x256 .fp8e4m3 :=
  shapeCast S1x512x256
    (truncf .fp8e4m3
      (minimumf (broadcast S512x256 (Scalar.truncf .bf16 bitsLt_bf16_f32 (Scalar.ofBits .f32 0x43E00000#32)))
        (maximumf (broadcast S512x256 (Scalar.truncf .bf16 bitsLt_bf16_f32 (Scalar.ofBits .f32 0xC3E00000#32)))
          (mulf (shapeCast S512x256 v shapeCasts_S1x512x256_S512x256)
            (truncf .bf16
              (broadcastTo S512x256
                (shapeCast S512x1 (extractStridedSlice S512x1 ![0, h] iv hs) shapeCasts_S512x1_S512x1)
                broadcasts_S512x1_S512x256)
              bitsLt_bf16_f32))))
      bitsLt_fp8e4m3_bf16)
    shapeCasts_S512x256_S1x512x256

theorem codePiece_apply (h : ℕ) (hh : h < 128) (hs) (iv : FVec Ideal S512x128 .f32) (v : Vec Ideal S1x512x256 .bf16) (r : Fin 512)
    (k : Fin 256) : codePiece h hs iv v (ix3 0 r k : S1x512x256.Idx)
      = code (v (ix3 0 r k : S1x512x256.Idx)) (iv (ix2 r ⟨h, hh⟩ : S512x128.Idx)) := by
  unfold codePiece
  refine (shapeCast_apply _ _ (ix3 0 r k : S1x512x256.Idx) (ix2 r k : S512x256.Idx) (by
    rw [rm2, rm3]
    show r.val * 256 + k.val = (0 * 512 + r.val) * 256 + k.val
    omega)).trans ?_
  rw [truncf_apply, minimumf_apply, maximumf_apply, mulf_apply, truncf_apply, cast_apply]
  unfold code
  refine congrArg (fun z : EReal => min (Ideal.ofBits .f32 0x43E00000#32)
    (max (Ideal.ofBits .f32 0xC3E00000#32) (v (ix3 0 r k : S1x512x256.Idx) * z))) ?_
  refine (broadcastTo_apply _ _ (ix2 r k : S512x256.Idx) (ix2 r 0 : S512x1.Idx)
    (fun a => match a with | ⟨0, _⟩ => rfl | ⟨1, _⟩ => rfl)).trans ?_
  refine (shapeCast_apply _ _ (ix2 r 0 : S512x1.Idx) (ix2 r 0 : S512x1.Idx) rfl).trans ?_
  exact extractStridedSlice_apply _ _ _ (ix2 r 0 : S512x1.Idx) (ix2 r ⟨h, hh⟩ : S512x128.Idx)
    (fun a => match a with | ⟨0, _⟩ => (Nat.zero_add _).symm | ⟨1, _⟩ => rfl)

theorem out1_eq : out0_1 x0 = View.canon [
    ⟨r0_15, codePiece 15 slices_S512x128_o0_15_S512x1 (k0_pay71 x0) (View.ld x0 r0_15)⟩,
    ⟨r0_14, codePiece 14 slices_S512x128_o0_14_S512x1 (k0_pay71 x0) (View.ld x0 r0_14)⟩,
    ⟨r0_13, codePiece 13 slices_S512x128_o0_13_S512x1 (k0_pay71 x0) (View.ld x0 r0_13)⟩,
    ⟨r0_12, codePiece 12 slices_S512x128_o0_12_S512x1 (k0_pay71 x0) (View.ld x0 r0_12)⟩,
    ⟨r0_11, codePiece 11 slices_S512x128_o0_11_S512x1 (k0_pay71 x0) (View.ld x0 r0_11)⟩,
    ⟨r0_10, codePiece 10 slices_S512x128_o0_10_S512x1 (k0_pay71 x0) (View.ld x0 r0_10)⟩,
    ⟨r0_9, codePiece 9 slices_S512x128_o0_9_S512x1 (k0_pay71 x0) (View.ld x0 r0_9)⟩,
    ⟨r0_8, codePiece 8 slices_S512x128_o0_8_S512x1 (k0_pay71 x0) (View.ld x0 r0_8)⟩,
    ⟨r0_7, codePiece 7 slices_S512x128_o0_7_S512x1 (k0_pay71 x0) (View.ld x0 r0_7)⟩,
    ⟨r0_6, codePiece 6 slices_S512x128_o0_6_S512x1 (k0_pay71 x0) (View.ld x0 r0_6)⟩,
    ⟨r0_5, codePiece 5 slices_S512x128_o0_5_S512x1 (k0_pay71 x0) (View.ld x0 r0_5)⟩,
    ⟨r0_4, codePiece 4 slices_S512x128_o0_4_S512x1 (k0_pay71 x0) (View.ld x0 r0_4)⟩,
    ⟨r0_3, codePiece 3 slices_S512x128_o0_3_S512x1 (k0_pay71 x0) (View.ld x0 r0_3)⟩,
    ⟨r0_2, codePiece 2 slices_S512x128_o0_2_S512x1 (k0_pay71 x0) (View.ld x0 r0_2)⟩,
    ⟨r0_1, codePiece 1 slices_S512x128_o0_1_S512x1 (k0_pay71 x0) (View.ld x0 r0_1)⟩,
    ⟨r0_0, codePiece 0 slices_S512x128_o0_0_S512x1 (k0_pay71 x0) (View.ld x0 r0_0)⟩] := by
  unfold out0_1 k0_pay1 k0_pay60 k0_pay59 k0_pay58 k0_pay57 k0_pay56 k0_pay55 k0_pay54 k0_pay53 k0_pay52 k0_pay51 k0_pay50
    k0_pay49 k0_pay48 k0_pay47 k0_pay46 k0_pay45 k0_pay44 k0_pay43 k0_pay42 k0_pay41 k0_pay40 k0_pay39 k0_pay38 codePiece
  rfl

/-- The codes of a block. -/
def blkCodes (j : S1x512x4096.Idx) : EReal :=
  code (x0 j) (inv (btop x0 (j 1) ⟨(j 2).val / 256, by have : (j 2).val < 4096 := (j 2).isLt; omega⟩))

theorem piece_ok (h : ℕ) (hh : h < 16) (o : ℕ) (ho : o = h * 256) (hs) (inb) (x : S1x512x256.Idx) :
    codePiece h hs (k0_pay71 x0) (View.ld x0 (Rect.unit (s := S1x512x4096) ![0, 0, o] S1x512x256.size inb)) x
      = blkCodes x0 ((Rect.unit (s := S1x512x4096) ![0, 0, o] S1x512x256.size inb).emb x) := by
  obtain ⟨b, r, k, rfl⟩ : ∃ (b : Fin 1) (r : Fin 512) (k : Fin 256), x = (ix3 b r k : S1x512x256.Idx) :=
    ⟨x 0, x 1, x 2, eq_ix3 x⟩
  obtain rfl : b = 0 := Subsingleton.elim _ _
  subst ho
  have hk := k.isLt
  have he : (Rect.unit (s := S1x512x4096) ![0, 0, h * 256] S1x512x256.size inb).emb (ix3 0 r k : S1x512x256.Idx)
      = (ix3 0 r ⟨h * 256 + k.val, by omega⟩ : S1x512x4096.Idx) := by
    apply ext3
    · rfl
    · show 0 + 1 * r.val = r.val
      omega
    · show h * 256 + 1 * k.val = h * 256 + k.val
      omega
  rw [codePiece_apply h (by omega), ld_apply x0 (h * 256) inb r k (by omega), inv_eq, he]
  unfold blkCodes
  refine congrArg (code _) (congrArg inv ?_)
  rw [pay64_apply, dif_pos hh]
  refine congrArg (btop x0 r) (Fin.ext ?_)
  show h = (h * 256 + k.val) / 256
  omega

theorem out1_apply (j : S1x512x4096.Idx) : out0_1 x0 j = blkCodes x0 j := by
  rw [out1_eq]
  refine View.canon_apply_of_pieces (Val := Elt Ideal) (e := .fp8e4m3) (blkCodes x0) _ ?_ j (cover0_1 _ _ _ _ _ _ _ _ _ _ _ _ _ _ _ _ j)
  simp only [List.forall_mem_cons]
  refine ⟨?_, ?_, ?_, ?_, ?_, ?_, ?_, ?_, ?_, ?_, ?_, ?_, ?_, ?_, ?_, ?_, fun p hp => absurd hp List.not_mem_nil⟩
  · exact piece_ok x0 15 (by omega) _ rfl _ _
  · exact piece_ok x0 14 (by omega) _ rfl _ _
  · exact piece_ok x0 13 (by omega) _ rfl _ _
  · exact piece_ok x0 12 (by omega) _ rfl _ _
  · exact piece_ok x0 11 (by omega) _ rfl _ _
  · exact piece_ok x0 10 (by omega) _ rfl _ _
  · exact piece_ok x0 9 (by omega) _ rfl _ _
  · exact piece_ok x0 8 (by omega) _ rfl _ _
  · exact piece_ok x0 7 (by omega) _ rfl _ _
  · exact piece_ok x0 6 (by omega) _ rfl _ _
  · exact piece_ok x0 5 (by omega) _ rfl _ _
  · exact piece_ok x0 4 (by omega) _ rfl _ _
  · exact piece_ok x0 3 (by omega) _ rfl _ _
  · exact piece_ok x0 2 (by omega) _ rfl _ _
  · exact piece_ok x0 1 (by omega) _ rfl _ _
  · exact piece_ok x0 0 (by omega) _ rfl _ _

/-! ## The scales -/

theorem hz : (![0, 0, 0] : Fin 3 → Nat) = fun _ => 0 := funext fun a => by fin_cases a <;> rfl

/-- The scale of a lane: one after the sixteen heads. -/
theorem scale_apply (r : Fin 512) (l : Fin 128) : scale (k0_pay64 x0 (ix2 r l))
    = if hl : l.val < 16 then scale (btop x0 r ⟨l.val, hl⟩) else Ideal.ofBits .f32 0x3F800000#32 := by
  rw [pay64_apply]
  by_cases hl : l.val < 16
  · rw [dif_pos hl, dif_pos hl]
  · rw [dif_neg hl, dif_neg hl, scale_top_zero]

theorem out3_apply (r : Fin 512) (l : Fin 128) : out0_3 x0 (ix3 0 r l : S1x512x128.Idx)
    = if hl : l.val < 16 then scale (btop x0 r ⟨l.val, hl⟩) else Ideal.ofBits .f32 0x3F800000#32 := by
  unfold out0_3
  rw [View.canon_unit_zero hz]
  unfold k0_pay36
  rw [scale_eq]
  refine (shapeCast_apply _ _ (ix3 0 r l : S1x512x128.Idx) (ix2 r l : S512x128.Idx) (by
    rw [rm2, rm3]
    show r.val * 128 + l.val = (0 * 512 + r.val) * 128 + l.val
    omega)).trans (scale_apply x0 r l)

theorem out2_apply (h : Fin 16) (r : Fin 512) : out0_2 x0 (ix3 0 h r : S1x16x512.Idx) = scale (btop x0 r h) := by
  unfold out0_2
  rw [View.canon_unit_zero hz]
  unfold k0_pay37
  rw [scale_eq]
  refine (shapeCast_apply _ _ (ix3 0 h r : S1x16x512.Idx) (ix2 h r : S16x512.Idx) (by
    rw [rm2, rm3]
    show h.val * 512 + r.val = (0 * 16 + h.val) * 512 + r.val
    omega)).trans ?_
  refine (extractStridedSlice_apply _ _ _ (ix2 h r : S16x512.Idx) (ix2 ⟨h.val, by omega⟩ r : S128x512.Idx)
    (fun a => match a with | ⟨0, _⟩ => (Nat.zero_add _).symm | ⟨1, _⟩ => (Nat.zero_add _).symm)).trans ?_
  refine (transpose_apply _ _ _ (ix2 ⟨h.val, by omega⟩ r : S128x512.Idx) (ix2 r ⟨h.val, by omega⟩ : S512x128.Idx)
    (fun a => match a with | ⟨0, _⟩ => rfl | ⟨1, _⟩ => rfl)).trans ?_
  refine (scale_apply x0 r ⟨h.val, by omega⟩).trans ?_
  rw [dif_pos h.isLt]

end Cert.QKQuantOut

end
-- ==== Proof.QKQuantRef.lean ====
module

public import proofs.«01_k».proof.Proof.Gen.QKQuantRefIdeal.Value
public import proofs.«01_k».proof.Proof.Amax

@[expose] public section

/-!
# The reference quantiser of the queries and keys

Its three results at an index: the code of an entry, the scale of a group, and the scales laid in
columns with ones after the sixteen heads.
-/

noncomputable section

namespace Cert.QKQuantRef

open Cert.QKQuantRefIdeal Cert.QKQuantRefIdeal.Gen Idealize.ShloMosaic Idealize.ShloMosaic.TcCoe Idealize.SL.Sem
open Cert.Ix Cert.Pow2 Cert.Amax Idealize.ShloMosaic.ValueIdx

/-- The entries of one group: 256 neighbours of one row. -/
def grp (x : Vec Ideal S8x4096x4096 .bf16) (b : Fin 8) (s : Fin 4096) (h : Fin 16) (k : Fin 256) : EReal :=
  x (ix3 b s ⟨h.val * 256 + k.val, by omega⟩)

/-- A group's top value: its largest magnitude over the top code. -/
def gtop (x : Vec Ideal S8x4096x4096 .bf16) (b : Fin 8) (s : Fin 4096) (h : Fin 16) : EReal :=
  top (amax (grp x b s h))

theorem pay2_apply (x : Vec Ideal S8x4096x4096 .bf16) (b : Fin 8) (s : Fin 4096) (h : Fin 16) (k : Fin 256) :
    k0_pay2 x (ix4 b s h k) = grp x b s h k := by
  unfold k0_pay2
  exact shapeCast_apply _ _ (ix4 b s h k) (ix3 b s ⟨h.val * 256 + k.val, by omega⟩) (by
    rw [rm3, rm4]
    show (b.val * 4096 + s.val) * 4096 + (h.val * 256 + k.val) = ((b.val * 4096 + s.val) * 16 + h.val) * 256 + k.val
    omega)

theorem lift_eq (b : Fin 8) (s : Fin 4096) (h : Fin 16) (k : Fin 256) :
    reduces_S8x4096x16x256_S8x4096x16.lift (ix3 b s h : S8x4096x16.Idx) k = (ix4 b s h k : S8x4096x16x256.Idx) := by
  funext a
  match a with | ⟨0, _⟩ => rfl | ⟨1, _⟩ => rfl | ⟨2, _⟩ => rfl | ⟨3, _⟩ => rfl

/-- The exponent of a group. -/
theorem pay3_apply (x : Vec Ideal S8x4096x4096 .bf16) (b : Fin 8) (s : Fin 4096) (h : Fin 16) :
    k0_pay3 x (ix3 b s h) = refExp (gtop x b s h) := by
  unfold k0_pay3
  refine (exponent_apply _ (ix3 b s h : S8x4096x16.Idx)).trans (congrArg refExp ?_)
  rw [mulf_apply]
  refine congrArg top ?_
  refine (maxReduce_apply _ _ _ _ (ix3 b s h : S8x4096x16.Idx)).trans ?_
  refine Finset.sup_congr rfl fun k _ => ?_
  refine congrArg mag ?_
  exact (congrArg (k0_pay2 x) (lift_eq b s h k)).trans (pay2_apply x b s h k)

/-- The scale of a group. -/
theorem pay4_apply (x : Vec Ideal S8x4096x4096 .bf16) (b : Fin 8) (s : Fin 4096) (h : Fin 16) :
    k0_pay4 x (ix3 b s h) = scale (gtop x b s h) := by
  unfold k0_pay4
  rw [exp2_apply, pay3_apply]
  exact exp2_refExp _

/-- The codes. -/
theorem G1_apply (x : Vec Ideal S8x4096x4096 .bf16) (b : Fin 8) (s : Fin 4096) (h : Fin 16) (k : Fin 256) :
    Value.G1 x (ix3 b s ⟨h.val * 256 + k.val, by omega⟩) = code (grp x b s h k) (inv (gtop x b s h)) := by
  unfold Value.G1 k0_pay5
  rw [truncf_apply]
  refine (shapeCast_apply _ _ (ix3 b s ⟨h.val * 256 + k.val, by omega⟩ : S8x4096x4096.Idx)
    (ix4 b s h k : S8x4096x16x256.Idx) (by
      rw [rm3, rm4]
      show ((b.val * 4096 + s.val) * 16 + h.val) * 256 + k.val = (b.val * 4096 + s.val) * 4096 + (h.val * 256 + k.val)
      omega)).trans ?_
  rw [minimumf_apply, maximumf_apply, mulf_apply]
  rw [broadcastTo_apply _ _ (ix4 b s h k : S8x4096x16x256.Idx) (ix4 b s h 0 : S8x4096x16x1.Idx)
    (fun a => match a with | ⟨0, _⟩ => rfl | ⟨1, _⟩ => rfl | ⟨2, _⟩ => rfl | ⟨3, _⟩ => rfl)]
  rw [shapeCast_apply _ _ (ix4 b s h 0 : S8x4096x16x1.Idx) (ix3 b s h : S8x4096x16.Idx) (by
    rw [rm3, rm4]
    show (b.val * 4096 + s.val) * 16 + h.val = ((b.val * 4096 + s.val) * 16 + h.val) * 1 + 0
    omega)]
  rw [pay2_apply]
  unfold code
  refine congrArg (fun z => min _ (max _ (grp x b s h k * z))) ?_
  rw [exp2_apply, subf_apply, pay3_apply]
  exact exp2_neg_refExp _

/-- The scales by head. -/
theorem G2_apply (x : Vec Ideal S8x4096x4096 .bf16) (b : Fin 8) (h : Fin 16) (s : Fin 4096) :
    Value.G2 x (ix3 b h s) = scale (gtop x b s h) := by
  unfold Value.G2 k0_pay6
  refine (transpose_apply _ _ _ (ix3 b h s : S8x16x4096.Idx) (ix3 b s h : S8x4096x16.Idx)
    (fun a => match a with | ⟨0, _⟩ => rfl | ⟨1, _⟩ => rfl | ⟨2, _⟩ => rfl)).trans ?_
  exact pay4_apply x b s h

/-- The scales by row: the sixteen heads' and then ones. -/
theorem G3_apply (x : Vec Ideal S8x4096x4096 .bf16) (b : Fin 8) (s : Fin 4096) (l : Fin 128) :
    Value.G3 x (ix3 b s l) = if hl : l.val < 16 then scale (gtop x b s ⟨l.val, hl⟩)
      else Ideal.ofBits .f32 0x3F800000#32 := by
  unfold Value.G3 k0_pay1
  by_cases hl : l.val < 16
  · rw [dif_pos hl]
    refine (concatenate_pair_apply_left (s₁ := S8x4096x16) (s₂ := S8x4096x112) _ _ _ _ (ix3 b s l : S8x4096x128.Idx) rfl
      (ix3 b s ⟨l.val, hl⟩ : S8x4096x16.Idx) (fun a => match a with | ⟨0, _⟩ => rfl | ⟨1, _⟩ => rfl | ⟨2, _⟩ => rfl)).trans ?_
    exact pay4_apply x b s ⟨l.val, hl⟩
  · rw [dif_neg hl]
    refine (concatenate_pair_apply_right (s₁ := S8x4096x16) (s₂ := S8x4096x112) _ _ _ _ (ix3 b s l : S8x4096x128.Idx) rfl rfl
      (ix3 b s ⟨l.val - 16, by omega⟩ : S8x4096x112.Idx)
      (fun a => match a with | ⟨0, _⟩ => fun _ => rfl | ⟨1, _⟩ => fun _ => rfl | ⟨2, _⟩ => fun h => absurd rfl h)
      (by show l.val - 16 + 16 = l.val; omega)).trans ?_
    rfl

end Cert.QKQuantRef

end
-- ==== Proof.QKQuantValue.lean ====
module

public import proofs.«01_k».proof.Proof.QKQuantOut
public import proofs.«01_k».proof.Proof.QKQuantRef

@[expose] public section

/-!
# The query and key quantiser's arrays

Each of the kernel's three arrays after the run, block by block, is the reference's.
-/

noncomputable section

namespace Cert.QKQuantValue

open Cert.QKQuantIdeal Cert.QKQuantIdeal.Gen Idealize.ShloMosaic Idealize.ShloMosaic.TcCoe Idealize.SL.Sem
open Cert.Ix Cert.Pow2 Cert.Amax Cert.QKQuantBlock Cert.QKQuantOut Idealize.ShloMosaic.ValueIdx

/-- The reference's codes. -/
abbrev R1 (x : Vec Ideal S8x4096x4096 .bf16) : Vec Ideal S8x4096x4096 .fp8e4m3 := Cert.QKQuantRefIdeal.Value.G1 (F := Ideal) x
/-- The reference's scales by head. -/
abbrev R2 (x : Vec Ideal S8x4096x4096 .bf16) : Vec Ideal S8x16x4096 .f32 := Cert.QKQuantRefIdeal.Value.G2 (F := Ideal) x
/-- The reference's scales by row. -/
abbrev R3 (x : Vec Ideal S8x4096x4096 .bf16) : Vec Ideal S8x4096x128 .f32 := Cert.QKQuantRefIdeal.Value.G3 (F := Ideal) x

variable (m : (ℓ : Loc nD τ sig) → Buf (Elt Ideal) ℓ)

/-- The windows' block indices at a grid point. -/
theorem idx : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = 0 ∧ win0_2.index t (2 : Fin 3) = t.val % 8)
    ∧ (win0_3.index t (0 : Fin 3) = t.val / 8 ∧ win0_3.index t (1 : Fin 3) = t.val % 8 ∧ win0_3.index t (2 : Fin 3) = 0) :=
  (by decide +kernel : ∀ t : Fin grid0.N, _)

/-- The batch row of a grid point. -/
def bt (t : Fin cfg0.N) : Fin 8 := ⟨t.val / 8, by have := lt_of_lt_of_eq t.isLt N_0; omega⟩
/-- A block's row in the array. -/
def row (t : Fin cfg0.N) (r : Fin 512) : Fin 4096 := ⟨t.val % 8 * 512 + r.val, by omega⟩

theorem emb0 (t : Fin cfg0.N) (b : Fin 1) (r : Fin 512) (q : Fin 4096) :
    ((cfg0.win 0).blk t).view.emb (ix3 b r q : S1x512x4096.Idx) = (ix3 (bt t) (row t r) q : S8x4096x4096.Idx) := by
  obtain ⟨⟨e0, e1, e2⟩, -⟩ := idx t
  have hb := b.isLt
  refine ext3 ?_ ?_ ?_
  · show win0_0.index t (0 : Fin 3) * 1 + 1 * b.val = t.val / 8; omega
  · show win0_0.index t (1 : Fin 3) * 512 + 1 * r.val = t.val % 8 * 512 + r.val; omega
  · show win0_0.index t (2 : Fin 3) * 4096 + 1 * q.val = q.val; omega

theorem emb1 (t : Fin cfg0.N) (b : Fin 1) (r : Fin 512) (q : Fin 4096) :
    ((cfg0.win 1).blk t).view.emb (ix3 b r q : S1x512x4096.Idx) = (ix3 (bt t) (row t r) q : S8x4096x4096.Idx) := by
  obtain ⟨-, ⟨e0, e1, e2⟩, -⟩ := idx t
  have hb := b.isLt
  refine ext3 ?_ ?_ ?_
  · show win0_1.index t (0 : Fin 3) * 1 + 1 * b.val = t.val / 8; omega
  · show win0_1.index t (1 : Fin 3) * 512 + 1 * r.val = t.val % 8 * 512 + r.val; omega
  · show win0_1.index t (2 : Fin 3) * 4096 + 1 * q.val = q.val; omega

theorem emb2 (t : Fin cfg0.N) (b : Fin 1) (h : Fin 16) (r : Fin 512) :
    ((cfg0.win 2).blk t).view.emb (ix3 b h r : S1x16x512.Idx) = (ix3 (bt t) h (row t r) : S8x16x4096.Idx) := by
  obtain ⟨-, -, ⟨e0, e1, e2⟩, -⟩ := idx t
  have hb := b.isLt
  refine ext3 ?_ ?_ ?_
  · show win0_2.index t (0 : Fin 3) * 1 + 1 * b.val = t.val / 8; omega
  · show win0_2.index t (1 : Fin 3) * 16 + 1 * h.val = h.val; omega
  · show win0_2.index t (2 : Fin 3) * 512 + 1 * r.val = t.val % 8 * 512 + r.val; omega

theorem emb3 (t : Fin cfg0.N) (b : Fin 1) (r : Fin 512) (l : Fin 128) :
    ((cfg0.win 3).blk t).view.emb (ix3 b r l : S1x512x128.Idx) = (ix3 (bt t) (row t r) l : S8x4096x128.Idx) := by
  obtain ⟨-, -, -, e0, e1, e2⟩ := idx t
  have hb := b.isLt
  refine ext3 ?_ ?_ ?_
  · show win0_3.index t (0 : Fin 3) * 1 + 1 * b.val = t.val / 8; omega
  · show win0_3.index t (1 : Fin 3) * 512 + 1 * r.val = t.val % 8 * 512 + r.val; omega
  · show win0_3.index t (2 : Fin 3) * 128 + 1 * l.val = l.val; omega

/-- The input block, entry by entry. -/
theorem iblk_apply (c : Dev nD) (t : Fin cfg0.N) (r : Fin 512) (q : Fin 4096) :
    (iblk m c 0 t : Vec Ideal S1x512x4096 .bf16) (ix3 0 r q : S1x512x4096.Idx) = V m c main_arg0 (ix3 (bt t) (row t r) q : S8x4096x4096.Idx) := by
  show V m c main_arg0 (((cfg0.win 0).blk t).view.emb (ix3 0 r q : S1x512x4096.Idx)) = _
  rw [emb0]

/-- A block's top values are the array's. -/
theorem btop_eq (c : Dev nD) (t : Fin cfg0.N) (r : Fin 512) (h : Fin 16) :
    btop (iblk m c 0 t) r h = Cert.QKQuantRef.gtop (V m c main_arg0) (bt t) (row t r) h := by
  unfold btop Cert.QKQuantRef.gtop
  exact congrArg (fun f : Fin 256 → EReal => top (amax f)) (funext fun k => iblk_apply m c t r _)

theorem flushed1_eq (c : Dev nD) (t : Fin cfg0.N) :
    (dats m 0 c).flushed 1 t = ((cfg0.win 1).blk t).view.read (Elt Ideal) (R1 (V m c main_arg0)) := by
  rw [Value.flushed1]
  funext j
  obtain ⟨b, r, q, rfl⟩ : ∃ (b : Fin 1) (r : Fin 512) (q : Fin 4096), j = (ix3 b r q : S1x512x4096.Idx) :=
    ⟨j 0, j 1, j 2, eq_ix3 j⟩
  obtain rfl : b = 0 := Subsingleton.elim _ _
  show out0_1 (iblk m c 0 t) (ix3 0 r q : S1x512x4096.Idx)
    = R1 (V m c main_arg0) (((cfg0.win 1).blk t).view.emb (ix3 0 r q : S1x512x4096.Idx))
  rw [emb1, out1_apply]
  have hq : q = ⟨(⟨q.val / 256, by omega⟩ : Fin 16).val * 256 + (⟨q.val % 256, by omega⟩ : Fin 256).val, by
      show q.val / 256 * 256 + q.val % 256 < 4096
      omega⟩ := Fin.ext (by show q.val = q.val / 256 * 256 + q.val % 256; omega)
  refine Eq.trans ?_ ((congrArg (fun z => R1 (V m c main_arg0) (ix3 (bt t) (row t r) z : S8x4096x4096.Idx)) hq).trans
    (Cert.QKQuantRef.G1_apply (V m c main_arg0) (bt t) (row t r) ⟨q.val / 256, by omega⟩ ⟨q.val % 256, by omega⟩)).symm
  unfold blkCodes
  refine congrArg₂ code ?_ (congrArg Pow2.inv (btop_eq m c t r ⟨q.val / 256, by omega⟩))
  rw [iblk_apply]
  exact congrArg (fun z => V m c main_arg0 (ix3 (bt t) (row t r) z : S8x4096x4096.Idx)) hq

/-- A block of the scales by head is the array's at its place, once its entries are. -/
theorem blk2 (X : Vec Ideal S1x16x512 .f32) (G : Vec Ideal S8x16x4096 .f32) (t : Fin cfg0.N)
    (hX : ∀ (h : Fin 16) (r : Fin 512), X (ix3 0 h r : S1x16x512.Idx) = G (ix3 (bt t) h (row t r) : S8x16x4096.Idx)) :
    (cfg0.win 2).cut (grid0.coords t) X = ((cfg0.win 2).blk t).view.read (Elt Ideal) G := by
  funext j
  obtain ⟨b, h, r, rfl⟩ : ∃ (b : Fin 1) (h : Fin 16) (r : Fin 512), j = (ix3 b h r : S1x16x512.Idx) :=
    ⟨j 0, j 1, j 2, eq_ix3 j⟩
  obtain rfl : b = 0 := Subsingleton.elim _ _
  show X (ix3 0 h r : S1x16x512.Idx) = G (((cfg0.win 2).blk t).view.emb (ix3 0 h r : S1x16x512.Idx))
  rw [emb2, hX]

theorem flushed2_eq (c : Dev nD) (t : Fin cfg0.N) :
    (dats m 0 c).flushed 2 t = ((cfg0.win 2).blk t).view.read (Elt Ideal) (R2 (V m c main_arg0)) := by
  rw [Value.flushed2]
  refine blk2 _ _ t fun h r => ?_
  rw [out2_apply, btop_eq]
  exact (Cert.QKQuantRef.G2_apply (V m c main_arg0) (bt t) h (row t r)).symm

theorem flushed3_eq (c : Dev nD) (t : Fin cfg0.N) :
    (dats m 0 c).flushed 3 t = ((cfg0.win 3).blk t).view.read (Elt Ideal) (R3 (V m c main_arg0)) := by
  rw [Value.flushed3]
  funext j
  obtain ⟨b, r, l, rfl⟩ : ∃ (b : Fin 1) (r : Fin 512) (l : Fin 128), j = (ix3 b r l : S1x512x128.Idx) :=
    ⟨j 0, j 1, j 2, eq_ix3 j⟩
  obtain rfl : b = 0 := Subsingleton.elim _ _
  show out0_3 (iblk m c 0 t) (ix3 0 r l : S1x512x128.Idx)
    = R3 (V m c main_arg0) (((cfg0.win 3).blk t).view.emb (ix3 0 r l : S1x512x128.Idx))
  rw [emb3, out3_apply]
  refine Eq.trans ?_ (Cert.QKQuantRef.G3_apply (V m c main_arg0) (bt t) (row t r) l).symm
  by_cases hl : l.val < 16
  · rw [dif_pos hl, dif_pos hl, btop_eq]
  · rw [dif_neg hl, dif_neg hl]

/-- The grid point of a batch row and a row. -/
def pt (b : Fin 8) (s : Fin 4096) : Fin cfg0.N := ⟨b.val * 8 + s.val / 512, lt_of_lt_of_eq (by omega) N_0.symm⟩

theorem bt_pt (b : Fin 8) (s : Fin 4096) : bt (pt b s) = b :=
  Fin.ext (by show (b.val * 8 + s.val / 512) / 8 = b.val; omega)

theorem row_pt (b : Fin 8) (s : Fin 4096) : row (pt b s) ⟨s.val % 512, by omega⟩ = s :=
  Fin.ext (by show (b.val * 8 + s.val / 512) % 8 * 512 + s.val % 512 = s.val; omega)

theorem covered1 (i : S8x4096x4096.Idx) :
    ∃ t : Fin cfg0.N, (cfg0.win 1).flush t = true ∧ i ∈ ((cfg0.win 1).blk t).view.set := by
  obtain ⟨b, s, q, rfl⟩ : ∃ (b : Fin 8) (s : Fin 4096) (q : Fin 4096), i = (ix3 b s q : S8x4096x4096.Idx) :=
    ⟨i 0, i 1, i 2, eq_ix3 i⟩
  refine ⟨pt b s, flush0_1 _, ?_⟩
  refine (congrArg (fun k => k ∈ ((cfg0.win 1).blk (pt b s)).view.set)
    ((emb1 (pt b s) 0 ⟨s.val % 512, by omega⟩ q).trans ?_)).mp (((cfg0.win 1).blk (pt b s)).view.emb_mem_set _)
  rw [bt_pt, row_pt]

theorem covered2 (i : S8x16x4096.Idx) :
    ∃ t : Fin cfg0.N, (cfg0.win 2).flush t = true ∧ i ∈ ((cfg0.win 2).blk t).view.set := by
  obtain ⟨b, h, s, rfl⟩ : ∃ (b : Fin 8) (h : Fin 16) (s : Fin 4096), i = (ix3 b h s : S8x16x4096.Idx) :=
    ⟨i 0, i 1, i 2, eq_ix3 i⟩
  refine ⟨pt b s, flush0_2 _, ?_⟩
  refine (congrArg (fun k => k ∈ ((cfg0.win 2).blk (pt b s)).view.set)
    ((emb2 (pt b s) 0 h ⟨s.val % 512, by omega⟩).trans ?_)).mp (((cfg0.win 2).blk (pt b s)).view.emb_mem_set _)
  rw [bt_pt, row_pt]

theorem covered3 (i : S8x4096x128.Idx) :
    ∃ t : Fin cfg0.N, (cfg0.win 3).flush t = true ∧ i ∈ ((cfg0.win 3).blk t).view.set := by
  obtain ⟨b, s, l, rfl⟩ : ∃ (b : Fin 8) (s : Fin 4096) (l : Fin 128), i = (ix3 b s l : S8x4096x128.Idx) :=
    ⟨i 0, i 1, i 2, eq_ix3 i⟩
  refine ⟨pt b s, flush0_3 _, ?_⟩
  refine (congrArg (fun k => k ∈ ((cfg0.win 3).blk (pt b s)).view.set)
    ((emb3 (pt b s) 0 ⟨s.val % 512, by omega⟩ l).trans ?_)).mp (((cfg0.win 3).blk (pt b s)).view.emb_mem_set _)
  rw [bt_pt, row_pt]

/-- The codes after the run. -/
theorem final1 (c : Dev nD) : (dats m 0 c).arrAt 1 cfg0.N = R1 (m ((c : Thread nD τ).loc main_arg0)) :=
  ((dats m 0 c).arrAt_eq_of_cover 1 (R1 (V m c main_arg0)) (fun t _ => flushed1_eq m c t) covered1).trans
    (by rw [V_main_arg0])

/-- The scales by head after the run. -/
theorem final2 (c : Dev nD) : (dats m 0 c).arrAt 2 cfg0.N = R2 (m ((c : Thread nD τ).loc main_arg0)) :=
  ((dats m 0 c).arrAt_eq_of_cover 2 (R2 (V m c main_arg0)) (fun t _ => flushed2_eq m c t) covered2).trans
    (by rw [V_main_arg0])

/-- The scales by row after the run. -/
theorem final3 (c : Dev nD) : (dats m 0 c).arrAt 3 cfg0.N = R3 (m ((c : Thread nD τ).loc main_arg0)) :=
  ((dats m 0 c).arrAt_eq_of_cover 3 (R3 (V m c main_arg0)) (fun t _ => flushed3_eq m c t) covered3).trans
    (by rw [V_main_arg0])

end Cert.QKQuantValue

end
-- ==== Proof.VQuantValue.lean ====
module

public import proofs.«01_k».proof.Proof.Gen.VQuantIdeal.Value
public import proofs.«01_k».proof.Proof.Gen.VQuantRefIdeal.Value
public import proofs.«01_k».proof.Proof.Idx

@[expose] public section

/-!
# The values' quantiser

What one block of the kernel that quantises `v` computes, that the blocks tile the result, and that the
array they leave is the reference's: every entry times the reciprocal of its column's scale, clipped to
the range of the codes.
-/

noncomputable section

namespace Cert.VQuantValue

open Cert.VQuantIdeal Cert.VQuantIdeal.Gen Idealize.ShloMosaic Idealize.ShloMosaic.TcCoe Idealize.SL.Sem
open Cert.Ix Idealize.ShloMosaic.ValueIdx

/-- One code: the entry times the reciprocal of the scale, clipped. -/
def code (x s : EReal) : EReal :=
  min (Ideal.ofBits .f32 0x43E00000#32) (max (Ideal.ofBits .f32 0xC3E00000#32)
    (x * Ideal.div (Ideal.ofBits .f32 0x3F800000#32) s))

/-- The block the kernel stores, at an index. -/
theorem pay_apply (v0 : Vec Ideal S1x1x4096 .f32) (v5 : Vec Ideal S1x512x4096 .bf16)
    (b : Fin 1) (r : Fin 512) (q : Fin 4096) :
    k0_pay1 v0 v5 (ix3 b r q) = code (v5 (ix3 b r q)) (v0 (ix3 0 0 q)) := by
  have hb := b.isLt
  unfold k0_pay1
  refine (shapeCast_apply _ _ (ix3 b r q) (ix2 r q) (by
    rw [rm2, rm3]; show r.val * 4096 + q.val = (b.val * 512 + r.val) * 4096 + q.val; omega)).trans ?_
  rw [truncf_apply, minimumf_apply, maximumf_apply, mulf_apply]
  rw [broadcastTo_apply _ _ (ix2 r q : S512x4096.Idx) (ix2 0 q : S1x4096.Idx) (fun a => match a with | ⟨0, _⟩ => rfl | ⟨1, _⟩ => rfl)]
  rw [truncf_apply, divf_apply]
  rw [shapeCast_apply v0 _ _ (ix3 0 0 q) (by rw [rm2, rm3]; rfl)]
  rw [shapeCast_apply v5 _ _ (ix3 b r q) (by
    rw [rm2, rm3]; show (b.val * 512 + r.val) * 4096 + q.val = r.val * 4096 + q.val; omega)]
  rfl

variable (m : (ℓ : Loc nD τ sig) → Buf (Elt Ideal) ℓ) (ρ : Dev nD → PrngReg)

/-- The codes of a whole array of values. -/
def codes (x : Vec Ideal S8x4096x4096 .bf16) (s : Vec Ideal S8x8x4096 .f32) : Vec Ideal S8x4096x4096 .fp8e4m3 :=
  fun i => code (x i) (s (ix3 (i 0) 0 (i 2)))

/-- The index maps: the point's batch and row block. -/
theorem idx : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = t.val % 8 ∧ win0_2.index t (2 : Fin 3) = 0) :=
  (by decide +kernel : ∀ t : Fin grid0.N, _)

theorem emb0 (t : Fin cfg0.N) (b : Fin 1) (r : Fin 512) (q : Fin 4096) :
    ((cfg0.win 0).blk t).view.emb (ix3 b r q : S1x512x4096.Idx)
      = (ix3 ⟨t.val / 8, by have := lt_of_lt_of_eq t.isLt N_0; omega⟩ ⟨t.val % 8 * 512 + r.val, by omega⟩ q : S8x4096x4096.Idx) := by
  obtain ⟨⟨e0, e1, e2⟩, -⟩ := idx t
  have hb := b.isLt
  refine ext3 ?_ ?_ ?_
  · show win0_0.index t (0 : Fin 3) * 1 + 1 * b.val = t.val / 8; omega
  · show win0_0.index t (1 : Fin 3) * 512 + 1 * r.val = t.val % 8 * 512 + r.val; omega
  · show win0_0.index t (2 : Fin 3) * 4096 + 1 * q.val = q.val; omega

theorem emb1 (t : Fin cfg0.N) (b : Fin 1) (r : Fin 8) (q : Fin 4096) :
    ((cfg0.win 1).blk t).view.emb (ix3 b r q : S1x8x4096.Idx)
      = (ix3 ⟨t.val / 8, by have := lt_of_lt_of_eq t.isLt N_0; omega⟩ r q : S8x8x4096.Idx) := by
  obtain ⟨-, ⟨e0, e1, e2⟩, -⟩ := idx t
  have hb := b.isLt
  refine ext3 ?_ ?_ ?_
  · show win0_1.index t (0 : Fin 3) * 1 + 1 * b.val = t.val / 8; omega
  · show win0_1.index t (1 : Fin 3) * 8 + 1 * r.val = r.val; omega
  · show win0_1.index t (2 : Fin 3) * 4096 + 1 * q.val = q.val; omega

theorem emb2 (t : Fin cfg0.N) (b : Fin 1) (r : Fin 512) (q : Fin 4096) :
    ((cfg0.win 2).blk t).view.emb (ix3 b r q : S1x512x4096.Idx)
      = (ix3 ⟨t.val / 8, by have := lt_of_lt_of_eq t.isLt N_0; omega⟩ ⟨t.val % 8 * 512 + r.val, by omega⟩ q : S8x4096x4096.Idx) := by
  obtain ⟨-, -, e0, e1, e2⟩ := idx t
  have hb := b.isLt
  refine ext3 ?_ ?_ ?_
  · show win0_2.index t (0 : Fin 3) * 1 + 1 * b.val = t.val / 8; omega
  · show win0_2.index t (1 : Fin 3) * 512 + 1 * r.val = t.val % 8 * 512 + r.val; omega
  · show win0_2.index t (2 : Fin 3) * 4096 + 1 * q.val = q.val; omega

theorem hz : (![0, 0, 0] : Fin 3 → Nat) = fun _ => 0 := funext fun a => by fin_cases a <;> rfl

/-- What a point writes back is its block of the codes. -/
theorem flushed_eq (c : Dev nD) (t : Fin cfg0.N) :
    (dats m 0 c).flushed 2 t = ((cfg0.win 2).blk t).view.read (Elt Ideal)
      (codes (V m c main_arg0) (V m c main_arg1)) := by
  rw [Value.flushed2]
  funext j
  obtain ⟨b, r, q, rfl⟩ : ∃ (b : Fin 1) (r : Fin 512) (q : Fin 4096), j = (ix3 b r q : S1x512x4096.Idx) :=
    ⟨j 0, j 1, j 2, eq_ix3 j⟩
  show out0_2 (iblk m c 0 t) (iblk m c 1 t) (ix3 b r q : S1x512x4096.Idx)
    = codes (V m c main_arg0) (V m c main_arg1) (((cfg0.win 2).blk t).view.emb (ix3 b r q : S1x512x4096.Idx))
  rw [emb2]
  unfold out0_2
  rw [View.canon_unit_zero hz, View.ld_unit_zero (S := S1x512x4096) hz, pay_apply]
  unfold codes
  refine congrArg₂ code ?_ ?_
  · show V m c main_arg0 (((cfg0.win 0).blk t).view.emb (ix3 b r q : S1x512x4096.Idx)) = _
    rw [emb0]
  · show V m c main_arg1 (((cfg0.win 1).blk t).view.emb _) = _
    refine (congrArg (fun k => V m c main_arg1 (((cfg0.win 1).blk t).view.emb k))
      (?_ : _ = (ix3 0 0 q : S1x8x4096.Idx))).trans (by rw [emb1])
    refine ext3 rfl rfl ?_
    show 0 + 1 * q.val = q.val
    omega

/-- Every index of the array is in some point's block. -/
theorem covered (i : S8x4096x4096.Idx) :
    ∃ t : Fin cfg0.N, (cfg0.win 2).flush t = true ∧ i ∈ ((cfg0.win 2).blk t).view.set := by
  have h0 : (i 0).val < 8 := (i 0).isLt
  have h1 : (i 1).val < 4096 := (i 1).isLt
  let t : Fin cfg0.N := ⟨(i 0).val * 8 + (i 1).val / 512, lt_of_lt_of_eq (by omega) N_0.symm⟩
  refine ⟨t, flush0_2 _, ?_⟩
  refine (congrArg (fun k => k ∈ ((cfg0.win 2).blk t).view.set)
    ((emb2 t 0 ⟨(i 1).val % 512, by omega⟩ (i 2)).trans ?_)).mp (((cfg0.win 2).blk t).view.emb_mem_set _)
  refine ext3 ?_ ?_ rfl
  · show ((i 0).val * 8 + (i 1).val / 512) / 8 = (i 0).val; omega
  · show ((i 0).val * 8 + (i 1).val / 512) % 8 * 512 + (i 1).val % 512 = (i 1).val; omega

/-- The array after the run: the codes of the argument. -/
theorem final (c : Dev nD) : (dats m 0 c).arrAt 2 cfg0.N
    = codes (m ((c : Thread nD τ).loc main_arg0)) (m ((c : Thread nD τ).loc main_arg1)) :=
  ((dats m 0 c).arrAt_eq_of_cover 2 (codes (V m c main_arg0) (V m c main_arg1))
    (fun t _ => flushed_eq m c t) covered).trans (by rw [V_main_arg0, V_main_arg1])

/-- The reference's array is the codes of its arguments. -/
theorem ref_eq (x : Vec Ideal S8x4096x4096 .bf16) (s : Vec Ideal S8x8x4096 .f32) :
    Cert.VQuantRefIdeal.Value.G2 (F := Ideal) x s = codes x s := by
  funext i
  refine (Cert.VQuantRefIdeal.Value.piece2_0 _ _ i).trans ?_
  refine congrArg₂ code (congrArg x ?_) (congrArg s ?_)
  · refine ext3 ?_ ?_ ?_
    · show 0 + 1 * (i 0).val = _; omega
    · show 0 + 1 * (i 1).val = _; omega
    · show 0 + 1 * (i 2).val = _; omega
  · refine ext3 ?_ rfl ?_
    · show 0 + 1 * (0 + 1 * (i 0).val) = (i 0).val; omega
    · show 0 + 1 * (0 + 1 * (i 2).val) = (i 2).val; omega

end Cert.VQuantValue

end
-- ==== Proof.VScalePiece.lean ====
module

public import proofs.«01_k».proof.Proof.Gen.VScaleIdeal.Value
public import proofs.«01_k».proof.Proof.Amax

@[expose] public section

/-!
# The scale of one head of the values

From the carried column maxima of one head: the largest of them, over the top code, rounded up to a power of two
by binary search, spread over the head's output block.
-/

set_option maxRecDepth 16384

noncomputable section

namespace Cert.VScalePiece

open Cert.VScaleIdeal Cert.VScaleIdeal.Gen Idealize.ShloMosaic Idealize.ShloMosaic.TcCoe Idealize.SL.Sem
open Cert.Ix Cert.Pow2 Cert.Amax Idealize.ShloMosaic.ValueIdx

variable (V : Vec Ideal S16x256 .bf16) (t p : FVec Ideal S8x256 .f32) (c : BitVec 32)

/-- What the scale of one head is taken of, over its whole output block. -/
def topv : FVec Ideal S8x256 .f32 := k0_pay5 V

/-- A constant over the block. -/
def con : FVec Ideal S8x256 .f32 := broadcast S8x256 (Scalar.ofBits (F := Ideal) .f32 c)

/-- One step of the search. -/
def step : FVec Ideal S8x256 .f32 := select (cmpf .oge t (mulf p (con c))) (mulf p (con c)) p

/-- The scale from the last power of the search. -/
def fin (t p : FVec Ideal S8x256 .f32) : FVec Ideal S1x8x256 .f32 :=
  shapeCast S1x8x256 (select (cmpf .olt t (con 0x00800000#32)) (con 0x3F800000#32) (mulf p (con 0x40000000#32)))
    shapeCasts_S8x256_S1x8x256

/-- The search. -/
def search : FVec Ideal S8x256 .f32 :=
  step t (step t (step t (step t (step t (step t (step t (step t (con 0x00800000#32) 0x7E800000#32) 0x5F800000#32)
    0x4F800000#32) 0x47800000#32) 0x43800000#32) 0x41800000#32) 0x40800000#32) 0x40000000#32

/-- One head's output block. -/
def piece : FVec Ideal S1x8x256 .f32 := fin (topv V) (search (topv V))

/-! The sixteen heads, as the kernel's blocks name their parts, are this. -/

theorem piece0 : k0_pay8 (k0_pay5 V) (k0_pay6 V) (k0_pay7 V) = piece V := by
  unfold piece
  rfl

theorem piece1 : k0_pay16 (k0_pay10 V) (k0_pay13 (k0_pay9 V) k0_pay11 k0_pay12) (k0_pay14 (k0_pay9 V) k0_pay11 k0_pay12) (k0_pay15 (k0_pay9 V) k0_pay11 k0_pay12) = piece V := by
  unfold piece
  rfl

theorem piece2 : k0_pay21 (k0_pay17 V) (k0_pay18 V) (k0_pay19 V) k0_pay20 = piece V := by
  unfold piece
  rfl

theorem piece3 : k0_pay26 (k0_pay23 (k0_pay22 V)) (k0_pay24 (k0_pay22 V)) (k0_pay25 (k0_pay22 V)) (FloatOps.ofBits FTy.f32 1082130432#32) = piece V := by
  unfold piece
  rfl

theorem piece4 : k0_pay32 (k0_pay31 (k0_pay27 V) (k0_pay28 V) (k0_pay29 V) (k0_pay30 V)) = piece V := by
  unfold piece
  rfl

theorem piece5 : k0_pay37 (k0_pay33 V) (k0_pay34 V) (k0_pay35 V) (k0_pay36 V) = piece V := by
  unfold piece
  rfl

theorem piece6 : k0_pay42 (k0_pay38 V) (k0_pay39 V) (k0_pay40 (k0_pay38 V)) k0_pay41 = piece V := by
  unfold piece
  rfl

theorem piece7 : k0_pay47 (k0_pay43 V) (k0_pay44 V) (k0_pay45 V) (k0_pay46 V) (FloatOps.ofBits FTy.f32 1333788672#32) = piece V := by
  unfold piece
  rfl

theorem piece8 : k0_pay53 (k0_pay49 (k0_pay48 V)) (k0_pay50 (k0_pay48 V)) (k0_pay51 (k0_pay48 V)) (k0_pay52 (k0_pay48 V)) = piece V := by
  unfold piece
  rfl

theorem piece9 : k0_pay60 (k0_pay55 V) (k0_pay59 (k0_pay54 V) k0_pay56 (k0_pay57 V) k0_pay58) = piece V := by
  unfold piece
  rfl

theorem piece10 : k0_pay66 (k0_pay61 V) (k0_pay62 V) (k0_pay63 V) (k0_pay64 V) k0_pay65 = piece V := by
  unfold piece
  rfl

theorem piece11 : k0_pay72 (k0_pay68 (k0_pay67 V) (FloatOps.ofBits FTy.f32 991054117#32)) (k0_pay69 (k0_pay67 V) (FloatOps.ofBits FTy.f32 991054117#32)) (k0_pay70 (k0_pay67 V) (FloatOps.ofBits FTy.f32 991054117#32)) (k0_pay71 (k0_pay67 V) (FloatOps.ofBits FTy.f32 991054117#32)) (FloatOps.ofBits FTy.f32 1082130432#32) = piece V := by
  unfold piece
  rfl

theorem piece12 : k0_pay76 (k0_pay73 V) (k0_pay74 V) (k0_pay75 V) = piece V := by
  unfold piece
  rfl

theorem piece13 : k0_pay82 (k0_pay77 V) (k0_pay78 V) (k0_pay79 V) (k0_pay80 V) (k0_pay81 V) = piece V := by
  unfold piece
  rfl

theorem piece14 : k0_pay90 (k0_pay84 V) (k0_pay87 (k0_pay83 V) k0_pay85 k0_pay86) (k0_pay88 (k0_pay83 V) k0_pay85 k0_pay86) k0_pay89 = piece V := by
  unfold piece
  rfl

theorem piece15 : k0_pay4 (k0_pay92 V) (k0_pay94 (k0_pay91 V) (k0_pay93 V) (FloatOps.ofBits FTy.f32 0x47800000#32)) (k0_pay95 (k0_pay91 V) (k0_pay93 V) (FloatOps.ofBits FTy.f32 0x47800000#32)) = piece V := by
  unfold piece
  rfl

theorem step_apply (i : S8x256.Idx) : step t p c i = stepP (t i) (p i) c := by
  unfold step stepP
  rw [select_apply, cmpf_apply, mulf_apply]
  rfl

/-- The search, elementwise. -/
theorem search_apply (i : S8x256.Idx) : search t i = p8 (t i) := by
  unfold search p8 p7 p6 p5 p4 p3 p2 p1
  rw [step_apply, step_apply, step_apply, step_apply, step_apply, step_apply, step_apply, step_apply]
  rfl

/-- The largest entry of a head's columns. -/
def big : EReal := Finset.univ.sup fun r : Fin 16 => Finset.univ.sup fun k : Fin 256 => V (ix2 r k : S16x256.Idx)

theorem topv_apply (r : Fin 8) (k : Fin 256) : topv V (ix2 r k : S8x256.Idx) = top (big V) := by
  unfold topv k0_pay5
  rw [mulf_apply]
  unfold top
  refine congrArg (fun z : EReal => z * Ideal.ofBits .f32 0x3B124925#32) ?_
  refine (broadcastTo_apply _ _ (ix2 r k : S8x256.Idx) (ix2 0 0 : S1x1.Idx)
    (fun a => match a with | ⟨0, _⟩ => rfl | ⟨1, _⟩ => rfl)).trans ?_
  refine (shapeCast_apply _ _ (ix2 0 0 : S1x1.Idx) (ix2 0 0 : S1x1.Idx) rfl).trans ?_
  refine (shapeCast_apply _ _ (ix2 0 0 : S1x1.Idx) (ix1 0 : S1.Idx) rfl).trans ?_
  refine (maxReduce_apply _ _ _ _ _).trans ?_
  unfold big
  refine congrArg (Finset.sup Finset.univ) (funext fun r' => ?_)
  have h1 : Shape.Reduces.lift reduces_S16x1_S1 (ix1 0 : S1.Idx) r' = (ix2 r' 0 : S16x1.Idx) := by
    funext a
    match a with
    | ⟨0, _⟩ => rfl
    | ⟨1, _⟩ => rfl
  rw [h1]
  refine (shapeCast_apply _ _ (ix2 r' 0 : S16x1.Idx) (ix1 r' : S16.Idx) (by
    rw [rm1, rm2]
    show r'.val = r'.val * 1 + 0
    omega)).trans ?_
  refine (maxReduce_apply _ _ _ _ _).trans ?_
  refine congrArg (Finset.sup Finset.univ) (funext fun k' => ?_)
  have h2 : Shape.Reduces.lift reduces_S16x256_S16 (ix1 r' : S16.Idx) k' = (ix2 r' k' : S16x256.Idx) := by
    funext a
    match a with
    | ⟨0, _⟩ => rfl
    | ⟨1, _⟩ => rfl
  rw [h2, extf_apply]

theorem piece_apply (r : Fin 8) (k : Fin 256) : piece V (ix3 0 r k : S1x8x256.Idx) = scale (top (big V)) := by
  unfold piece fin
  refine (shapeCast_apply _ _ (ix3 0 r k : S1x8x256.Idx) (ix2 r k : S8x256.Idx) (by
    rw [rm2, rm3]
    show r.val * 256 + k.val = (0 * 8 + r.val) * 256 + k.val
    omega)).trans ?_
  rw [select_apply, cmpf_apply, mulf_apply, search_apply, topv_apply]
  rfl

end Cert.VScalePiece

end
-- ==== Proof.VScaleBlock.lean ====
module

public import proofs.«01_k».proof.Proof.Gen.VScaleIdeal.Value
public import proofs.«01_k».proof.Proof.VScalePiece

@[expose] public section

/-!
# One step of the value scales

What a step leaves in the carried column maxima, and the block of scales the last step of a column writes.
-/

set_option maxRecDepth 16384

noncomputable section

namespace Cert.VScaleBlock

open Cert.VScaleIdeal Cert.VScaleIdeal.Gen Idealize.ShloMosaic Idealize.ShloMosaic.TcCoe Idealize.ShloMosaic.Tactic Idealize.SL.Sem
open Cert.Ix Cert.Pow2 Cert.Amax Cert.VScalePiece Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S1x512x4096 .bf16) (harg2 : arg2.IsWhole) (arg3 : Memref sig .tc .vmem S1x8x4096 .f32) (harg3 : arg3.IsWhole) (arg4 : Memref sig .tc .vmem S16x4096 .bf16) (harg4 : arg4.IsWhole)
    (x0 : Vec Ideal S1x512x4096 .bf16) (xs0 : Vec Ideal S16x4096 .bf16)

theorem soutA (hc0 : cond0_0 i) (hc1 : ¬cond0_1 i) (hc2 : ¬cond0_2 i) :
    sout0_A_0 c i arg2 harg2 arg3 harg3 arg4 harg4 hc0 hc1 hc2 x0 = k0_pay2 x0 := by
  unfold sout0_A_0
  rw [View.read_writes_eq_canon _ _ _ (scover0_A_0 c i arg2 harg2 arg3 harg3 arg4 harg4 hc0 hc1 hc2 x0)]
  unfold kernelRun0_A
  dsimp only
  sl_unfold_words
  simp only [View.readAt_eq_ld, harg2.read_unread]
  rw [View.canon_unit_zero hz2, View.ld_unit_zero (S := S1x512x4096) hz3]

theorem soutB (hc0 : ¬cond0_0 i) (hc1 : cond0_1 i) (hc2 : ¬cond0_2 i) :
    sout0_B_0 c i arg2 harg2 arg3 harg3 arg4 harg4 hc0 hc1 hc2 x0 xs0 = k0_pay3 x0 xs0 := by
  unfold sout0_B_0
  rw [View.read_writes_eq_canon _ _ _ (scover0_B_0 c i arg2 harg2 arg3 harg3 arg4 harg4 hc0 hc1 hc2 x0 xs0)]
  unfold kernelRun0_B
  dsimp only
  sl_unfold_words
  simp only [View.readAt_eq_ld, harg2.read_unread, harg4.read_unread]
  rw [View.canon_unit_zero hz2, View.ld_unit_zero (S := S1x512x4096) hz3, View.ld_unit_zero (S := S16x4096) hz2]

/-- A load from the carried scratch after its one store. -/
theorem covLd (v : View sig .tc .vmem S16x4096 .bf16) (w : Vec Ideal S16x4096 .bf16) (inb) (r : LoadRect S16x4096) :
    v.readCov [(⟨Rect.unit ![0, 0] ![16, 4096] inb, w⟩ : View.Piece (Elt Ideal) S16x4096 .bf16)] r = fun j => w (r.idx j) := by
  rw [View.readCov_eq_canon', View.canon_unit_zero hz2]

/-- One head's columns of the carried maxima. -/
def cols (X : Vec Ideal S16x4096 .bf16) (o : ℕ) (inb : ∀ a : Fin S16x4096.rank, ![0, o] a + ![16, 256] a ≤ S16x4096.size a) : Vec Ideal S16x256 .bf16 :=
  fun j => X ((Rect.unit (s := S16x4096) ![0, o] ![16, 256] inb).toLoadRect.idx j)

/-- The largest carried maximum of a head. -/
def headBig (X : Vec Ideal S16x4096 .bf16) (h : Fin 16) : EReal :=
  Finset.univ.sup fun r : Fin 16 => Finset.univ.sup fun k : Fin 256 =>
    X (ix2 r ⟨h.val * 256 + k.val, by have := h.isLt; have := k.isLt; omega⟩ : S16x4096.Idx)

theorem big_cols (X : Vec Ideal S16x4096 .bf16) (o : ℕ) (inb) (h : Fin 16) (ho : o = h.val * 256) :
    big (cols X o inb) = headBig X h := by
  subst ho
  unfold big headBig cols
  refine congrArg (Finset.sup Finset.univ) (funext fun r => congrArg (Finset.sup Finset.univ) (funext fun k => ?_))
  refine congrArg X (funext fun a => ?_)
  match a with
  | ⟨0, _⟩ => exact Fin.ext (show 0 + 1 * r.val = r.val by omega)
  | ⟨1, _⟩ => exact Fin.ext (show h.val * 256 + 1 * k.val = h.val * 256 + k.val by omega)

/-- The output block of the last step of a column of blocks. -/
def blkScale (X : Vec Ideal S16x4096 .bf16) (j : S1x8x4096.Idx) : EReal :=
  scale (top (headBig X ⟨(j 2).val / 256, by have : (j 2).val < 4096 := (j 2).isLt; omega⟩))

theorem piece_ok (X : Vec Ideal S16x4096 .bf16) (h : Fin 16) (o : ℕ) (ho : o = h.val * 256) (inb) (inb') (x : S1x8x256.Idx) :
    piece (cols X o inb) x = blkScale X ((Rect.unit (s := S1x8x4096) ![0, 0, o] ![1, 8, 256] inb').emb x) := by
  obtain ⟨b, r, k, rfl⟩ : ∃ (b : Fin 1) (r : Fin 8) (k : Fin 256), x = (ix3 b r k : S1x8x256.Idx) :=
    ⟨x 0, x 1, x 2, eq_ix3 x⟩
  obtain rfl : b = 0 := Subsingleton.elim _ _
  rw [piece_apply, big_cols X o inb h ho]
  unfold blkScale
  refine congrArg (fun h => scale (top (headBig X h))) (Fin.ext ?_)
  show h.val = (o + 1 * k.val) / 256
  have := k.isLt
  omega

theorem outC_apply (hc0 : ¬cond0_0 i) (hc1 : cond0_1 i) (hc2 : cond0_2 i) (j : S1x8x4096.Idx) :
    out0_C_1 c i arg2 harg2 arg3 harg3 arg4 harg4 hc0 hc1 hc2 x0 xs0 j = blkScale (k0_pay3 x0 xs0) j := by
  have hcov := cover0_C_1 c i arg2 harg2 arg3 harg3 arg4 harg4 hc0 hc1 hc2 x0 xs0
  unfold out0_C_1
  rw [View.read_writes_eq_canon _ _ _ hcov]
  revert hcov
  unfold kernelRun0_C
  dsimp only
  sl_unfold_words
  simp only [View.readAt_eq_ld, harg2.read_unread, harg4.read_unread]
  simp only [covLd]
  rw [View.ld_unit_zero (S := S1x512x4096) hz3, View.ld_unit_zero (S := S16x4096) hz2]
  generalize k0_pay3 x0 xs0 = X
  intro hcov
  refine View.canon_apply_of_pieces (Val := Elt Ideal) (e := .f32) (blkScale X) _ ?_ j (hcov j)
  simp only [List.forall_mem_cons]
  refine ⟨?_, ?_, ?_, ?_, ?_, ?_, ?_, ?_, ?_, ?_, ?_, ?_, ?_, ?_, ?_, ?_, fun p hp => absurd hp List.not_mem_nil⟩
  · exact fun x => (congrFun (piece15 _) x).trans (piece_ok X 15 _ rfl _ _ x)
  · exact fun x => (congrFun (piece14 _) x).trans (piece_ok X 14 _ rfl _ _ x)
  · exact fun x => (congrFun (piece13 _) x).trans (piece_ok X 13 _ rfl _ _ x)
  · exact fun x => (congrFun (piece12 _) x).trans (piece_ok X 12 _ rfl _ _ x)
  · exact fun x => (congrFun (piece11 _) x).trans (piece_ok X 11 _ rfl _ _ x)
  · exact fun x => (congrFun (piece10 _) x).trans (piece_ok X 10 _ rfl _ _ x)
  · exact fun x => (congrFun (piece9 _) x).trans (piece_ok X 9 _ rfl _ _ x)
  · exact fun x => (congrFun (piece8 _) x).trans (piece_ok X 8 _ rfl _ _ x)
  · exact fun x => (congrFun (piece7 _) x).trans (piece_ok X 7 _ rfl _ _ x)
  · exact fun x => (congrFun (piece6 _) x).trans (piece_ok X 6 _ rfl _ _ x)
  · exact fun x => (congrFun (piece5 _) x).trans (piece_ok X 5 _ rfl _ _ x)
  · exact fun x => (congrFun (piece4 _) x).trans (piece_ok X 4 _ rfl _ _ x)
  · exact fun x => (congrFun (piece3 _) x).trans (piece_ok X 3 _ rfl _ _ x)
  · exact fun x => (congrFun (piece2 _) x).trans (piece_ok X 2 _ rfl _ _ x)
  · exact fun x => (congrFun (piece1 _) x).trans (piece_ok X 1 _ rfl _ _ x)
  · exact fun x => (congrFun (piece0 _) x).trans (piece_ok X 0 _ rfl _ _ x)

end Cert.VScaleBlock

end
-- ==== Proof.VScaleValue.lean ====
module

public import proofs.«01_k».proof.Proof.VScaleBlock

@[expose] public section

/-!
# The array of value scales

After each step the carried array holds, for every residue of the row number and every column, the largest
magnitude over the rows met so far in the current batch; after the last step of a batch the sixteen residues
together range over all rows, so the block written is the scale of the whole head.
-/

noncomputable section

namespace Cert.VScaleValue

open Cert.VScaleIdeal Cert.VScaleIdeal.Gen Idealize.ShloMosaic Idealize.ShloMosaic.TcCoe Idealize.SL.Sem
open Cert.Ix Cert.Pow2 Cert.Amax Cert.VScalePiece Cert.VScaleBlock Idealize.ShloMosaic.ValueIdx

/-! ## One block -/

theorem ofBits_ninf16 : Ideal.ofBits .bf16 0xFF80#16 = ⊥ := by
  simp [Ideal.ofBits, Ideal.ieee]

/-- A maximum along one axis at the narrow format, as a supremum over that axis. -/
theorem maxReduce16_apply {s t : Shape} {a : Fin s.rank} (src : FVec Ideal s .bf16) (h : s.Reduces [a] t)
    (hφ : FKind.Formats .bf16) (hacc : 0xFF80#16 = FKind.maximumf.neutral .bf16 hφ) (j : t.Idx) :
    multiReduction .maximumf [a] t src 0xFF80#16 h hφ hacc j = Finset.univ.sup (fun k => src (h.lift j k)) := by
  rw [Ideal.multiReduction_maximumf_single]
  refine (congrArg (fun z => Finset.univ.fold max z _) ofBits_ninf16).trans ?_
  rfl

theorem absf_apply {s : Shape} {φ : FTy} (x : FVec Ideal s φ) (i : s.Idx) : absf x i = mag (x i) := rfl

/-- The column maxima of one block, for one residue of the row number. -/
theorem pay1_apply (v : Vec Ideal S1x512x4096 .bf16) (r : Fin 16) (q : Fin 4096) :
    k0_pay1 v (ix2 r q : S16x4096.Idx) = Finset.univ.sup fun a : Fin 32 =>
      mag (v (ix3 0 ⟨a.val * 16 + r.val, by omega⟩ q : S1x512x4096.Idx)) := by
  unfold k0_pay1
  refine (maxReduce16_apply _ _ _ _ _).trans ?_
  refine congrArg (Finset.sup Finset.univ) (funext fun a => ?_)
  have ha : a.val < 32 := a.isLt
  have h1 : Shape.Reduces.lift reduces_S32x16x4096_S16x4096 (ix2 r q : S16x4096.Idx) a = (ix3 a r q : S32x16x4096.Idx) := by
    funext a
    match a with
    | ⟨0, _⟩ => rfl
    | ⟨1, _⟩ => rfl
    | ⟨2, _⟩ => rfl
  rw [h1]
  refine (shapeCast_apply _ _ (ix3 a r q : S32x16x4096.Idx) (ix2 ⟨a.val * 16 + r.val, by omega⟩ q : S512x4096.Idx) (by
    rw [rm2, rm3])).trans ?_
  rw [absf_apply]
  refine congrArg mag ?_
  refine (shapeCast_apply _ _ (ix2 ⟨a.val * 16 + r.val, by omega⟩ q : S512x4096.Idx)
    (ix3 0 ⟨a.val * 16 + r.val, by omega⟩ q : S1x512x4096.Idx) (by
    rw [rm2, rm3]
    show (0 * 512 + (a.val * 16 + r.val)) * 4096 + q.val = (a.val * 16 + r.val) * 4096 + q.val
    omega))

theorem pay2_apply (v : Vec Ideal S1x512x4096 .bf16) (i : S16x4096.Idx) : k0_pay2 v i = k0_pay1 v i := by
  unfold k0_pay2
  exact shapeCast_apply _ _ i i rfl

theorem pay3_apply (v : Vec Ideal S1x512x4096 .bf16) (w : Vec Ideal S16x4096 .bf16) (i : S16x4096.Idx) :
    k0_pay3 v w i = max (w i) (k0_pay1 v i) := by
  unfold k0_pay3
  refine (shapeCast_apply _ _ i i rfl).trans ?_
  rw [maximumf_apply]

/-! ## The steps -/

section Steps

variable (c : Dev nD) (i : grid0.Coords) (arg2 : Memref sig .tc .vmem S1x512x4096 .bf16) (harg2 : arg2.IsWhole) (arg3 : Memref sig .tc .vmem S1x8x4096 .f32) (harg3 : arg3.IsWhole) (arg4 : Memref sig .tc .vmem S16x4096 .bf16) (harg4 : arg4.IsWhole)
    (x0 : Vec Ideal S1x512x4096 .bf16) (xs0 : Vec Ideal S16x4096 .bf16)

open Idealize.ShloMosaic.Tactic in
set_option maxRecDepth 16384 in
theorem soutC (hc0 : ¬cond0_0 i) (hc1 : cond0_1 i) (hc2 : cond0_2 i) :
    sout0_C_0 c i arg2 harg2 arg3 harg3 arg4 harg4 hc0 hc1 hc2 x0 xs0 = k0_pay3 x0 xs0 := by
  unfold sout0_C_0
  rw [View.read_writes_eq_canon _ _ _ (scover0_C_0 c i arg2 harg2 arg3 harg3 arg4 harg4 hc0 hc1 hc2 x0 xs0)]
  unfold kernelRun0_C
  dsimp only
  sl_unfold_words
  simp only [View.readAt_eq_ld, harg2.read_unread, harg4.read_unread]
  rw [View.canon_unit_zero hz2, View.ld_unit_zero (S := S1x512x4096) hz3, View.ld_unit_zero (S := S16x4096) hz2]

end Steps

variable (m : (ℓ : Loc nD τ sig) → Buf (Elt Ideal) ℓ) (ρ : Dev nD → PrngReg)

/-- The index maps. -/
theorem idx : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0) :=
  (by decide +kernel : ∀ t : Fin grid0.N, _)

theorem emb0 (t : Fin cfg0.N) (r : Fin 512) (q : Fin 4096) :
    ((cfg0.win 0).blk t).view.emb (ix3 0 r q : S1x512x4096.Idx)
      = (ix3 ⟨t.val / 8, by have := lt_of_lt_of_eq t.isLt N_0; omega⟩ ⟨t.val % 8 * 512 + r.val, by omega⟩ q : S8x4096x4096.Idx) := by
  obtain ⟨⟨e0, e1, e2⟩, -⟩ := idx t
  refine ext3 ?_ ?_ ?_
  · show win0_0.index t (0 : Fin 3) * 1 + 1 * 0 = t.val / 8; omega
  · show win0_0.index t (1 : Fin 3) * 512 + 1 * r.val = t.val % 8 * 512 + r.val; omega
  · show win0_0.index t (2 : Fin 3) * 4096 + 1 * q.val = q.val; omega

theorem emb1 (t : Fin cfg0.N) (b : Fin 1) (r : Fin 8) (q : Fin 4096) :
    ((cfg0.win 1).blk t).view.emb (ix3 b r q : S1x8x4096.Idx)
      = (ix3 ⟨t.val / 8, by have := lt_of_lt_of_eq t.isLt N_0; omega⟩ r q : S8x8x4096.Idx) := by
  obtain ⟨-, e0, e1, e2⟩ := idx t
  have hb := b.isLt
  refine ext3 ?_ ?_ ?_
  · show win0_1.index t (0 : Fin 3) * 1 + 1 * b.val = t.val / 8; omega
  · show win0_1.index t (1 : Fin 3) * 8 + 1 * r.val = r.val; omega
  · show win0_1.index t (2 : Fin 3) * 4096 + 1 * q.val = q.val; omega

/-- One block's column maxima, bounded. -/
theorem blk_le (c : Dev nD) (t : Fin cfg0.N) (r : Fin 16) (q : Fin 4096) (y : EReal) :
    k0_pay1 (iblk m c 0 t) (ix2 r q : S16x4096.Idx) ≤ y ↔ ∀ s : Fin 4096, s.val % 16 = r.val → s.val / 512 = t.val % 8 →
      mag (V m c main_arg0 (ix3 ⟨t.val / 8, by have := lt_of_lt_of_eq t.isLt N_0; omega⟩ s q : S8x4096x4096.Idx)) ≤ y := by
  have hval : ∀ a : Fin 512, iblk m c 0 t (ix3 0 a q : S1x512x4096.Idx)
      = V m c main_arg0 (ix3 ⟨t.val / 8, by have := lt_of_lt_of_eq t.isLt N_0; omega⟩ ⟨t.val % 8 * 512 + a.val, by omega⟩ q : S8x4096x4096.Idx) := by
    intro a
    show V m c main_arg0 (((cfg0.win 0).blk t).view.emb (ix3 0 a q : S1x512x4096.Idx)) = _
    rw [emb0]
  rw [pay1_apply, Finset.sup_le_iff]
  constructor
  · intro h s h1 h2
    have hs := s.isLt
    have h3 := h ⟨s.val % 512 / 16, by omega⟩ (Finset.mem_univ _)
    rw [hval] at h3
    refine le_trans (le_of_eq (congrArg (fun z => mag (V m c main_arg0 (ix3 _ z q : S8x4096x4096.Idx))) (Fin.ext ?_))) h3
    show s.val = t.val % 8 * 512 + (s.val % 512 / 16 * 16 + r.val)
    omega
  · intro h a _
    have ha := a.isLt
    have hr := r.isLt
    rw [hval]
    exact h ⟨t.val % 8 * 512 + (a.val * 16 + r.val), by omega⟩ (by show (t.val % 8 * 512 + (a.val * 16 + r.val)) % 16 = r.val; omega)
      (by show (t.val % 8 * 512 + (a.val * 16 + r.val)) / 512 = t.val % 8; omega)

/-- What is carried after the first step of a batch. -/
theorem carry_first (c : Dev nD) (t : Fin cfg0.N) (h0 : t.val % 8 = 0) :
    (outsAt0 m c t.val t.isLt).2 = k0_pay2 (iblk m c 0 t) := by
  rw [outsAt0_A m c t h0 (by omega) (by omega)]
  dsimp only
  rw [soutA]

/-- What is carried after a later step. -/
theorem carry_next (c : Dev nD) (t : Fin cfg0.N) (h0 : ¬t.val % 8 = 0) :
    (outsAt0 m c t.val t.isLt).2
      = k0_pay3 (iblk m c 0 t) (outsAt0 m c (t.val - 1) (Nat.lt_of_le_of_lt (Nat.sub_le _ _) t.isLt)).2 := by
  by_cases h2 : t.val % 8 = 7
  · rw [outsAt0_C m c t h0 (by omega) h2]
    dsimp only
    rw [soutC]
  · rw [outsAt0_B m c t h0 (by omega) h2]
    dsimp only
    rw [soutB]

/-- What is carried after step `n`, bounded: the magnitudes of the rows met so far in the batch. -/
theorem carry_le (c : Dev nD) : ∀ (n : ℕ) (hn : n < cfg0.N) (r : Fin 16) (q : Fin 4096) (y : EReal),
    (outsAt0 m c n hn).2 (ix2 r q : S16x4096.Idx) ≤ y ↔ ∀ s : Fin 4096, s.val % 16 = r.val → s.val / 512 ≤ n % 8 →
      mag (V m c main_arg0 (ix3 ⟨n / 8, by have := lt_of_lt_of_eq hn N_0; omega⟩ s q : S8x4096x4096.Idx)) ≤ y := by
  intro n
  induction n with
  | zero =>
    intro hn r q y
    rw [carry_first m c ⟨0, hn⟩ rfl, pay2_apply, blk_le]
    exact ⟨fun h s h1 h2 => h s h1 (by show s.val / 512 = 0 % 8; omega), fun h s h1 h2 => h s h1 (le_of_eq h2)⟩
  | succ n ih =>
    intro hn r q y
    by_cases h0 : (n + 1) % 8 = 0
    · rw [carry_first m c ⟨n + 1, hn⟩ h0, pay2_apply, blk_le]
      exact ⟨fun h s h1 h2 => h s h1 (by show s.val / 512 = (n + 1) % 8; omega), fun h s h1 h2 => h s h1 (le_of_eq h2)⟩
    · rw [carry_next m c ⟨n + 1, hn⟩ h0, pay3_apply, max_le_iff, blk_le]
      show (outsAt0 m c n _).2 (ix2 r q : S16x4096.Idx) ≤ y ∧ _ ↔ _
      rw [ih]
      have hb : n / 8 = (n + 1) / 8 := by omega
      simp only [hb]
      constructor
      · rintro ⟨ha, hb⟩ s h1 h2
        by_cases h3 : s.val / 512 = (n + 1) % 8
        · exact hb s h1 h3
        · exact ha s h1 (by omega)
      · intro h
        exact ⟨fun s h1 h2 => h s h1 (by omega), fun s h1 h2 => h s h1 (le_of_eq h2)⟩

/-! ## The array -/

/-- The largest magnitude of one head of one batch, over all rows. -/
def headMax (x : Vec Ideal S8x4096x4096 .bf16) (b : Fin 8) (h : Fin 16) : EReal :=
  Finset.univ.sup fun s : Fin 4096 => Finset.univ.sup fun k : Fin 256 =>
    mag (x (ix3 b s ⟨h.val * 256 + k.val, by have := h.isLt; have := k.isLt; omega⟩ : S8x4096x4096.Idx))

/-- The scales of a whole array of values, repeated over each head's columns. -/
def scales (x : Vec Ideal S8x4096x4096 .bf16) : Vec Ideal S8x8x4096 .f32 := fun i =>
  scale (top (headMax x (i 0) ⟨(i 2).val / 256, by have : (i 2).val < 4096 := (i 2).isLt; omega⟩))

/-- After the last step of a batch the largest carried maximum of a head is the head's largest magnitude. -/
theorem headBig_last (c : Dev nD) (t : Fin cfg0.N) (h7 : t.val % 8 = 7) (h : Fin 16) :
    headBig (outsAt0 m c t.val t.isLt).2 h
      = headMax (V m c main_arg0) ⟨t.val / 8, by have := lt_of_lt_of_eq t.isLt N_0; omega⟩ h := by
  refine eq_of_forall_ge_iff fun y => ?_
  unfold headBig headMax
  simp only [Finset.sup_le_iff, carry_le m c t.val t.isLt]
  constructor
  · intro hh s _ k _
    have hs := s.isLt
    exact hh ⟨s.val % 16, by omega⟩ (Finset.mem_univ _) k (Finset.mem_univ _) s rfl (by omega)
  · intro hh r _ k _ s _ _
    exact hh s (Finset.mem_univ _) k (Finset.mem_univ _)

/-- What the last step of a batch writes back is its block of the scales. -/
theorem flushed_eq (c : Dev nD) (t : Fin cfg0.N) (hf : (cfg0.win 1).flush t = true) :
    (dats m 0 c).flushed 1 t = ((cfg0.win 1).blk t).view.read (Elt Ideal) (scales (V m c main_arg0)) := by
  have h7 : t.val % 8 = 7 := (flush0_1 t).mp hf
  rw [Value.flushed1_C m c t (by omega) (by omega) h7]
  funext j
  obtain ⟨b, r, q, rfl⟩ : ∃ (b : Fin 1) (r : Fin 8) (q : Fin 4096), j = (ix3 b r q : S1x8x4096.Idx) :=
    ⟨j 0, j 1, j 2, eq_ix3 j⟩
  refine (outC_apply _ _ _ _ _ _ _ _ _ _ _ _ _ (ix3 b r q : S1x8x4096.Idx)).trans ?_
  rw [← carry_next m c t (by omega)]
  show _ = scales (V m c main_arg0) (((cfg0.win 1).blk t).view.emb (ix3 b r q : S1x8x4096.Idx))
  rw [emb1]
  unfold blkScale scales
  rw [headBig_last m c t h7]

/-- The array after the run: the scales of the argument. -/
theorem final (c : Dev nD) : (dats m 0 c).arrAt 1 cfg0.N = scales (m ((c : Thread nD τ).loc main_arg0)) :=
  ((dats m 0 c).arrAt_eq_of_cover 1 (scales (V m c main_arg0))
    (fun t hf => flushed_eq m c t hf) (fun i => (Value.covered_iff1 i).2 (by
      have h0 : (i 0).val < 8 := (i 0).isLt
      have h1 : (i 1).val < 8 := (i 1).isLt
      have h2 : (i 2).val < 4096 := (i 2).isLt
      omega))).trans (by rw [V_main_arg0])

end Cert.VScaleValue

end
-- ==== Proof.VScaleRef.lean ====
module

public import proofs.«01_k».proof.Proof.VScaleValue
public import proofs.«01_k».proof.Proof.Gen.VScaleRefIdeal.Run

@[expose] public section

/-!
# The reference's value scales

The reference takes the largest magnitude of a head over all rows and its columns at once, and raises two to
the exponent of it; index by index this is the kernel's array.
-/

noncomputable section

namespace Cert.VScaleRef

open Cert.VScaleRefIdeal Cert.VScaleRefIdeal.Gen Idealize.ShloMosaic Idealize.ShloMosaic.TcCoe Idealize.SL.Sem Idealize.ShloMosaic.StableHlo
open Cert.Ix Cert.Pow2 Cert.Amax Idealize.ShloMosaic.ValueIdx

variable (x : Vec Ideal S8x4096x4096 .bf16)

/-- What the scales are taken of. -/
def tops : FVec Ideal S8x16 .f32 :=
  mulf (Host.reduce FloatOps.maximumf (Host.absf (shapeCast _ (extf .f32 x bitsLt_bf16_f32) shapeCasts_S8x4096x4096_S8x4096x16x256)) (constant S_ .f32 0xFF800000#32) reducesTo_S8x4096x16x256_S8x16_d1_3 h_S_) (broadcastInDim S8x16 ![] bcast_S_S8x16 (constant S_ .f32 0x3B124925#32))

/-- The scale of each head. -/
def pows : FVec Ideal S8x16 .f32 :=
  Host.powf (broadcastInDim S8x16 ![] bcast_S_S8x16 (constant S_ .f32 0x40000000#32)) (select (cmpf .olt (tops x) (broadcastInDim S8x16 ![] bcast_S_S8x16 (constant S_ .f32 0x00800000#32))) (broadcastInDim S8x16 ![] bcast_S_S8x16 (id (constant S_ .f32 0x00000000#32))) (addf (minimumf (broadcastInDim S8x16 ![] bcast_S_S8x16 (id (constant S_ .f32 0x42FE0000#32))) (maximumf (broadcastInDim S8x16 ![] bcast_S_S8x16 (id (constant S_ .f32 0xC2FC0000#32))) (Host.floor (Host.divf (Host.log (tops x)) (broadcastInDim S8x16 ![] bcast_S_S8x16 (id (Host.log (constant S_ .f32 0x40000000#32)))))))) (broadcastInDim S8x16 ![] bcast_S_S8x16 (constant S_ .f32 0x3F800000#32))))

/-- The result, as the reference's operations compose it. -/
def res : Vec Ideal S8x8x4096 .f32 :=
  broadcastInDim S8x8x4096 ![0, 1, 2] bcast_S8x1x4096_S8x8x4096_0_1_2 (broadcastInDim S8x1x4096 ![0, 2] bcast_S8x4096_S8x1x4096_0_2 (shapeCast _ (broadcastInDim S8x16x256 ![0, 1] bcast_S8x16_S8x16x256_0_1 (pows x)) shapeCasts_S8x16x256_S8x4096))

theorem habsf_apply {s : Shape} (x : FVec Ideal s .f32) (i : s.Idx) : Host.absf x i = mag (x i) := rfl

theorem hmax_apply {s t u : Shape} {axes : List (Fin s.rank)} (x : FVec Ideal s .f32) (init : FVec Ideal u .f32) (h : s.ReducesTo axes t)
    (hu : 0 < u.numel) (j : t.Idx) (y : EReal) (hi : init (Shape.Idx.first hu) = ⊥) :
    Host.reduce (FloatOps.maximumf (F := Ideal) (φ := .f32)) x init h hu j ≤ y ↔ ∀ i, h.drop i = j → x i ≤ y := by
  have e : Host.reduce (FloatOps.maximumf (F := Ideal) (φ := .f32)) x init h hu j
      = (Finset.univ.filter fun i => h.drop i = j).fold max (⊥ : EReal) x := by
    rw [← hi]
    exact Host.reduce_eq_fold (max : EReal → EReal → EReal) x init h hu j
  rw [e, Finset.fold_max_le]
  simp

theorem tops_apply (b : Fin 8) (h : Fin 16) : tops x (ix2 b h : S8x16.Idx) = top (Cert.VScaleValue.headMax x b h) := by
  unfold tops
  rw [mulf_apply]
  unfold top
  refine congrArg (fun z : EReal => z * Ideal.ofBits .f32 0x3B124925#32) ?_
  refine eq_of_forall_ge_iff fun y => ?_
  have hat : ∀ (s : Fin 4096) (k : Fin 256), Host.absf (F := Ideal) (shapeCast S8x4096x16x256 (extf .f32 x bitsLt_bf16_f32) shapeCasts_S8x4096x4096_S8x4096x16x256) (ix4 b s h k : S8x4096x16x256.Idx)
      = mag (x (ix3 b s ⟨h.val * 256 + k.val, by have := h.isLt; have := k.isLt; omega⟩ : S8x4096x4096.Idx)) := by
    intro s k
    rw [habsf_apply]
    refine congrArg mag ?_
    refine (shapeCast_apply _ _ (ix4 b s h k : S8x4096x16x256.Idx)
      (ix3 b s ⟨h.val * 256 + k.val, by have := h.isLt; have := k.isLt; omega⟩ : S8x4096x4096.Idx) (by
      rw [rm3, rm4]
      show (b.val * 4096 + s.val) * 4096 + (h.val * 256 + k.val) = ((b.val * 4096 + s.val) * 16 + h.val) * 256 + k.val
      omega)).trans ?_
    rw [extf_apply]
  refine (hmax_apply _ _ _ _ _ y ofBits_ninf).trans ?_
  unfold Cert.VScaleValue.headMax
  simp only [Finset.sup_le_iff]
  constructor
  · intro hh s _ k _
    rw [← hat]
    refine hh _ (funext fun a => ?_)
    match a with
    | ⟨0, _⟩ => rfl
    | ⟨1, _⟩ => rfl
  · intro hh i hi
    obtain ⟨b', s, h', k, rfl⟩ : ∃ (b' : Fin 8) (s : Fin 4096) (h' : Fin 16) (k : Fin 256), i = (ix4 b' s h' k : S8x4096x16x256.Idx) :=
      ⟨i 0, i 1, i 2, i 3, eq_ix4 i⟩
    obtain rfl : b' = b := congrFun hi 0
    obtain rfl : h' = h := congrFun hi 1
    refine (le_of_eq (hat s k)).trans (hh s (Finset.mem_univ _) k (Finset.mem_univ _))

/-- The host's exponent and power, elementwise. -/
theorem power_apply (v : FVec Ideal S8x16 .f32) (i : S8x16.Idx) : (Host.powf (broadcastInDim S8x16 ![] bcast_S_S8x16 (constant S_ .f32 0x40000000#32)) (select (cmpf .olt v (broadcastInDim S8x16 ![] bcast_S_S8x16 (constant S_ .f32 0x00800000#32))) (broadcastInDim S8x16 ![] bcast_S_S8x16 (id (constant S_ .f32 0x00000000#32))) (addf (minimumf (broadcastInDim S8x16 ![] bcast_S_S8x16 (id (constant S_ .f32 0x42FE0000#32))) (maximumf (broadcastInDim S8x16 ![] bcast_S_S8x16 (id (constant S_ .f32 0xC2FC0000#32))) (Host.floor (Host.divf (Host.log v) (broadcastInDim S8x16 ![] bcast_S_S8x16 (id (Host.log (constant S_ .f32 0x40000000#32)))))))) (broadcastInDim S8x16 ![] bcast_S_S8x16 (constant S_ .f32 0x3F800000#32))))) i = scale (v i) :=
  (show _ = Ideal.pow (Ideal.ofBits .f32 0x40000000#32) (refExp (v i)) from rfl).trans (pow_refExp _)

theorem res_eq : res x = Cert.VScaleValue.scales x := by
  funext i
  obtain ⟨b, r, q, rfl⟩ : ∃ (b : Fin 8) (r : Fin 8) (q : Fin 4096), i = (ix3 b r q : S8x8x4096.Idx) :=
    ⟨i 0, i 1, i 2, eq_ix3 i⟩
  have hq := q.isLt
  unfold res
  refine (broadcastInDim_apply _ _ _ (ix3 b r q : S8x8x4096.Idx) (ix3 b 0 q : S8x1x4096.Idx)
    (fun a => match a with | ⟨0, _⟩ => rfl | ⟨1, _⟩ => rfl | ⟨2, _⟩ => rfl)).trans ?_
  refine (broadcastInDim_apply _ _ _ (ix3 b 0 q : S8x1x4096.Idx) (ix2 b q : S8x4096.Idx)
    (fun a => match a with | ⟨0, _⟩ => rfl | ⟨1, _⟩ => rfl)).trans ?_
  refine (shapeCast_apply _ _ (ix2 b q : S8x4096.Idx) (ix3 b ⟨q.val / 256, by omega⟩ ⟨q.val % 256, by omega⟩ : S8x16x256.Idx) (by
    rw [rm2, rm3]
    show (b.val * 16 + q.val / 256) * 256 + q.val % 256 = b.val * 4096 + q.val
    omega)).trans ?_
  refine (broadcastInDim_apply _ _ _ (ix3 b ⟨q.val / 256, by omega⟩ ⟨q.val % 256, by omega⟩ : S8x16x256.Idx)
    (ix2 b ⟨q.val / 256, by omega⟩ : S8x16.Idx)
    (fun a => match a with | ⟨0, _⟩ => rfl | ⟨1, _⟩ => rfl)).trans ?_
  unfold pows
  rw [power_apply, tops_apply]
  rfl

end Cert.VScaleRef

end
-- ==== Proof.QuantClaims.lean ====
module

public import proofs.«01_k».proof.Defs
public import proofs.«01_k».proof.Proof.QKQuantValue
public import proofs.«01_k».proof.Proof.VQuantValue
public import proofs.«01_k».proof.Proof.VScaleRef
public import Idealize.ShloMosaic.Adequacy
public import Idealize.ShloMosaic.Init

@[expose] public section

/-!
# The claims about the three quantisers

Each kernel and its reference, run from equal arguments, end with equal results.
-/

noncomputable section

namespace Cert.QuantClaims

open Idealize.ShloMosaic Idealize.ShloMosaic.TcCoe Idealize.SL.Sem

theorem algebraic_qk : Cert.algebraic_QKQuantIdeal_QKQuantRefIdeal := by
  intro m ρ m' ρ' _ hag
  refine ⟨fun c => Cert.QKQuantValue.R1 (m ((c.tc : Thread Cert.QKQuantIdeal.nD Cert.QKQuantIdeal.τ).loc Cert.QKQuantIdeal.main_arg0)),
    fun c => Cert.QKQuantValue.R2 (m ((c.tc : Thread Cert.QKQuantIdeal.nD Cert.QKQuantIdeal.τ).loc Cert.QKQuantIdeal.main_arg0)),
    fun c => Cert.QKQuantValue.R3 (m ((c.tc : Thread Cert.QKQuantIdeal.nD Cert.QKQuantIdeal.τ).loc Cert.QKQuantIdeal.main_arg0)), ?_, ?_⟩
  · refine (θ_run _ _ _).mono (fun r h c => ?_) (Cert.QKQuantIdeal.Value.run_blocks (F := Ideal) m ρ)
    obtain ⟨h1, h2, h3, h4⟩ := h c
    exact ⟨h1.trans (Cert.QKQuantValue.final1 m c), h2.trans (Cert.QKQuantValue.final2 m c), h3.trans (Cert.QKQuantValue.final3 m c), h4⟩
  · refine (θ_run _ _ _).mono (fun r h c => ?_) (Cert.QKQuantRefIdeal.Value.run (F := Ideal) m' ρ')
    obtain ⟨h1, h2, h3, h4⟩ := h c
    have e := hag c
    exact ⟨h1.trans (congrArg Cert.QKQuantValue.R1 e), h2.trans (congrArg Cert.QKQuantValue.R2 e), h3.trans (congrArg Cert.QKQuantValue.R3 e), h4⟩

theorem algebraic_vquant : Cert.algebraic_VQuantIdeal_VQuantRefIdeal := by
  intro m ρ m' ρ' _ hag
  refine ⟨fun c => Cert.VQuantValue.codes (m ((c.tc : Thread Cert.VQuantIdeal.nD Cert.VQuantIdeal.τ).loc Cert.VQuantIdeal.main_arg0))
    (m ((c.tc : Thread Cert.VQuantIdeal.nD Cert.VQuantIdeal.τ).loc Cert.VQuantIdeal.main_arg1)), ?_, ?_⟩
  · refine (θ_run _ _ _).mono (fun r h c => ?_) (Cert.VQuantIdeal.Value.run_blocks (F := Ideal) m ρ)
    obtain ⟨h1, h2⟩ := h c
    exact ⟨h1.trans (Cert.VQuantValue.final m c), h2⟩
  · refine (θ_run _ _ _).mono (fun r h c => ?_) (Cert.VQuantRefIdeal.Value.run (F := Ideal) m' ρ')
    obtain ⟨h1, h2⟩ := h c
    obtain ⟨e0, e1⟩ := hag c
    refine ⟨h1.trans ((Cert.VQuantValue.ref_eq _ _).trans ?_), h2⟩
    exact congrArg₂ Cert.VQuantValue.codes e0 e1

theorem algebraic_vscale : Cert.algebraic_VScaleIdeal_VScaleRefIdeal := by
  intro m ρ m' ρ' _ hag
  refine ⟨fun c => Cert.VScaleValue.scales (m ((c.tc : Thread Cert.VScaleIdeal.nD Cert.VScaleIdeal.τ).loc Cert.VScaleIdeal.main_arg0)), ?_, ?_⟩
  · refine (θ_run _ _ _).mono (fun r h c => ?_) (Cert.VScaleIdeal.Value.run_blocks (F := Ideal) m ρ)
    obtain ⟨h1, h2⟩ := h c
    exact ⟨h1.trans (Cert.VScaleValue.final m c), h2⟩
  · refine (θ_run _ _ _).mono (fun r h c => ?_) (Cert.VScaleRefIdeal.Value.run (F := Ideal) m' ρ')
    obtain ⟨h1, h2⟩ := h c
    exact ⟨h1.trans ((Cert.VScaleRef.res_eq _).trans (congrArg Cert.VScaleValue.scales (hag c))), h2⟩

/-- The reference of the value scales runs, keeps its argument and has no counters. -/
theorem frame_vscale_ref : Cert.quiescent_VScaleRefIdeal := fun m ρ _ =>
  (θ_run _ _ _).mono (fun r h => ⟨fun c => (h c).2, Idealize.ShloMosaic.sem_eq_zero_of_no_sems (by decide) r.2⟩)
    (Cert.VScaleRefIdeal.Value.run (F := Ideal) m ρ)

end Cert.QuantClaims

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Frame
public import proofs.«01_k».proof.Proof.Gen.QKQuant
public import proofs.«01_k».proof.Proof.Gen.QKQuant.Frame
public import proofs.«01_k».proof.Proof.Gen.QKQuantIdeal
public import proofs.«01_k».proof.Proof.Gen.QKQuantIdeal.Frame
public import proofs.«01_k».proof.Proof.Gen.QKQuantRefIdeal
public import proofs.«01_k».proof.Proof.Gen.QKQuantRefIdeal.Frame
public import proofs.«01_k».proof.Proof.Gen.VScale
public import proofs.«01_k».proof.Proof.Gen.VScale.Frame
public import proofs.«01_k».proof.Proof.Gen.VScaleIdeal
public import proofs.«01_k».proof.Proof.Gen.VScaleIdeal.Frame
public import proofs.«01_k».proof.Proof.Gen.VScaleRefIdeal
public import proofs.«01_k».proof.Proof.Gen.VQuant
public import proofs.«01_k».proof.Proof.Gen.VQuant.Frame
public import proofs.«01_k».proof.Proof.Gen.VQuantIdeal
public import proofs.«01_k».proof.Proof.Gen.VQuantIdeal.Frame
public import proofs.«01_k».proof.Proof.Gen.VQuantRefIdeal
public import proofs.«01_k».proof.Proof.Gen.VQuantRefIdeal.Frame
public import proofs.«01_k».proof.Proof.Gen.Attn.Loops
public import proofs.«01_k».proof.Proof.Gen.AttnIdeal.Loops
public import proofs.«01_k».proof.Proof.Gen.AttnRefIdeal.Value
public import proofs.«01_k».proof.Proof.Gen.QKQuantIdeal.Value
public import proofs.«01_k».proof.Proof.Gen.QKQuantRefIdeal.Value
public import proofs.«01_k».proof.Proof.Gen.VScaleIdeal.Value
public import proofs.«01_k».proof.Proof.Gen.VScaleRefIdeal.Run
public import proofs.«01_k».proof.Proof.Gen.VQuantIdeal.Value
public import proofs.«01_k».proof.Proof.Gen.VQuantRefIdeal.Value
public import proofs.«01_k».proof.Proof.Gen.Pre_scales_positive
public import proofs.«01_k».proof.Proof.AttnFrame
public import proofs.«01_k».proof.Proof.AttnIdealFrame
public import proofs.«01_k».proof.Proof.AttnClaims
public import proofs.«01_k».proof.Proof.QuantClaims
public import Idealize.ShloMosaic.Adequacy
public import Idealize.ShloMosaic.Init

@[expose] public section

noncomputable section

namespace Cert.Proof

open Idealize.ShloMosaic Idealize.SL.Sem

theorem claim : Cert.Claim := ⟨Cert.Attn.Gen.facts,
  Cert.AttnIdeal.Gen.facts,
  Cert.AttnRefIdeal.Gen.facts,
  Cert.QKQuant.Gen.facts,
  Cert.QKQuantIdeal.Gen.facts,
  Cert.QKQuantRefIdeal.Gen.facts,
  Cert.VScale.Gen.facts,
  Cert.VScaleIdeal.Gen.facts,
  Cert.VScaleRefIdeal.Gen.facts,
  Cert.VQuant.Gen.facts,
  Cert.VQuantIdeal.Gen.facts,
  Cert.VQuantRefIdeal.Gen.facts,
  Cert.Pre_scales_positive.Gen.facts,
  fun m ρ _ => Cert.AttnFrame.frame m ρ,
  fun m ρ _ => Cert.AttnIdealFrame.frame m ρ,
  fun m ρ _ => Cert.AttnIdealFrame.frame m ρ,
  fun m ρ _ => Cert.AttnRefIdeal.Gen.frame m ρ,
  fun m ρ _ => Cert.QKQuant.Gen.frame m ρ,
  fun m ρ _ => Cert.QKQuantIdeal.Gen.frame m ρ,
  fun m ρ _ => Cert.QKQuantRefIdeal.Gen.frame m ρ,
  fun m ρ _ => Cert.VScale.Gen.frame m ρ,
  fun m ρ _ => Cert.VScaleIdeal.Gen.frame m ρ,
  Cert.QuantClaims.frame_vscale_ref,
  fun m ρ _ => Cert.VQuant.Gen.frame m ρ,
  fun m ρ _ => Cert.VQuantIdeal.Gen.frame m ρ,
  fun m ρ _ => Cert.VQuantRefIdeal.Gen.frame m ρ,
  Cert.AttnClaims.preserves,
  Cert.AttnClaims.algebraic,
  trivial,
  Cert.QuantClaims.algebraic_qk,
  trivial,
  Cert.QuantClaims.algebraic_vscale,
  trivial,
  Cert.QuantClaims.algebraic_vquant⟩

end Cert.Proof

end
